-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_scores_finite [hPre_scores_finite : Cert.Pre_scores_finite.Facts] (m : (ℓ : Loc Cert.GqaIdeal.nD Cert.GqaIdeal.τ Cert.GqaIdeal.sig) → Buf (Elt Ideal) ℓ) : Prop :=
  ∀ c : Dev Cert.GqaIdeal.nD,
    (Cert.Pre_scores_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_scores_finite [hPre_scores_finite : Cert.Pre_scores_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_scores_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_rule_finite [hPre_rule_finite : Cert.Pre_rule_finite.Facts] (m : (ℓ : Loc Cert.MergeIdeal.nD Cert.MergeIdeal.τ Cert.MergeIdeal.sig) → Buf (Elt Ideal) ℓ) : Prop :=
  ∀ c : Dev Cert.MergeIdeal.nD,
    (Cert.Pre_rule_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_rule_finite [hPre_rule_finite : Cert.Pre_rule_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_rule_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_finite [hPre_proj_finite : Cert.Pre_proj_finite.Facts] (m : (ℓ : Loc Cert.ProjIdeal.nD Cert.ProjIdeal.τ Cert.ProjIdeal.sig) → Buf (Elt Ideal) ℓ) : Prop :=
  ∀ c : Dev Cert.ProjIdeal.nD,
    (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_finite [hPre_proj_finite : Cert.Pre_proj_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))) = (fun _ => 1#1)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_scores_finite [hGqaIdeal : Cert.GqaIdeal.Facts] [hPre_scores_finite : Cert.Pre_scores_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_scores_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_scores_finite [hGqaRefIdeal : Cert.GqaRefIdeal.Facts] [hPre_scores_finite : Cert.Pre_scores_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_scores_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeIdeal_pre_rule_finite [hMergeIdeal : Cert.MergeIdeal.Facts] [hPre_rule_finite : Cert.Pre_rule_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_rule_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_MergeRefIdeal_pre_rule_finite [hMergeRefIdeal : Cert.MergeRefIdeal.Facts] [hPre_rule_finite : Cert.Pre_rule_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_rule_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjIdeal_pre_proj_finite [hProjIdeal : Cert.ProjIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_ProjRefIdeal_pre_proj_finite [hProjRefIdeal : Cert.ProjRefIdeal.Facts] [hPre_proj_finite : Cert.Pre_proj_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def preserves_Gqa_GqaIdeal : Prop :=
  True

def algebraic_GqaIdeal_GqaRefIdeal_pre_scores_finite [hGqaIdeal : Cert.GqaIdeal.Facts] [hGqaRefIdeal : Cert.GqaRefIdeal.Facts] [hPre_scores_finite : Cert.Pre_scores_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_scores_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v25)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v25) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v19) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v45) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Merge_MergeIdeal : Prop :=
  True

def algebraic_MergeIdeal_MergeRefIdeal_pre_rule_finite [hMergeIdeal : Cert.MergeIdeal.Facts] [hMergeRefIdeal : Cert.MergeRefIdeal.Facts] [hPre_rule_finite : Cert.Pre_rule_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_rule_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v80) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Proj_ProjIdeal : Prop :=
  True

def algebraic_ProjIdeal_ProjRefIdeal_pre_proj_finite [hProjIdeal : Cert.ProjIdeal.Facts] [hProjRefIdeal : Cert.ProjRefIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v79_0)) (v1 : (c : Dev Cert.ProjIdeal.nD) → Buf (Elt Ideal) ((c.tc : Thread Cert.ProjIdeal.nD Cert.ProjIdeal.τ).loc Cert.ProjIdeal.main_v79_1)) (v2 : (c : Dev Cert.ProjIdeal.nD) → Buf (Elt Ideal) ((c.tc : Thread Cert.ProjIdeal.nD Cert.ProjIdeal.τ).loc Cert.ProjIdeal.main_v79_2)) (v3 : (c : Dev Cert.ProjIdeal.nD) → Buf (Elt Ideal) ((c.tc : Thread Cert.ProjIdeal.nD Cert.ProjIdeal.τ).loc Cert.ProjIdeal.main_v79_3)) (v4 : (c : Dev Cert.ProjIdeal.nD) → Buf (Elt Ideal) ((c.tc : Thread Cert.ProjIdeal.nD Cert.ProjIdeal.τ).loc Cert.ProjIdeal.main_v79_4)) (v5 : (c : Dev Cert.ProjIdeal.nD) → Buf (Elt Ideal) ((c.tc : Thread Cert.ProjIdeal.nD Cert.ProjIdeal.τ).loc Cert.ProjIdeal.main_v79_5)) (v6 : (c : Dev Cert.ProjIdeal.nD) → Buf (Elt Ideal) ((c.tc : Thread Cert.ProjIdeal.nD Cert.ProjIdeal.τ).loc Cert.ProjIdeal.main_v79_6)) (v7 : (c : Dev Cert.ProjIdeal.nD) → Buf (Elt Ideal) ((c.tc : Thread Cert.ProjIdeal.nD Cert.ProjIdeal.τ).loc Cert.ProjIdeal.main_v79_7)) (v8 : (c : Dev Cert.ProjIdeal.nD) → Buf (Elt Ideal) ((c.tc : Thread Cert.ProjIdeal.nD Cert.ProjIdeal.τ).loc Cert.ProjIdeal.main_v79_8)) (v9 : (c : Dev Cert.ProjIdeal.nD) → Buf (Elt Ideal) ((c.tc : Thread Cert.ProjIdeal.nD Cert.ProjIdeal.τ).loc Cert.ProjIdeal.main_v79_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v79_0) = v0 c
          ∧ r.2.mem ((c.tc : Thread Cert.ProjIdeal.nD Cert.ProjIdeal.τ).loc Cert.ProjIdeal.main_v79_1) = v1 c
          ∧ r.2.mem ((c.tc : Thread Cert.ProjIdeal.nD Cert.ProjIdeal.τ).loc Cert.ProjIdeal.main_v79_2) = v2 c
          ∧ r.2.mem ((c.tc : Thread Cert.ProjIdeal.nD Cert.ProjIdeal.τ).loc Cert.ProjIdeal.main_v79_3) = v3 c
          ∧ r.2.mem ((c.tc : Thread Cert.ProjIdeal.nD Cert.ProjIdeal.τ).loc Cert.ProjIdeal.main_v79_4) = v4 c
          ∧ r.2.mem ((c.tc : Thread Cert.ProjIdeal.nD Cert.ProjIdeal.τ).loc Cert.ProjIdeal.main_v79_5) = v5 c
          ∧ r.2.mem ((c.tc : Thread Cert.ProjIdeal.nD Cert.ProjIdeal.τ).loc Cert.ProjIdeal.main_v79_6) = v6 c
          ∧ r.2.mem ((c.tc : Thread Cert.ProjIdeal.nD Cert.ProjIdeal.τ).loc Cert.ProjIdeal.main_v79_7) = v7 c
          ∧ r.2.mem ((c.tc : Thread Cert.ProjIdeal.nD Cert.ProjIdeal.τ).loc Cert.ProjIdeal.main_v79_8) = v8 c
          ∧ r.2.mem ((c.tc : Thread Cert.ProjIdeal.nD Cert.ProjIdeal.τ).loc Cert.ProjIdeal.main_v79_9) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v184) = v0 c
          ∧ r.2.mem ((c.tc : Thread Cert.ProjRefIdeal.nD Cert.ProjRefIdeal.τ).loc Cert.ProjRefIdeal.main_v185) = v1 c
          ∧ r.2.mem ((c.tc : Thread Cert.ProjRefIdeal.nD Cert.ProjRefIdeal.τ).loc Cert.ProjRefIdeal.main_v187) = v2 c
          ∧ r.2.mem ((c.tc : Thread Cert.ProjRefIdeal.nD Cert.ProjRefIdeal.τ).loc Cert.ProjRefIdeal.main_v191) = v3 c
          ∧ r.2.mem ((c.tc : Thread Cert.ProjRefIdeal.nD Cert.ProjRefIdeal.τ).loc Cert.ProjRefIdeal.main_v192) = v4 c
          ∧ r.2.mem ((c.tc : Thread Cert.ProjRefIdeal.nD Cert.ProjRefIdeal.τ).loc Cert.ProjRefIdeal.main_v194) = v5 c
          ∧ r.2.mem ((c.tc : Thread Cert.ProjRefIdeal.nD Cert.ProjRefIdeal.τ).loc Cert.ProjRefIdeal.main_v195) = v6 c
          ∧ r.2.mem ((c.tc : Thread Cert.ProjRefIdeal.nD Cert.ProjRefIdeal.τ).loc Cert.ProjRefIdeal.main_v196) = v7 c
          ∧ r.2.mem ((c.tc : Thread Cert.ProjRefIdeal.nD Cert.ProjRefIdeal.τ).loc Cert.ProjRefIdeal.main_v197) = v8 c
          ∧ r.2.mem ((c.tc : Thread Cert.ProjRefIdeal.nD Cert.ProjRefIdeal.τ).loc Cert.ProjRefIdeal.main_v198) = v9 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def Claim : Prop :=
  ∃ (hGqa : Cert.Gqa.Facts) (hGqaIdeal : Cert.GqaIdeal.Facts) (hGqaRefIdeal : Cert.GqaRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPre_scores_finite : Cert.Pre_scores_finite.Facts) (hPre_rule_finite : Cert.Pre_rule_finite.Facts) (hPre_proj_finite : Cert.Pre_proj_finite.Facts),
    quiescent_Gqa (hGqa := hGqa)
    ∧ quiescent_GqaIdeal (hGqaIdeal := hGqaIdeal)
    ∧ quiescent_GqaIdeal_pre_scores_finite (hGqaIdeal := hGqaIdeal) (hPre_scores_finite := hPre_scores_finite)
    ∧ quiescent_GqaRefIdeal (hGqaRefIdeal := hGqaRefIdeal)
    ∧ quiescent_GqaRefIdeal_pre_scores_finite (hGqaRefIdeal := hGqaRefIdeal) (hPre_scores_finite := hPre_scores_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeIdeal_pre_rule_finite (hMergeIdeal := hMergeIdeal) (hPre_rule_finite := hPre_rule_finite)
    ∧ quiescent_MergeRefIdeal (hMergeRefIdeal := hMergeRefIdeal)
    ∧ quiescent_MergeRefIdeal_pre_rule_finite (hMergeRefIdeal := hMergeRefIdeal) (hPre_rule_finite := hPre_rule_finite)
    ∧ quiescent_Proj (hProj := hProj)
    ∧ quiescent_ProjIdeal (hProjIdeal := hProjIdeal)
    ∧ quiescent_ProjIdeal_pre_proj_finite (hProjIdeal := hProjIdeal) (hPre_proj_finite := hPre_proj_finite)
    ∧ quiescent_ProjRefIdeal (hProjRefIdeal := hProjRefIdeal)
    ∧ quiescent_ProjRefIdeal_pre_proj_finite (hProjRefIdeal := hProjRefIdeal) (hPre_proj_finite := hPre_proj_finite)
    ∧ preserves_Gqa_GqaIdeal
    ∧ algebraic_GqaIdeal_GqaRefIdeal_pre_scores_finite (hGqaIdeal := hGqaIdeal) (hGqaRefIdeal := hGqaRefIdeal) (hPre_scores_finite := hPre_scores_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal_pre_rule_finite (hMergeIdeal := hMergeIdeal) (hMergeRefIdeal := hMergeRefIdeal) (hPre_rule_finite := hPre_rule_finite)
    ∧ preserves_Proj_ProjIdeal
    ∧ algebraic_ProjIdeal_ProjRefIdeal_pre_proj_finite (hProjIdeal := hProjIdeal) (hProjRefIdeal := hProjRefIdeal) (hPre_proj_finite := hPre_proj_finite)
-- ==== Pre_proj_finite.lean ====
abbrev S81920x1024 : Shape := ⟨2, ![81920, 1024]⟩
abbrev S1024x4384 : Shape := ⟨2, ![1024, 4384]⟩
abbrev S64 : Shape := ⟨1, ![64]⟩
abbrev S3x1536 : Shape := ⟨2, ![3, 1536]⟩
abbrev S2x8 : Shape := ⟨2, ![2, 8]⟩
abbrev S_ : Shape := ⟨0, ![]⟩

class Facts : Prop where
  bcast_S_S81920x1024 : S_.BroadcastsInDim S81920x1024 (![] : Fin 0 → Fin S81920x1024.rank)
  reducesTo_S81920x1024_S_d0_1 : S81920x1024.ReducesTo [0, 1] S_
  h_S_ : 0 < S_.numel
  bcast_S_S1024x4384 : S_.BroadcastsInDim S1024x4384 (![] : Fin 0 → Fin S1024x4384.rank)
  reducesTo_S1024x4384_S_d0_1 : S1024x4384.ReducesTo [0, 1] S_
  bcast_S_S3x1536 : S_.BroadcastsInDim S3x1536 (![] : Fin 0 → Fin S3x1536.rank)
  reducesTo_S3x1536_S_d0_1 : S3x1536.ReducesTo [0, 1] S_

variable [Facts]

def fn {F : FTy → Type} [FloatOps F] (main_arg0 : FVec F S81920x1024 .f32) (main_arg1 : FVec F S1024x4384 .f32) (main_arg2 : FVec F S64 .f32) (main_arg3 : FVec F S64 .f32) (main_arg4 : FVec F S3x1536 .f32) (main_arg5 : FVec F S2x8 .f32) (main_arg6 : FVec F S2x8 .f32) : IVec S_ 1 :=
  let main_v0 : FVec F S81920x1024 .f32 := Host.absf main_arg0
  let main_cst : FVec F S_ .f32 := constant S_ .f32 0x7F800000#32
  let main_v1 : FVec F S81920x1024 .f32 := broadcastInDim S81920x1024 ![] bcast_S_S81920x1024 main_cst
  let main_v2 : IVec S81920x1024 1 := cmpf .olt main_v0 main_v1
  let main_c : IVec S_ 1 := constantI S_ 1 1#1
  let main_v3 : IVec S_ 1 := (fun x v => Host.reduce IntOp.andi x v reducesTo_S81920x1024_S_d0_1 h_S_) main_v2 main_c
  let main_v4 : FVec F S1024x4384 .f32 := Host.absf main_arg1
  let main_cst_0 : FVec F S_ .f32 := constant S_ .f32 0x7F800000#32
  let main_v5 : FVec F S1024x4384 .f32 := broadcastInDim S1024x4384 ![] bcast_S_S1024x4384 main_cst_0
  let main_v6 : IVec S1024x4384 1 := cmpf .olt main_v4 main_v5
  let main_c_1 : IVec S_ 1 := constantI S_ 1 1#1
  let main_v7 : IVec S_ 1 := (fun x v => Host.reduce IntOp.andi x v reducesTo_S1024x4384_S_d0_1 h_S_) main_v6 main_c_1
  let main_v8 : IVec S_ 1 := andi main_v3 main_v7
  let main_v9 : FVec F S3x1536 .f32 := Host.absf main_arg4
  let main_cst_2 : FVec F S_ .f32 := constant S_ .f32 0x7F800000#32
  let main_v10 : FVec F S3x1536 .f32 := broadcastInDim S3x1536 ![] bcast_S_S3x1536 main_cst_2
  let main_v11 : IVec S3x1536 1 := cmpf .olt main_v9 main_v10
  let main_c_3 : IVec S_ 1 := constantI S_ 1 1#1
  let main_v12 : IVec S_ 1 := (fun x v => Host.reduce IntOp.andi x v reducesTo_S3x1536_S_d0_1 h_S_) main_v11 main_c_3
  let main_v13 : IVec S_ 1 := andi main_v8 main_v12
  main_v13
-- ==== Pre_rule_finite.lean ====
abbrev S81920x1024 : Shape := ⟨2, ![81920, 1024]⟩
abbrev S81920x512 : Shape := ⟨2, ![81920, 512]⟩
abbrev S2x81920x512 : Shape := ⟨3, ![2, 81920, 512]⟩
abbrev S1024x3072 : Shape := ⟨2, ![1024, 3072]⟩
abbrev S3072 : Shape := ⟨1, ![3072]⟩
abbrev S3x512x1024 : Shape := ⟨3, ![3, 512, 1024]⟩
abbrev S1024x1024 : Shape := ⟨2, ![1024, 1024]⟩
abbrev S64 : Shape := ⟨1, ![64]⟩
abbrev S1024 : Shape := ⟨1, ![1024]⟩
abbrev S_ : Shape := ⟨0, ![]⟩

class Facts : Prop where
  bcast_S_S2x81920x512 : S_.BroadcastsInDim S2x81920x512 (![] : Fin 0 → Fin S2x81920x512.rank)
  reducesTo_S2x81920x512_S_d0_1_2 : S2x81920x512.ReducesTo [0, 1, 2] S_
  h_S_ : 0 < S_.numel

variable [Facts]

def fn {F : FTy → Type} [FloatOps F] (main_arg0 : FVec F S81920x1024 .f32) (main_arg1 : FVec F S81920x512 .bf16) (main_arg2 : FVec F S81920x512 .bf16) (main_arg3 : FVec F S2x81920x512 .f32) (main_arg4 : FVec F S81920x512 .f32) (main_arg5 : FVec F S1024x3072 .f32) (main_arg6 : FVec F S3072 .f32) (main_arg7 : FVec F S3x512x1024 .f32) (main_arg8 : FVec F S1024x1024 .f32) (main_arg9 : FVec F S64 .f32) (main_arg10 : FVec F S1024 .f32) (main_arg11 : FVec F S1024 .f32) : IVec S_ 1 :=
  let main_v0 : FVec F S2x81920x512 .f32 := Host.absf main_arg3
  let main_cst : FVec F S_ .f32 := constant S_ .f32 0x7F800000#32
  let main_v1 : FVec F S2x81920x512 .f32 := broadcastInDim S2x81920x512 ![] bcast_S_S2x81920x512 main_cst
  let main_v2 : IVec S2x81920x512 1 := cmpf .olt main_v0 main_v1
  let main_c : IVec S_ 1 := constantI S_ 1 1#1
  let main_v3 : IVec S_ 1 := (fun x v => Host.reduce IntOp.andi x v reducesTo_S2x81920x512_S_d0_1_2 h_S_) main_v2 main_c
  main_v3
-- ==== Pre_scores_finite.lean ====
abbrev S10x8192x8x64 : Shape := ⟨4, ![10, 8192, 8, 64]⟩
abbrev S10x8192x2x64 : Shape := ⟨4, ![10, 8192, 2, 64]⟩
abbrev S_ : Shape := ⟨0, ![]⟩

class Facts : Prop where
  bcast_S_S10x8192x8x64 : S_.BroadcastsInDim S10x8192x8x64 (![] : Fin 0 → Fin S10x8192x8x64.rank)
  reducesTo_S10x8192x8x64_S_d0_1_2_3 : S10x8192x8x64.ReducesTo [0, 1, 2, 3] S_
  h_S_ : 0 < S_.numel
  bcast_S_S10x8192x2x64 : S_.BroadcastsInDim S10x8192x2x64 (![] : Fin 0 → Fin S10x8192x2x64.rank)
  reducesTo_S10x8192x2x64_S_d0_1_2_3 : S10x8192x2x64.ReducesTo [0, 1, 2, 3] S_

variable [Facts]

def fn {F : FTy → Type} [FloatOps F] (main_arg0 : FVec F S10x8192x8x64 .f32) (main_arg1 : FVec F S10x8192x2x64 .f32) (main_arg2 : FVec F S10x8192x2x64 .f32) : IVec S_ 1 :=
  let main_v0 : FVec F S10x8192x8x64 .f32 := Host.absf main_arg0
  let main_cst : FVec F S_ .f32 := constant S_ .f32 0x7F800000#32
  let main_v1 : FVec F S10x8192x8x64 .f32 := broadcastInDim S10x8192x8x64 ![] bcast_S_S10x8192x8x64 main_cst
  let main_v2 : IVec S10x8192x8x64 1 := cmpf .olt main_v0 main_v1
  let main_c : IVec S_ 1 := constantI S_ 1 1#1
  let main_v3 : IVec S_ 1 := (fun x v => Host.reduce IntOp.andi x v reducesTo_S10x8192x8x64_S_d0_1_2_3 h_S_) main_v2 main_c
  let main_v4 : FVec F S10x8192x2x64 .f32 := Host.absf main_arg1
  let main_cst_0 : FVec F S_ .f32 := constant S_ .f32 0x7F800000#32
  let main_v5 : FVec F S10x8192x2x64 .f32 := broadcastInDim S10x8192x2x64 ![] bcast_S_S10x8192x2x64 main_cst_0
  let main_v6 : IVec S10x8192x2x64 1 := cmpf .olt main_v4 main_v5
  let main_c_1 : IVec S_ 1 := constantI S_ 1 1#1
  let main_v7 : IVec S_ 1 := (fun x v => Host.reduce IntOp.andi x v reducesTo_S10x8192x2x64_S_d0_1_2_3 h_S_) main_v6 main_c_1
  let main_v8 : IVec S_ 1 := andi main_v3 main_v7
  main_v8
-- ==== Gqa.lean ====
abbrev S10x8192x8x64 : Shape := ⟨4, ![10, 8192, 8, 64]⟩
abbrev S10x8192x2x64 : Shape := ⟨4, ![10, 8192, 2, 64]⟩
abbrev S10x8192x512 : Shape := ⟨3, ![10, 8192, 512]⟩
abbrev S_ : Shape := ⟨0, ![]⟩
abbrev S10x8192x1x64 : Shape := ⟨4, ![10, 8192, 1, 64]⟩
abbrev S10x8192x64 : Shape := ⟨3, ![10, 8192, 64]⟩
abbrev S10x8192x256 : Shape := ⟨3, ![10, 8192, 256]⟩
abbrev S10x256x8192 : Shape := ⟨3, ![10, 256, 8192]⟩
abbrev S1x64x512 : Shape := ⟨3, ![1, 64, 512]⟩
abbrev S1x256x8192 : Shape := ⟨3, ![1, 256, 8192]⟩
abbrev S1x8192x256 : Shape := ⟨3, ![1, 8192, 256]⟩
abbrev S64x128 : Shape := ⟨2, ![64, 128]⟩
abbrev S1x64x128 : Shape := ⟨3, ![1, 64, 128]⟩
abbrev S256x128 : Shape := ⟨2, ![256, 128]⟩
abbrev S1x128x8192 : Shape := ⟨3, ![1, 128, 8192]⟩
abbrev S128x8192 : Shape := ⟨2, ![128, 8192]⟩
abbrev S256x8192 : Shape := ⟨2, ![256, 8192]⟩
abbrev S256 : Shape := ⟨1, ![256]⟩
abbrev S256x1 : Shape := ⟨2, ![256, 1]⟩
abbrev S1x8192x128 : Shape := ⟨3, ![1, 8192, 128]⟩
abbrev S8192x128 : Shape := ⟨2, ![8192, 128]⟩

abbrev nBuf : Space → Nat
  | .hbm => 30
  | .vmem => 8
  | .smem => 0
  | _ => 0

abbrev bufTy : (tb : Table) → Fin (tcTables nBuf tb) → BufTy
  | .hbm, ⟨0, _⟩ => ⟨S10x8192x8x64, .f32⟩
  | .hbm, ⟨1, _⟩ => ⟨S10x8192x2x64, .f32⟩
  | .hbm, ⟨2, _⟩ => ⟨S10x8192x2x64, .f32⟩
  | .hbm, ⟨3, _⟩ => ⟨S10x8192x512, .f32⟩
  | .hbm, ⟨4, _⟩ => ⟨S_, .f32⟩
  | .hbm, ⟨5, _⟩ => ⟨S10x8192x512, .f32⟩
  | .hbm, ⟨6, _⟩ => ⟨S10x8192x512, .f32⟩
  | .hbm, ⟨7, _⟩ => ⟨S10x8192x512, .bf16⟩
  | .hbm, ⟨8, _⟩ => ⟨S10x8192x1x64, .f32⟩
  | .hbm, ⟨9, _⟩ => ⟨S10x8192x64, .f32⟩
  | .hbm, ⟨10, _⟩ => ⟨S10x8192x1x64, .f32⟩
  | .hbm, ⟨11, _⟩ => ⟨S10x8192x64, .f32⟩
  | .hbm, ⟨12, _⟩ => ⟨S10x8192x1x64, .f32⟩
  | .hbm, ⟨13, _⟩ => ⟨S10x8192x64, .f32⟩
  | .hbm, ⟨14, _⟩ => ⟨S10x8192x1x64, .f32⟩
  | .hbm, ⟨15, _⟩ => ⟨S10x8192x64, .f32⟩
  | .hbm, ⟨16, _⟩ => ⟨S10x8192x256, .f32⟩
  | .hbm, ⟨17, _⟩ => ⟨S10x256x8192, .f32⟩
  | .hbm, ⟨18, _⟩ => ⟨S10x256x8192, .bf16⟩
  | .hbm, ⟨19, _⟩ => ⟨S10x8192x1x64, .f32⟩
  | .hbm, ⟨20, _⟩ => ⟨S10x8192x64, .f32⟩
  | .hbm, ⟨21, _⟩ => ⟨S10x8192x1x64, .f32⟩
  | .hbm, ⟨22, _⟩ => ⟨S10x8192x64, .f32⟩
  | .hbm, ⟨23, _⟩ => ⟨S10x8192x1x64, .f32⟩
  | .hbm, ⟨24, _⟩ => ⟨S10x8192x64, .f32⟩
  | .hbm, ⟨25, _⟩ => ⟨S10x8192x1x64, .f32⟩
  | .hbm, ⟨26, _⟩ => ⟨S10x8192x64, .f32⟩
  | .hbm, ⟨27, _⟩ => ⟨S10x8192x256, .f32⟩
  | .hbm, ⟨28, _⟩ => ⟨S10x8192x256, .bf16⟩
  | .hbm, ⟨29, _⟩ => ⟨S10x8192x512, .bf16⟩
  | .local _ .vmem, ⟨0, _⟩ => ⟨S1x64x512, .bf16⟩
  | .local _ .vmem, ⟨1, _⟩ => ⟨S1x64x512, .bf16⟩
  | .local _ .vmem, ⟨2, _⟩ => ⟨S1x256x8192, .bf16⟩
  | .local _ .vmem, ⟨3, _⟩ => ⟨S1x256x8192, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x64x512, .bf16⟩
  | .local _ .vmem, ⟨7, _⟩ => ⟨S1x64x512, .bf16⟩
  | _, _ => ⟨S10x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![10, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GqaRefIdeal.lean ====
abbrev S10x8192x8x64 : Shape := ⟨4, ![10, 8192, 8, 64]⟩
abbrev S10x8192x2x64 : Shape := ⟨4, ![10, 8192, 2, 64]⟩
abbrev S10x8192x2x4x64 : Shape := ⟨5, ![10, 8192, 2, 4, 64]⟩
abbrev S10x2x8192x8192x4 : Shape := ⟨5, ![10, 2, 8192, 8192, 4]⟩
abbrev S10x2x4x8192x8192 : Shape := ⟨5, ![10, 2, 4, 8192, 8192]⟩
abbrev S_ : Shape := ⟨0, ![]⟩
abbrev S10x2x4x8192 : Shape := ⟨4, ![10, 2, 4, 8192]⟩
abbrev S10x2x4x8192x1 : Shape := ⟨5, ![10, 2, 4, 8192, 1]⟩
abbrev S10x2x64x4x8192 : Shape := ⟨5, ![10, 2, 64, 4, 8192]⟩
abbrev S10x8192x512 : Shape := ⟨3, ![10, 8192, 512]⟩

abbrev nBuf : Space → Nat
  | .hbm => 27
  | .vmem => 0
  | .smem => 0
  | _ => 0

abbrev bufTy : (tb : Table) → Fin (tcTables nBuf tb) → BufTy
  | .hbm, ⟨0, _⟩ => ⟨S10x8192x8x64, .f32⟩
  | .hbm, ⟨1, _⟩ => ⟨S10x8192x2x64, .f32⟩
  | .hbm, ⟨2, _⟩ => ⟨S10x8192x2x64, .f32⟩
  | .hbm, ⟨3, _⟩ => ⟨S10x8192x2x4x64, .f32⟩
  | .hbm, ⟨4, _⟩ => ⟨S10x2x8192x8192x4, .f32⟩
  | .hbm, ⟨5, _⟩ => ⟨S10x2x4x8192x8192, .f32⟩
  | .hbm, ⟨6, _⟩ => ⟨S_, .f32⟩
  | .hbm, ⟨7, _⟩ => ⟨S10x2x4x8192x8192, .f32⟩
  | .hbm, ⟨8, _⟩ => ⟨S10x2x4x8192x8192, .f32⟩
  | .hbm, ⟨9, _⟩ => ⟨S_, .f32⟩
  | .hbm, ⟨10, _⟩ => ⟨S10x2x4x8192, .f32⟩
  | .hbm, ⟨11, _⟩ => ⟨S_, .f32⟩
  | .hbm, ⟨12, _⟩ => ⟨S10x2x4x8192, .f32⟩
  | .hbm, ⟨13, _⟩ => ⟨S10x2x4x8192, .f32⟩
  | .hbm, ⟨14, _⟩ => ⟨S10x2x4x8192x1, .f32⟩
  | .hbm, ⟨15, _⟩ => ⟨S10x2x4x8192x8192, .f32⟩
  | .hbm, ⟨16, _⟩ => ⟨S10x2x4x8192x8192, .f32⟩
  | .hbm, ⟨17, _⟩ => ⟨S10x2x4x8192x8192, .f32⟩
  | .hbm, ⟨18, _⟩ => ⟨S_, .f32⟩
  | .hbm, ⟨19, _⟩ => ⟨S10x2x4x8192, .f32⟩
  | .hbm, ⟨20, _⟩ => ⟨S10x2x4x8192x1, .f32⟩
  | .hbm, ⟨21, _⟩ => ⟨S10x2x4x8192x8192, .f32⟩
  | .hbm, ⟨22, _⟩ => ⟨S10x2x4x8192x8192, .f32⟩
  | .hbm, ⟨23, _⟩ => ⟨S10x2x64x4x8192, .f32⟩
  | .hbm, ⟨24, _⟩ => ⟨S10x8192x2x4x64, .f32⟩
  | .hbm, ⟨25, _⟩ => ⟨S10x8192x512, .f32⟩
  | .hbm, ⟨26, _⟩ => ⟨S10x8192x512, .bf16⟩
  | _, _ => ⟨S10x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Ffn.lean ====
abbrev S81920x1024 : Shape := ⟨2, ![81920, 1024]⟩
abbrev S81920x256 : Shape := ⟨2, ![81920, 256]⟩
abbrev S1024x5632 : Shape := ⟨2, ![1024, 5632]⟩
abbrev S2816x1024 : Shape := ⟨2, ![2816, 1024]⟩
abbrev S1024x1024 : Shape := ⟨2, ![1024, 1024]⟩
abbrev S1024 : Shape := ⟨1, ![1024]⟩
abbrev S256x1024 : Shape := ⟨2, ![256, 1024]⟩
abbrev S1024x2816 : Shape := ⟨2, ![1024, 2816]⟩
abbrev S1x1024 : Shape := ⟨2, ![1, 1024]⟩
abbrev S256x256 : Shape := ⟨2, ![256, 256]⟩
abbrev S256x2816 : Shape := ⟨2, ![256, 2816]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S81920x1024, .f32⟩
  | .hbm, ⟨1, _⟩ => ⟨S81920x256, .f32⟩
  | .hbm, ⟨2, _⟩ => ⟨S1024x5632, .f32⟩
  | .hbm, ⟨3, _⟩ => ⟨S2816x1024, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .bf16⟩
  | .hbm, ⟨14, _⟩ => ⟨S1024x1024, .bf16⟩
  | .hbm, ⟨15, _⟩ => ⟨S1x1024, .f32⟩
  | .hbm, ⟨16, _⟩ => ⟨S256x1024, .bf16⟩
  | .hbm, ⟨17, _⟩ => ⟨S1x1024, .f32⟩
  | .hbm, ⟨18, _⟩ => ⟨S1x1024, .f32⟩
  | .hbm, ⟨19, _⟩ => ⟨S81920x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1024x1024, .bf16⟩
  | .local _ .vmem, ⟨8, _⟩ => ⟨S1x1024, .f32⟩
  | .local _ .vmem, ⟨9, _⟩ => ⟨S256x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnRefIdeal.lean ====
abbrev S81920x1024 : Shape := ⟨2, ![81920, 1024]⟩
abbrev S81920x256 : Shape := ⟨2, ![81920, 256]⟩
abbrev S1024x5632 : Shape := ⟨2, ![1024, 5632]⟩
abbrev S2816x1024 : Shape := ⟨2, ![2816, 1024]⟩
abbrev S1024x1024 : Shape := ⟨2, ![1024, 1024]⟩
abbrev S1024 : Shape := ⟨1, ![1024]⟩
abbrev S256x1024 : Shape := ⟨2, ![256, 1024]⟩
abbrev S81920x5632 : Shape := ⟨2, ![81920, 5632]⟩
abbrev S81920x2816 : Shape := ⟨2, ![81920, 2816]⟩
abbrev S_ : Shape := ⟨0, ![]⟩
abbrev S1x1024 : Shape := ⟨2, ![1, 1024]⟩
abbrev S81920 : Shape := ⟨1, ![81920]⟩
abbrev S81920x1 : Shape := ⟨2, ![81920, 1]⟩

abbrev nBuf : Space → Nat
  | .hbm => 71
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S81920x256, .f32⟩
  | .hbm, ⟨2, _⟩ => ⟨S1024x5632, .f32⟩
  | .hbm, ⟨3, _⟩ => ⟨S2816x1024, .f32⟩
  | .hbm, ⟨4, _⟩ => ⟨S1024x1024, .f32⟩
  | .hbm, ⟨5, _⟩ => ⟨S1024, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S81920x5632, .f32⟩
  | .hbm, ⟨10, _⟩ => ⟨S81920x2816, .f32⟩
  | .hbm, ⟨11, _⟩ => ⟨S81920x2816, .f32⟩
  | .hbm, ⟨12, _⟩ => ⟨S81920x2816, .f32⟩
  | .hbm, ⟨13, _⟩ => ⟨S81920x2816, .f32⟩
  | .hbm, ⟨14, _⟩ => ⟨S_, .f32⟩
  | .hbm, ⟨15, _⟩ => ⟨S81920x2816, .f32⟩
  | .hbm, ⟨16, _⟩ => ⟨S81920x2816, .f32⟩
  | .hbm, ⟨17, _⟩ => ⟨S_, .f32⟩
  | .hbm, ⟨18, _⟩ => ⟨S81920x2816, .f32⟩
  | .hbm, ⟨19, _⟩ => ⟨S81920x2816, .f32⟩
  | .hbm, ⟨20, _⟩ => ⟨S81920x2816, .f32⟩
  | .hbm, ⟨21, _⟩ => ⟨S81920x2816, .f32⟩
  | .hbm, ⟨22, _⟩ => ⟨S81920x1024, .f32⟩
  | .hbm, ⟨23, _⟩ => ⟨S81920x1024, .f32⟩
  | .hbm, ⟨24, _⟩ => ⟨S1x1024, .f32⟩
  | .hbm, ⟨25, _⟩ => ⟨S81920x1024, .f32⟩
  | .hbm, ⟨26, _⟩ => ⟨S81920x1024, .f32⟩
  | .hbm, ⟨27, _⟩ => ⟨S81920x1024, .f32⟩
  | .hbm, ⟨28, _⟩ => ⟨S81920x1024, .f32⟩
  | .hbm, ⟨29, _⟩ => ⟨S_, .f32⟩
  | .hbm, ⟨30, _⟩ => ⟨S81920x1024, .f32⟩
  | .hbm, ⟨31, _⟩ => ⟨S81920x1024, .f32⟩
  | .hbm, ⟨32, _⟩ => ⟨S_, .f32⟩
  | .hbm, ⟨33, _⟩ => ⟨S81920x1024, .f32⟩
  | .hbm, ⟨34, _⟩ => ⟨S81920x1024, .f32⟩
  | .hbm, ⟨35, _⟩ => ⟨S81920x1024, .f32⟩
  | .hbm, ⟨36, _⟩ => ⟨S81920x1024, .f32⟩
  | .hbm, ⟨37, _⟩ => ⟨S_, .f32⟩
  | .hbm, ⟨38, _⟩ => ⟨S81920x1024, .f32⟩
  | .hbm, ⟨39, _⟩ => ⟨S81920x1024, .f32⟩
  | .hbm, ⟨40, _⟩ => ⟨S81920x1024, .f32⟩
  | .hbm, ⟨41, _⟩ => ⟨S81920x1024, .f32⟩
  | .hbm, ⟨42, _⟩ => ⟨S_, .f32⟩
  | .hbm, ⟨43, _⟩ => ⟨S81920, .f32⟩
  | .hbm, ⟨44, _⟩ => ⟨S81920x1, .f32⟩
  | .hbm, ⟨45, _⟩ => ⟨S_, .f32⟩
  | .hbm, ⟨46, _⟩ => ⟨S81920x1, .f32⟩
  | .hbm, ⟨47, _⟩ => ⟨S81920x1, .f32⟩
  | .hbm, ⟨48, _⟩ => ⟨S81920x1024, .f32⟩
  | .hbm, ⟨49, _⟩ => ⟨S81920x1024, .f32⟩
  | .hbm, ⟨50, _⟩ => ⟨S81920x1024, .f32⟩
  | .hbm, ⟨51, _⟩ => ⟨S_, .f32⟩
  | .hbm, ⟨52, _⟩ => ⟨S81920, .f32⟩
  | .hbm, ⟨53, _⟩ => ⟨S81920x1, .f32⟩
  | .hbm, ⟨54, _⟩ => ⟨S_, .f32⟩
  | .hbm, ⟨55, _⟩ => ⟨S81920x1, .f32⟩
  | .hbm, ⟨56, _⟩ => ⟨S81920x1, .f32⟩
  | .hbm, ⟨57, _⟩ => ⟨S81920x1024, .f32⟩
  | .hbm, ⟨58, _⟩ => ⟨S81920x1024, .f32⟩
  | .hbm, ⟨59, _⟩ => ⟨S_, .f32⟩
  | .hbm, ⟨60, _⟩ => ⟨S81920x1, .f32⟩
  | .hbm, ⟨61, _⟩ => ⟨S81920x1, .f32⟩
  | .hbm, ⟨62, _⟩ => ⟨S81920x1, .f32⟩
  | .hbm, ⟨63, _⟩ => ⟨S81920x1024, .f32⟩
  | .hbm, ⟨64, _⟩ => ⟨S81920x1024, .f32⟩
  | .hbm, ⟨65, _⟩ => ⟨S1x1024, .f32⟩
  | .hbm, ⟨66, _⟩ => ⟨S81920x1024, .f32⟩
  | .hbm, ⟨67, _⟩ => ⟨S81920x1024, .f32⟩
  | .hbm, ⟨68, _⟩ => ⟨S1x1024, .f32⟩
  | .hbm, ⟨69, _⟩ => ⟨S81920x1024, .f32⟩
  | .hbm, ⟨70, _⟩ => ⟨S81920x1024, .f32⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]
-- ==== Merge.lean ====
abbrev S81920x1024 : Shape := ⟨2, ![81920, 1024]⟩
abbrev S81920x512 : Shape := ⟨2, ![81920, 512]⟩
abbrev S2x81920x512 : Shape := ⟨3, ![2, 81920, 512]⟩
abbrev S1024x3072 : Shape := ⟨2, ![1024, 3072]⟩
abbrev S3072 : Shape := ⟨1, ![3072]⟩
abbrev S3x512x1024 : Shape := ⟨3, ![3, 512, 1024]⟩
abbrev S1024x1024 : Shape := ⟨2, ![1024, 1024]⟩
abbrev S64 : Shape := ⟨1, ![64]⟩
abbrev S1024 : Shape := ⟨1, ![1024]⟩
abbrev S1x3072 : Shape := ⟨2, ![1, 3072]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S512x1024 : Shape := ⟨2, ![512, 1024]⟩
abbrev S512x512 : Shape := ⟨2, ![512, 512]⟩
abbrev S1x512x512 : Shape := ⟨3, ![1, 512, 512]⟩
abbrev S128x128 : Shape := ⟨2, ![128, 128]⟩
abbrev S1x512x128 : Shape := ⟨3, ![1, 512, 128]⟩
abbrev S512x128 : Shape := ⟨2, ![512, 128]⟩
abbrev S1x512x1024 : Shape := ⟨3, ![1, 512, 1024]⟩
abbrev S512 : Shape := ⟨1, ![512]⟩
abbrev S512x1 : Shape := ⟨2, ![512, 1]⟩

abbrev nBuf : Space → Nat
  | .hbm => 23
  | .vmem => 21
  | .smem => 0
  | _ => 0

abbrev bufTy : (tb : Table) → Fin (tcTables nBuf tb) → BufTy
  | .hbm, ⟨0, _⟩ => ⟨S81920x1024, .f32⟩
  | .hbm, ⟨1, _⟩ => ⟨S81920x512, .bf16⟩
  | .hbm, ⟨2, _⟩ => ⟨S81920x512, .bf16⟩
  | .hbm, ⟨3, _⟩ => ⟨S2x81920x512, .f32⟩
  | .hbm, ⟨4, _⟩ => ⟨S81920x512, .f32⟩
  | .hbm, ⟨5, _⟩ => ⟨S1024x3072, .f32⟩
  | .hbm, ⟨6, _⟩ => ⟨S3072, .f32⟩
  | .hbm, ⟨7, _⟩ => ⟨S3x512x1024, .f32⟩
  | .hbm, ⟨8, _⟩ => ⟨S1024x1024, .f32⟩
  | .hbm, ⟨9, _⟩ => ⟨S64, .f32⟩
  | .hbm, ⟨10, _⟩ => ⟨S1024, .f32⟩
  | .hbm, ⟨11, _⟩ => ⟨S1024, .f32⟩
  | .hbm, ⟨12, _⟩ => ⟨S1024x3072, .bf16⟩
  | .hbm, ⟨13, _⟩ => ⟨S1x3072, .f32⟩
  | .hbm, ⟨14, _⟩ => ⟨S3x512x1024, .bf16⟩
  | .hbm, ⟨15, _⟩ => ⟨S1024x1024, .bf16⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S1x128, .f32⟩
  | .hbm, ⟨20, _⟩ => ⟨S1x1024, .f32⟩
  | .hbm, ⟨21, _⟩ => ⟨S1x1024, .f32⟩
  | .hbm, ⟨22, _⟩ => ⟨S81920x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S512x512, .f32⟩
  | .local _ .vmem, ⟨11, _⟩ => ⟨S512x512, .f32⟩
  | .local _ .vmem, ⟨12, _⟩ => ⟨S1024x3072, .bf16⟩
  | .local _ .vmem, ⟨13, _⟩ => ⟨S1x3072, .f32⟩
  | .local _ .vmem, ⟨14, _⟩ => ⟨S3x512x1024, .bf16⟩
  | .local _ .vmem, ⟨15, _⟩ => ⟨S1024x1024, .bf16⟩
  | .local _ .vmem, ⟨16, _⟩ => ⟨S1x128, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S81920x1024 : Shape := ⟨2, ![81920, 1024]⟩
abbrev S81920x512 : Shape := ⟨2, ![81920, 512]⟩
abbrev S2x81920x512 : Shape := ⟨3, ![2, 81920, 512]⟩
abbrev S1024x3072 : Shape := ⟨2, ![1024, 3072]⟩
abbrev S3072 : Shape := ⟨1, ![3072]⟩
abbrev S3x512x1024 : Shape := ⟨3, ![3, 512, 1024]⟩
abbrev S1024x1024 : Shape := ⟨2, ![1024, 1024]⟩
abbrev S64 : Shape := ⟨1, ![64]⟩
abbrev S1024 : Shape := ⟨1, ![1024]⟩
abbrev S1x81920x512 : Shape := ⟨3, ![1, 81920, 512]⟩
abbrev S81920x8x64 : Shape := ⟨3, ![81920, 8, 64]⟩
abbrev S_ : Shape := ⟨0, ![]⟩
abbrev S81920x8 : Shape := ⟨2, ![81920, 8]⟩
abbrev S81920x8x1 : Shape := ⟨3, ![81920, 8, 1]⟩
abbrev S1x1x64 : Shape := ⟨3, ![1, 1, 64]⟩
abbrev S81920x3072 : Shape := ⟨2, ![81920, 3072]⟩
abbrev S1x3072 : Shape := ⟨2, ![1, 3072]⟩
abbrev S1x512x1024 : Shape := ⟨3, ![1, 512, 1024]⟩
abbrev S512x1024 : Shape := ⟨2, ![512, 1024]⟩
abbrev S81920 : Shape := ⟨1, ![81920]⟩
abbrev S81920x1 : Shape := ⟨2, ![81920, 1]⟩
abbrev S1x1024 : Shape := ⟨2, ![1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S81920x512, .bf16⟩
  | .hbm, ⟨2, _⟩ => ⟨S81920x512, .bf16⟩
  | .hbm, ⟨3, _⟩ => ⟨S2x81920x512, .f32⟩
  | .hbm, ⟨4, _⟩ => ⟨S81920x512, .f32⟩
  | .hbm, ⟨5, _⟩ => ⟨S1024x3072, .f32⟩
  | .hbm, ⟨6, _⟩ => ⟨S3072, .f32⟩
  | .hbm, ⟨7, _⟩ => ⟨S3x512x1024, .f32⟩
  | .hbm, ⟨8, _⟩ => ⟨S1024x1024, .f32⟩
  | .hbm, ⟨9, _⟩ => ⟨S64, .f32⟩
  | .hbm, ⟨10, _⟩ => ⟨S1024, .f32⟩
  | .hbm, ⟨11, _⟩ => ⟨S1024, .f32⟩
  | .hbm, ⟨12, _⟩ => ⟨S1x81920x512, .f32⟩
  | .hbm, ⟨13, _⟩ => ⟨S81920x512, .f32⟩
  | .hbm, ⟨14, _⟩ => ⟨S81920x8x64, .f32⟩
  | .hbm, ⟨15, _⟩ => ⟨S1x81920x512, .f32⟩
  | .hbm, ⟨16, _⟩ => ⟨S81920x512, .f32⟩
  | .hbm, ⟨17, _⟩ => ⟨S81920x8x64, .f32⟩
  | .hbm, ⟨18, _⟩ => ⟨S81920x8x64, .f32⟩
  | .hbm, ⟨19, _⟩ => ⟨S81920x8x64, .f32⟩
  | .hbm, ⟨20, _⟩ => ⟨S_, .f32⟩
  | .hbm, ⟨21, _⟩ => ⟨S81920x8, .f32⟩
  | .hbm, ⟨22, _⟩ => ⟨S81920x8x1, .f32⟩
  | .hbm, ⟨23, _⟩ => ⟨S_, .f32⟩
  | .hbm, ⟨24, _⟩ => ⟨S81920x8x1, .f32⟩
  | .hbm, ⟨25, _⟩ => ⟨S81920x8x1, .f32⟩
  | .hbm, ⟨26, _⟩ => ⟨S_, .f32⟩
  | .hbm, ⟨27, _⟩ => ⟨S81920x8x1, .f32⟩
  | .hbm, ⟨28, _⟩ => ⟨S81920x8x1, .f32⟩
  | .hbm, ⟨29, _⟩ => ⟨S81920x8x1, .f32⟩
  | .hbm, ⟨30, _⟩ => ⟨S81920x8x64, .f32⟩
  | .hbm, ⟨31, _⟩ => ⟨S81920x8x64, .f32⟩
  | .hbm, ⟨32, _⟩ => ⟨S1x1x64, .f32⟩
  | .hbm, ⟨33, _⟩ => ⟨S81920x8x64, .f32⟩
  | .hbm, ⟨34, _⟩ => ⟨S81920x8x64, .f32⟩
  | .hbm, ⟨35, _⟩ => ⟨S81920x8x64, .f32⟩
  | .hbm, ⟨36, _⟩ => ⟨S81920x8x64, .f32⟩
  | .hbm, ⟨37, _⟩ => ⟨S81920x8x64, .f32⟩
  | .hbm, ⟨38, _⟩ => ⟨S_, .f32⟩
  | .hbm, ⟨39, _⟩ => ⟨S81920x8x64, .f32⟩
  | .hbm, ⟨40, _⟩ => ⟨S81920x8x64, .f32⟩
  | .hbm, ⟨41, _⟩ => ⟨S_, .f32⟩
  | .hbm, ⟨42, _⟩ => ⟨S81920x8x64, .f32⟩
  | .hbm, ⟨43, _⟩ => ⟨S81920x8x64, .f32⟩
  | .hbm, ⟨44, _⟩ => ⟨S81920x8x64, .f32⟩
  | .hbm, ⟨45, _⟩ => ⟨S81920x8x64, .f32⟩
  | .hbm, ⟨46, _⟩ => ⟨S81920x512, .f32⟩
  | .hbm, ⟨47, _⟩ => ⟨S81920x3072, .f32⟩
  | .hbm, ⟨48, _⟩ => ⟨S1x3072, .f32⟩
  | .hbm, ⟨49, _⟩ => ⟨S81920x3072, .f32⟩
  | .hbm, ⟨50, _⟩ => ⟨S81920x3072, .f32⟩
  | .hbm, ⟨51, _⟩ => ⟨S81920x3072, .f32⟩
  | .hbm, ⟨52, _⟩ => ⟨S81920x3072, .f32⟩
  | .hbm, ⟨53, _⟩ => ⟨S_, .f32⟩
  | .hbm, ⟨54, _⟩ => ⟨S81920x3072, .f32⟩
  | .hbm, ⟨55, _⟩ => ⟨S81920x3072, .f32⟩
  | .hbm, ⟨56, _⟩ => ⟨S_, .f32⟩
  | .hbm, ⟨57, _⟩ => ⟨S81920x3072, .f32⟩
  | .hbm, ⟨58, _⟩ => ⟨S81920x3072, .f32⟩
  | .hbm, ⟨59, _⟩ => ⟨S81920x1024, .f32⟩
  | .hbm, ⟨60, _⟩ => ⟨S81920x1024, .f32⟩
  | .hbm, ⟨61, _⟩ => ⟨S81920x1024, .f32⟩
  | .hbm, ⟨62, _⟩ => ⟨S81920x512, .f32⟩
  | .hbm, ⟨63, _⟩ => ⟨S1x512x1024, .f32⟩
  | .hbm, ⟨64, _⟩ => ⟨S512x1024, .f32⟩
  | .hbm, ⟨65, _⟩ => ⟨S81920x1024, .f32⟩
  | .hbm, ⟨66, _⟩ => ⟨S81920x1024, .f32⟩
  | .hbm, ⟨67, _⟩ => ⟨S81920x512, .f32⟩
  | .hbm, ⟨68, _⟩ => ⟨S1x512x1024, .f32⟩
  | .hbm, ⟨69, _⟩ => ⟨S512x1024, .f32⟩
  | .hbm, ⟨70, _⟩ => ⟨S81920x1024, .f32⟩
  | .hbm, ⟨71, _⟩ => ⟨S81920x1024, .f32⟩
  | .hbm, ⟨72, _⟩ => ⟨S81920x1024, .f32⟩
  | .hbm, ⟨73, _⟩ => ⟨S1x512x1024, .f32⟩
  | .hbm, ⟨74, _⟩ => ⟨S512x1024, .f32⟩
  | .hbm, ⟨75, _⟩ => ⟨S81920x1024, .f32⟩
  | .hbm, ⟨76, _⟩ => ⟨S81920x1024, .f32⟩
  | .hbm, ⟨77, _⟩ => ⟨S81920x1024, .f32⟩
  | .hbm, ⟨78, _⟩ => ⟨S_, .f32⟩
  | .hbm, ⟨79, _⟩ => ⟨S81920x1024, .f32⟩
  | .hbm, ⟨80, _⟩ => ⟨S81920x1024, .f32⟩
  | .hbm, ⟨81, _⟩ => ⟨S81920x1024, .f32⟩
  | .hbm, ⟨82, _⟩ => ⟨S81920x1024, .f32⟩
  | .hbm, ⟨83, _⟩ => ⟨S_, .f32⟩
  | .hbm, ⟨84, _⟩ => ⟨S81920, .f32⟩
  | .hbm, ⟨85, _⟩ => ⟨S81920x1, .f32⟩
  | .hbm, ⟨86, _⟩ => ⟨S_, .f32⟩
  | .hbm, ⟨87, _⟩ => ⟨S81920x1, .f32⟩
  | .hbm, ⟨88, _⟩ => ⟨S81920x1, .f32⟩
  | .hbm, ⟨89, _⟩ => ⟨S81920x1024, .f32⟩
  | .hbm, ⟨90, _⟩ => ⟨S81920x1024, .f32⟩
  | .hbm, ⟨91, _⟩ => ⟨S81920x1024, .f32⟩
  | .hbm, ⟨92, _⟩ => ⟨S_, .f32⟩
  | .hbm, ⟨93, _⟩ => ⟨S81920, .f32⟩
  | .hbm, ⟨94, _⟩ => ⟨S81920x1, .f32⟩
  | .hbm, ⟨95, _⟩ => ⟨S_, .f32⟩
  | .hbm, ⟨96, _⟩ => ⟨S81920x1, .f32⟩
  | .hbm, ⟨97, _⟩ => ⟨S81920x1, .f32⟩
  | .hbm, ⟨98, _⟩ => ⟨S81920x1024, .f32⟩
  | .hbm, ⟨99, _⟩ => ⟨S81920x1024, .f32⟩
  | .hbm, ⟨100, _⟩ => ⟨S_, .f32⟩
  | .hbm, ⟨101, _⟩ => ⟨S81920x1, .f32⟩
  | .hbm, ⟨102, _⟩ => ⟨S81920x1, .f32⟩
  | .hbm, ⟨103, _⟩ => ⟨S81920x1, .f32⟩
  | .hbm, ⟨104, _⟩ => ⟨S81920x1024, .f32⟩
  | .hbm, ⟨105, _⟩ => ⟨S81920x1024, .f32⟩
  | .hbm, ⟨106, _⟩ => ⟨S1x1024, .f32⟩
  | .hbm, ⟨107, _⟩ => ⟨S81920x1024, .f32⟩
  | .hbm, ⟨108, _⟩ => ⟨S81920x1024, .f32⟩
  | .hbm, ⟨109, _⟩ => ⟨S1x1024, .f32⟩
  | .hbm, ⟨110, _⟩ => ⟨S81920x1024, .f32⟩
  | .hbm, ⟨111, _⟩ => ⟨S81920x1024, .f32⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_4 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_5 : Ref sig .tc := ⟨.hbm, 83, rfl⟩
abbrev main_v57 : Ref sig .tc := ⟨.hbm, 84, rfl⟩
abbrev main_v58 : Ref sig .tc := ⟨.hbm, 85, rfl⟩
abbrev main_cst_6 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_7 : Ref sig .tc := ⟨.hbm, 92, rfl⟩
abbrev main_v64 : Ref sig .tc := ⟨.hbm, 93, rfl⟩
abbrev main_v65 : Ref sig .tc := ⟨.hbm, 94, rfl⟩
abbrev main_cst_8 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_9 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== Proj.lean ====
abbrev S81920x1024 : Shape := ⟨2, ![81920, 1024]⟩
abbrev S1024x4384 : Shape := ⟨2, ![1024, 4384]⟩
abbrev S64 : Shape := ⟨1, ![64]⟩
abbrev S3x1536 : Shape := ⟨2, ![3, 1536]⟩
abbrev S2x8 : Shape := ⟨2, ![2, 8]⟩
abbrev S1024x64 : Shape := ⟨2, ![1024, 64]⟩
abbrev S1024x512 : Shape := ⟨2, ![1024, 512]⟩
abbrev S1024x1024 : Shape := ⟨2, ![1024, 1024]⟩
abbrev S1024x1536 : Shape := ⟨2, ![1024, 1536]⟩
abbrev S1024x32 : Shape := ⟨2, ![1024, 32]⟩
abbrev S_ : Shape := ⟨0, ![]⟩
abbrev S1024x128 : Shape := ⟨2, ![1024, 128]⟩
abbrev S8x128 : Shape := ⟨2, ![8, 128]⟩
abbrev S16 : Shape := ⟨1, ![16]⟩
abbrev S1 : Shape := ⟨1, ![1]⟩
abbrev S2 : Shape := ⟨1, ![2]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S81920x512 : Shape := ⟨2, ![81920, 512]⟩
abbrev S10x256x8192 : Shape := ⟨3, ![10, 256, 8192]⟩
abbrev S81920x256 : Shape := ⟨2, ![81920, 256]⟩
abbrev S10x512x8192 : Shape := ⟨3, ![10, 512, 8192]⟩
abbrev S81920x128 : Shape := ⟨2, ![81920, 128]⟩
abbrev S16x1024 : Shape := ⟨2, ![16, 1024]⟩
abbrev S512x1024 : Shape := ⟨2, ![512, 1024]⟩
abbrev S512x128 : Shape := ⟨2, ![512, 128]⟩
abbrev S512x512 : Shape := ⟨2, ![512, 512]⟩
abbrev S1x256x512 : Shape := ⟨3, ![1, 256, 512]⟩
abbrev S512x256 : Shape := ⟨2, ![512, 256]⟩
abbrev S1x512x512 : Shape := ⟨3, ![1, 512, 512]⟩
abbrev S544x1024 : Shape := ⟨2, ![544, 1024]⟩
abbrev S544x1536 : Shape := ⟨2, ![544, 1536]⟩
abbrev S128x128 : Shape := ⟨2, ![128, 128]⟩
abbrev S128x512 : Shape := ⟨2, ![128, 512]⟩
abbrev S1x128x512 : Shape := ⟨3, ![1, 128, 512]⟩
abbrev S512x1536 : Shape := ⟨2, ![512, 1536]⟩

abbrev nBuf : Space → Nat
  | .hbm => 147
  | .vmem => 43
  | .smem => 0
  | _ => 0

abbrev hbmTy0_0 (i : Nat) : BufTy := match i % 128 with
  | 0 => ⟨S81920x1024, .f32⟩
  | 1 => ⟨S1024x4384, .f32⟩
  | 2 => ⟨S64, .f32⟩
  | 3 => ⟨S64, .f32⟩
  | 4 => ⟨S3x1536, .f32⟩
  | 5 => ⟨S2x8, .f32⟩
  | 6 => ⟨S2x8, .f32⟩
  | 7 => ⟨S1024x64, .f32⟩
  | 8 => ⟨S1024x64, .f32⟩
  | 9 => ⟨S1024x64, .f32⟩
  | 10 => ⟨S1024x64, .f32⟩
  | 11 => ⟨S1024x512, .f32⟩
  | 12 => ⟨S1024x1024, .f32⟩
  | 13 => ⟨S1024x1024, .bf16⟩
  | 14 => ⟨S1024x1536, .f32⟩
  | 15 => ⟨S1024x1536, .bf16⟩
  | 16 => ⟨S1024x1536, .f32⟩
  | 17 => ⟨S1024x1536, .bf16⟩
  | 18 => ⟨S1024x512, .f32⟩
  | 19 => ⟨S1024x512, .bf16⟩
  | 20 => ⟨S1024x32, .f32⟩
  | 21 => ⟨S_, .i32⟩
  | 22 => ⟨S_, .f32⟩
  | 23 => ⟨S1024x128, .f32⟩
  | 24 => ⟨S1024x128, .bf16⟩
  | 25 => ⟨S_, .f32⟩
  | 26 => ⟨S8x128, .f32⟩
  | 27 => ⟨S16, .f32⟩
  | 28 => ⟨S_, .i32⟩
  | 29 => ⟨S1, .i32⟩
  | 30 => ⟨S_, .i32⟩
  | 31 => ⟨S1, .i32⟩
  | 32 => ⟨S2, .i32⟩
  | 33 => ⟨S8x128, .f32⟩
  | 34 => ⟨S16, .f32⟩
  | 35 => ⟨S_, .i32⟩
  | 36 => ⟨S1, .i32⟩
  | 37 => ⟨S_, .i32⟩
  | 38 => ⟨S1, .i32⟩
  | 39 => ⟨S2, .i32⟩
  | 40 => ⟨S8x128, .f32⟩
  | 41 => ⟨S_, .i32⟩
  | 42 => ⟨S1, .i32⟩
  | 43 => ⟨S_, .i32⟩
  | 44 => ⟨S1, .i32⟩
  | 45 => ⟨S2, .i32⟩
  | 46 => ⟨S_, .f32⟩
  | 47 => ⟨S16, .f32⟩
  | 48 => ⟨S8x128, .f32⟩
  | 49 => ⟨S8192, .i32⟩
  | 50 => ⟨S_, .i32⟩
  | 51 => ⟨S_, .i32⟩
  | 52 => ⟨S8192, .i32⟩
  | 53 => ⟨S8192, .i32⟩
  | 54 => ⟨S8192, .i32⟩
  | 55 => ⟨S_, .i32⟩
  | 56 => ⟨S8192, .i32⟩
  | 57 => ⟨S8192, .i1⟩
  | 58 => ⟨S8192, .i32⟩
  | 59 => ⟨S8192, .i32⟩
  | 60 => ⟨S_, .i32⟩
  | 61 => ⟨S8192, .i32⟩
  | 62 => ⟨S8192, .i1⟩
  | 63 => ⟨S8192, .i1⟩
  | 64 => ⟨S_, .i32⟩
  | 65 => ⟨S8192, .i32⟩
  | 66 => ⟨S8192, .i32⟩
  | 67 => ⟨S8192, .i32⟩
  | 68 => ⟨S8192, .f32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i1⟩
  | 80 => ⟨S_, .i32⟩
  | 81 => ⟨S8192, .i32⟩
  | 82 => ⟨S8192, .i1⟩
  | 83 => ⟨S_, .i32⟩
  | 84 => ⟨S_, .i1⟩
  | 85 => ⟨S8192, .i1⟩
  | 86 => ⟨S8192, .i1⟩
  | 87 => ⟨S8192, .i1⟩
  | 88 => ⟨S8192, .i32⟩
  | 89 => ⟨S8192, .i32⟩
  | 90 => ⟨S8192, .i32⟩
  | 91 => ⟨S8192, .f32⟩
  | 92 => ⟨S16, .f32⟩
  | 93 => ⟨S16, .f32⟩
  | 94 => ⟨S_, .f32⟩
  | 95 => ⟨S16, .f32⟩
  | 96 => ⟨S16, .f32⟩
  | 97 => ⟨S_, .f32⟩
  | 98 => ⟨S16, .f32⟩
  | 99 => ⟨S16, .f32⟩
  | 100 => ⟨S8192x1, .f32⟩
  | 101 => ⟨S1x16, .f32⟩
  | 102 => ⟨S8192x16, .f32⟩
  | 103 => ⟨S8192x16, .f32⟩
  | 104 => ⟨S8192x16, .f32⟩
  | 105 => ⟨S8192x1, .f32⟩
  | 106 => ⟨S1x16, .f32⟩
  | 107 => ⟨S8192x16, .f32⟩
  | 108 => ⟨S8192x16, .f32⟩
  | 109 => ⟨S8192x16, .f32⟩
  | 110 => ⟨S8192x16, .f32⟩
  | 111 => ⟨S8192x16, .f32⟩
  | 112 => ⟨S8192x16, .f32⟩
  | 113 => ⟨S8192x16, .f32⟩
  | 114 => ⟨S8192x64, .f32⟩
  | 115 => ⟨S8192x16, .f32⟩
  | 116 => ⟨S8192x16, .f32⟩
  | 117 => ⟨S8192x16, .f32⟩
  | 118 => ⟨S8192x16, .f32⟩
  | 119 => ⟨S8192x16, .f32⟩
  | 120 => ⟨S8192x16, .f32⟩
  | 121 => ⟨S8192x64, .f32⟩
  | 122 => ⟨S1x8192x1x64, .f32⟩
  | 123 => ⟨S1x8192x2x64, .f32⟩
  | 124 => ⟨S8192x128, .f32⟩
  | 125 => ⟨S1x8192x1x64, .f32⟩
  | 126 => ⟨S1x8192x2x64, .f32⟩
  | 127 => ⟨S8192x128, .f32⟩
  | _ => ⟨S81920x1024, .f32⟩

abbrev hbmTy0_1 (i : Nat) : BufTy := match i % 128 with
  | 0 => ⟨S1x64, .f32⟩
  | 1 => ⟨S2x64, .f32⟩
  | 2 => ⟨S128, .f32⟩
  | 3 => ⟨S1x128, .f32⟩
  | 4 => ⟨S1x64, .f32⟩
  | 5 => ⟨S2x64, .f32⟩
  | 6 => ⟨S128, .f32⟩
  | 7 => ⟨S1x128, .f32⟩
  | 8 => ⟨S81920x512, .bf16⟩
  | 9 => ⟨S10x256x8192, .bf16⟩
  | 10 => ⟨S81920x256, .bf16⟩
  | 11 => ⟨S81920x512, .bf16⟩
  | 12 => ⟨S10x512x8192, .bf16⟩
  | 13 => ⟨S81920x512, .bf16⟩
  | 14 => ⟨S81920x512, .f32⟩
  | 15 => ⟨S81920x512, .f32⟩
  | 16 => ⟨S81920x512, .f32⟩
  | 17 => ⟨S81920x512, .f32⟩
  | 18 => ⟨S81920x128, .f32⟩
  | _ => ⟨S81920x1024, .f32⟩

abbrev hbmTy (i : Nat) : BufTy := match i / 128 with
  | 0 => hbmTy0_0 i
  | 1 => hbmTy0_1 i
  | _ => ⟨S81920x1024, .f32⟩

abbrev bufTy : (tb : Table) → Fin (tcTables nBuf tb) → BufTy
  | .hbm, ⟨i, _⟩ => hbmTy i
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1024x1024, .bf16⟩
  | .local _ .vmem, ⟨11, _⟩ => ⟨S1024x1536, .bf16⟩
  | .local _ .vmem, ⟨12, _⟩ => ⟨S1024x1536, .bf16⟩
  | .local _ .vmem, ⟨13, _⟩ => ⟨S1024x512, .bf16⟩
  | .local _ .vmem, ⟨14, _⟩ => ⟨S1024x128, .bf16⟩
  | .local _ .vmem, ⟨15, _⟩ => ⟨S1x128, .f32⟩
  | .local _ .vmem, ⟨16, _⟩ => ⟨S1x128, .f32⟩
  | .local _ .vmem, ⟨17, _⟩ => ⟨S3x1536, .f32⟩
  | .local _ .vmem, ⟨18, _⟩ => ⟨S8x128, .f32⟩
  | .local _ .vmem, ⟨19, _⟩ => ⟨S512x512, .bf16⟩
  | .local _ .vmem, ⟨20, _⟩ => ⟨S512x512, .bf16⟩
  | .local _ .vmem, ⟨21, _⟩ => ⟨S1x256x512, .bf16⟩
  | .local _ .vmem, ⟨22, _⟩ => ⟨S1x256x512, .bf16⟩
  | .local _ .vmem, ⟨23, _⟩ => ⟨S512x256, .bf16⟩
  | .local _ .vmem, ⟨24, _⟩ => ⟨S512x256, .bf16⟩
  | .local _ .vmem, ⟨25, _⟩ => ⟨S512x512, .bf16⟩
  | .local _ .vmem, ⟨26, _⟩ => ⟨S512x512, .bf16⟩
  | .local _ .vmem, ⟨27, _⟩ => ⟨S1x512x512, .bf16⟩
  | .local _ .vmem, ⟨28, _⟩ => ⟨S1x512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S512x128, .f32⟩
  | .local _ .vmem, ⟨40, _⟩ => ⟨S512x128, .f32⟩
  | .local _ .vmem, ⟨41, _⟩ => ⟨S544x1024, .bf16⟩
  | .local _ .vmem, ⟨42, _⟩ => ⟨S544x1536, .f32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v33 : Ref sig .tc := ⟨.hbm, 67, rfl⟩
abbrev main_v34 : Ref sig .tc := ⟨.hbm, 68, rfl⟩
abbrev main_c_8 : Ref sig .tc := ⟨.hbm, 69, rfl⟩
abbrev main_call2_v0 : Ref sig .tc := ⟨.hbm, 70, rfl⟩
abbrev main_call2_c : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_1 : Ref sig .tc := ⟨.hbm, 77, rfl⟩
abbrev main_call2_v5 : Ref sig .tc := ⟨.hbm, 78, rfl⟩
abbrev main_call2_v6 : Ref sig .tc := ⟨.hbm, 79, rfl⟩
abbrev main_call2_c_2 : Ref sig .tc := ⟨.hbm, 80, rfl⟩
abbrev main_call2_v7 : Ref sig .tc := ⟨.hbm, 81, rfl⟩
abbrev main_call2_v8 : Ref sig .tc := ⟨.hbm, 82, rfl⟩
abbrev main_call2_c_3 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_cst_9 : Ref sig .tc := ⟨.hbm, 94, rfl⟩
abbrev main_v39 : Ref sig .tc := ⟨.hbm, 95, rfl⟩
abbrev main_v40 : Ref sig .tc := ⟨.hbm, 96, rfl⟩
abbrev main_cst_10 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79_0 : Ref sig .tc := ⟨.hbm, 136, rfl⟩
abbrev main_v79_1 : Ref sig .tc := ⟨.hbm, 137, rfl⟩
abbrev main_v79_2 : Ref sig .tc := ⟨.hbm, 138, rfl⟩
abbrev main_v79_3 : Ref sig .tc := ⟨.hbm, 139, rfl⟩
abbrev main_v79_4 : Ref sig .tc := ⟨.hbm, 140, rfl⟩
abbrev main_v79_5 : Ref sig .tc := ⟨.hbm, 141, rfl⟩
abbrev main_v79_6 : Ref sig .tc := ⟨.hbm, 142, rfl⟩
abbrev main_v79_7 : Ref sig .tc := ⟨.hbm, 143, rfl⟩
abbrev main_v79_8 : Ref sig .tc := ⟨.hbm, 144, rfl⟩
abbrev main_v79_9 : Ref sig .tc := ⟨.hbm, 145, rfl⟩
abbrev main_v79_10 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_scratch0 : Ref sig .tc := ⟨.vmem, 41, rfl⟩
abbrev cc0_scratch1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c5119_i32 : BitVec 32 := 5119#32
  let v2 : BitVec 32 := Scalar.minsi v1 c5119_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ProjRefIdeal.lean ====
abbrev S81920x1024 : Shape := ⟨2, ![81920, 1024]⟩
abbrev S1024x4384 : Shape := ⟨2, ![1024, 4384]⟩
abbrev S64 : Shape := ⟨1, ![64]⟩
abbrev S3x1536 : Shape := ⟨2, ![3, 1536]⟩
abbrev S2x8 : Shape := ⟨2, ![2, 8]⟩
abbrev S10x8192x1024 : Shape := ⟨3, ![10, 8192, 1024]⟩
abbrev S10x8192x4384 : Shape := ⟨3, ![10, 8192, 4384]⟩
abbrev S10x8192x512 : Shape := ⟨3, ![10, 8192, 512]⟩
abbrev S10x8192x128 : Shape := ⟨3, ![10, 8192, 128]⟩
abbrev S10x8192x8 : Shape := ⟨3, ![10, 8192, 8]⟩
abbrev S8192 : Shape := ⟨1, ![8192]⟩
abbrev S_ : Shape := ⟨0, ![]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S10x8192x8x64 : Shape := ⟨4, ![10, 8192, 8, 64]⟩
abbrev S10x8192x8x1 : Shape := ⟨4, ![10, 8192, 8, 1]⟩
abbrev S1x1x1x64 : Shape := ⟨4, ![1, 1, 1, 64]⟩
abbrev S1x8192x1x16 : Shape := ⟨4, ![1, 8192, 1, 16]⟩
abbrev S10x8192x8x16 : Shape := ⟨4, ![10, 8192, 8, 16]⟩
abbrev S10x8192x2x64 : Shape := ⟨4, ![10, 8192, 2, 64]⟩
abbrev S10x8192x2 : Shape := ⟨3, ![10, 8192, 2]⟩
abbrev S10x8192x2x1 : Shape := ⟨4, ![10, 8192, 2, 1]⟩
abbrev S10x8192x2x16 : Shape := ⟨4, ![10, 8192, 2, 16]⟩
abbrev S10x8192x2x2x64 : Shape := ⟨5, ![10, 8192, 2, 2, 64]⟩
abbrev S10x8192x4x64 : Shape := ⟨4, ![10, 8192, 4, 64]⟩
abbrev S10x4x64x8192 : Shape := ⟨4, ![10, 4, 64, 8192]⟩
abbrev S10x256x8192 : Shape := ⟨3, ![10, 256, 8192]⟩
abbrev S10x512x8192 : Shape := ⟨3, ![10, 512, 8192]⟩
abbrev S10x8192x1536 : Shape := ⟨3, ![10, 8192, 1536]⟩
abbrev S10x8194x1536 : Shape := ⟨3, ![10, 8194, 1536]⟩
abbrev S1x1536 : Shape := ⟨2, ![1, 1536]⟩
abbrev S1536 : Shape := ⟨1, ![1536]⟩
abbrev S1x1x1536 : Shape := ⟨3, ![1, 1, 1536]⟩
abbrev S81920x512 : Shape := ⟨2, ![81920, 512]⟩
abbrev S81920x256 : Shape := ⟨2, ![81920, 256]⟩

abbrev nBuf : Space → Nat
  | .hbm => 269
  | .vmem => 0
  | .smem => 0
  | _ => 0

abbrev hbmTy0_0 (i : Nat) : BufTy := match i % 128 with
  | 0 => ⟨S81920x1024, .f32⟩
  | 1 => ⟨S1024x4384, .f32⟩
  | 2 => ⟨S64, .f32⟩
  | 3 => ⟨S64, .f32⟩
  | 4 => ⟨S3x1536, .f32⟩
  | 5 => ⟨S2x8, .f32⟩
  | 6 => ⟨S2x8, .f32⟩
  | 7 => ⟨S10x8192x1024, .f32⟩
  | 8 => ⟨S10x8192x4384, .f32⟩
  | 9 => ⟨S10x8192x512, .f32⟩
  | 10 => ⟨S10x8192x128, .f32⟩
  | 11 => ⟨S10x8192x128, .f32⟩
  | 12 => ⟨S10x8192x512, .f32⟩
  | 13 => ⟨S10x8192x512, .f32⟩
  | 14 => ⟨S10x8192x512, .f32⟩
  | 15 => ⟨S10x8192x512, .f32⟩
  | 16 => ⟨S10x8192x512, .f32⟩
  | 17 => ⟨S10x8192x512, .f32⟩
  | 18 => ⟨S10x8192x512, .f32⟩
  | 19 => ⟨S10x8192x8, .f32⟩
  | 20 => ⟨S10x8192x8, .f32⟩
  | 21 => ⟨S10x8192x8, .f32⟩
  | 22 => ⟨S10x8192x8, .f32⟩
  | 23 => ⟨S8192, .i32⟩
  | 24 => ⟨S_, .i32⟩
  | 25 => ⟨S_, .i32⟩
  | 26 => ⟨S8192, .i32⟩
  | 27 => ⟨S8192, .i32⟩
  | 28 => ⟨S8192, .i32⟩
  | 29 => ⟨S_, .i32⟩
  | 30 => ⟨S8192, .i32⟩
  | 31 => ⟨S8192, .i1⟩
  | 32 => ⟨S8192, .i32⟩
  | 33 => ⟨S8192, .i32⟩
  | 34 => ⟨S_, .i32⟩
  | 35 => ⟨S8192, .i32⟩
  | 36 => ⟨S8192, .i1⟩
  | 37 => ⟨S8192, .i1⟩
  | 38 => ⟨S_, .i32⟩
  | 39 => ⟨S8192, .i32⟩
  | 40 => ⟨S8192, .i32⟩
  | 41 => ⟨S8192, .i32⟩
  | 42 => ⟨S8192, .f32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i1⟩
  | 54 => ⟨S_, .i32⟩
  | 55 => ⟨S8192, .i32⟩
  | 56 => ⟨S8192, .i1⟩
  | 57 => ⟨S_, .i32⟩
  | 58 => ⟨S_, .i1⟩
  | 59 => ⟨S8192, .i1⟩
  | 60 => ⟨S8192, .i1⟩
  | 61 => ⟨S8192, .i1⟩
  | 62 => ⟨S8192, .i32⟩
  | 63 => ⟨S8192, .i32⟩
  | 64 => ⟨S8192, .i32⟩
  | 65 => ⟨S8192, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S8192x1, .f32⟩
  | 75 => ⟨S1x16, .f32⟩
  | 76 => ⟨S8192x16, .f32⟩
  | 77 => ⟨S8192x16, .f32⟩
  | 78 => ⟨S8192x16, .f32⟩
  | 79 => ⟨S8192x1, .f32⟩
  | 80 => ⟨S1x16, .f32⟩
  | 81 => ⟨S8192x16, .f32⟩
  | 82 => ⟨S8192x16, .f32⟩
  | 83 => ⟨S8192x16, .f32⟩
  | 84 => ⟨S8192x16, .f32⟩
  | 85 => ⟨S8192x16, .f32⟩
  | 86 => ⟨S8192x16, .f32⟩
  | 87 => ⟨S8192x16, .f32⟩
  | 88 => ⟨S10x8192x8x64, .f32⟩
  | 89 => ⟨S10x8192x8x64, .f32⟩
  | 90 => ⟨S_, .f32⟩
  | 91 => ⟨S10x8192x8, .f32⟩
  | 92 => ⟨S10x8192x8x1, .f32⟩
  | 93 => ⟨S_, .f32⟩
  | 94 => ⟨S10x8192x8x1, .f32⟩
  | 95 => ⟨S10x8192x8x1, .f32⟩
  | 96 => ⟨S_, .f32⟩
  | 97 => ⟨S10x8192x8x1, .f32⟩
  | 98 => ⟨S10x8192x8x1, .f32⟩
  | 99 => ⟨S10x8192x8x1, .f32⟩
  | 100 => ⟨S10x8192x8x64, .f32⟩
  | 101 => ⟨S10x8192x8x64, .f32⟩
  | 102 => ⟨S1x1x1x64, .f32⟩
  | 103 => ⟨S10x8192x8x64, .f32⟩
  | 104 => ⟨S10x8192x8x64, .f32⟩
  | 105 => ⟨S1x8192x1x16, .f32⟩
  | 106 => ⟨S1x8192x1x16, .f32⟩
  | 107 => ⟨S1x8192x1x16, .f32⟩
  | 108 => ⟨S1x8192x1x16, .f32⟩
  | 109 => ⟨S10x8192x8x16, .f32⟩
  | 110 => ⟨S10x8192x8x16, .f32⟩
  | 111 => ⟨S10x8192x8x16, .f32⟩
  | 112 => ⟨S10x8192x8x16, .f32⟩
  | 113 => ⟨S10x8192x8x16, .f32⟩
  | 114 => ⟨S10x8192x8x16, .f32⟩
  | 115 => ⟨S10x8192x8x16, .f32⟩
  | 116 => ⟨S10x8192x8x16, .f32⟩
  | 117 => ⟨S10x8192x8x16, .f32⟩
  | 118 => ⟨S10x8192x8x16, .f32⟩
  | 119 => ⟨S10x8192x8x16, .f32⟩
  | 120 => ⟨S10x8192x8x16, .f32⟩
  | 121 => ⟨S10x8192x8x16, .f32⟩
  | 122 => ⟨S10x8192x8x16, .f32⟩
  | 123 => ⟨S10x8192x8x16, .f32⟩
  | 124 => ⟨S10x8192x8x16, .f32⟩
  | 125 => ⟨S10x8192x8x16, .f32⟩
  | 126 => ⟨S10x8192x8x16, .f32⟩
  | 127 => ⟨S10x8192x8x16, .f32⟩
  | _ => ⟨S81920x1024, .f32⟩

abbrev hbmTy0_1 (i : Nat) : BufTy := match i % 128 with
  | 0 => ⟨S10x8192x8x16, .f32⟩
  | 1 => ⟨S10x8192x8x16, .f32⟩
  | 2 => ⟨S10x8192x8x16, .f32⟩
  | 3 => ⟨S10x8192x8x16, .f32⟩
  | 4 => ⟨S10x8192x8x16, .f32⟩
  | 5 => ⟨S10x8192x8x64, .f32⟩
  | 6 => ⟨S_, .f32⟩
  | 7 => ⟨S10x8192x8x64, .f32⟩
  | 8 => ⟨S10x8192x8x64, .f32⟩
  | 9 => ⟨S10x8192x2x64, .f32⟩
  | 10 => ⟨S10x8192x2x64, .f32⟩
  | 11 => ⟨S_, .f32⟩
  | 12 => ⟨S10x8192x2, .f32⟩
  | 13 => ⟨S10x8192x2x1, .f32⟩
  | 14 => ⟨S_, .f32⟩
  | 15 => ⟨S10x8192x2x1, .f32⟩
  | 16 => ⟨S10x8192x2x1, .f32⟩
  | 17 => ⟨S_, .f32⟩
  | 18 => ⟨S10x8192x2x1, .f32⟩
  | 19 => ⟨S10x8192x2x1, .f32⟩
  | 20 => ⟨S10x8192x2x1, .f32⟩
  | 21 => ⟨S10x8192x2x64, .f32⟩
  | 22 => ⟨S10x8192x2x64, .f32⟩
  | 23 => ⟨S1x1x1x64, .f32⟩
  | 24 => ⟨S10x8192x2x64, .f32⟩
  | 25 => ⟨S10x8192x2x64, .f32⟩
  | 26 => ⟨S1x8192x1x16, .f32⟩
  | 27 => ⟨S1x8192x1x16, .f32⟩
  | 28 => ⟨S1x8192x1x16, .f32⟩
  | 29 => ⟨S1x8192x1x16, .f32⟩
  | 30 => ⟨S10x8192x2x16, .f32⟩
  | 31 => ⟨S10x8192x2x16, .f32⟩
  | 32 => ⟨S10x8192x2x16, .f32⟩
  | 33 => ⟨S10x8192x2x16, .f32⟩
  | 34 => ⟨S10x8192x2x16, .f32⟩
  | 35 => ⟨S10x8192x2x16, .f32⟩
  | 36 => ⟨S10x8192x2x16, .f32⟩
  | 37 => ⟨S10x8192x2x16, .f32⟩
  | 38 => ⟨S10x8192x2x16, .f32⟩
  | 39 => ⟨S10x8192x2x16, .f32⟩
  | 40 => ⟨S10x8192x2x16, .f32⟩
  | 41 => ⟨S10x8192x2x16, .f32⟩
  | 42 => ⟨S10x8192x2x16, .f32⟩
  | 43 => ⟨S10x8192x2x16, .f32⟩
  | 44 => ⟨S10x8192x2x16, .f32⟩
  | 45 => ⟨S10x8192x2x16, .f32⟩
  | 46 => ⟨S10x8192x2x16, .f32⟩
  | 47 => ⟨S10x8192x2x16, .f32⟩
  | 48 => ⟨S10x8192x2x16, .f32⟩
  | 49 => ⟨S10x8192x2x16, .f32⟩
  | 50 => ⟨S10x8192x2x16, .f32⟩
  | 51 => ⟨S10x8192x2x16, .f32⟩
  | 52 => ⟨S10x8192x2x16, .f32⟩
  | 53 => ⟨S10x8192x2x16, .f32⟩
  | 54 => ⟨S10x8192x2x64, .f32⟩
  | 55 => ⟨S10x8192x2x64, .f32⟩
  | 56 => ⟨S10x8192x2x2x64, .f32⟩
  | 57 => ⟨S10x8192x4x64, .f32⟩
  | 58 => ⟨S10x4x64x8192, .f32⟩
  | 59 => ⟨S10x256x8192, .f32⟩
  | 60 => ⟨S10x8192x2x2x64, .f32⟩
  | 61 => ⟨S10x8192x4x64, .f32⟩
  | 62 => ⟨S10x512x8192, .f32⟩
  | 63 => ⟨S10x8192x1536, .f32⟩
  | 64 => ⟨S_, .i32⟩
  | 65 => ⟨S_, .f32⟩
  | 66 => ⟨S10x8194x1536, .f32⟩
  | 67 => ⟨S10x8192x1536, .f32⟩
  | 68 => ⟨S1x1536, .f32⟩
  | 69 => ⟨S1536, .f32⟩
  | 70 => ⟨S1x1x1536, .f32⟩
  | 71 => ⟨S10x8192x1536, .f32⟩
  | 72 => ⟨S10x8192x1536, .f32⟩
  | 73 => ⟨S10x8192x1536, .f32⟩
  | 74 => ⟨S1x1536, .f32⟩
  | 75 => ⟨S1536, .f32⟩
  | 76 => ⟨S1x1x1536, .f32⟩
  | 77 => ⟨S10x8192x1536, .f32⟩
  | 78 => ⟨S10x8192x1536, .f32⟩
  | 79 => ⟨S10x8192x1536, .f32⟩
  | 80 => ⟨S10x8192x1536, .f32⟩
  | 81 => ⟨S1x1536, .f32⟩
  | 82 => ⟨S1536, .f32⟩
  | 83 => ⟨S1x1x1536, .f32⟩
  | 84 => ⟨S10x8192x1536, .f32⟩
  | 85 => ⟨S10x8192x1536, .f32⟩
  | 86 => ⟨S10x8192x1536, .f32⟩
  | 87 => ⟨S10x8192x1536, .f32⟩
  | 88 => ⟨S10x8192x1536, .f32⟩
  | 89 => ⟨S_, .f32⟩
  | 90 => ⟨S10x8192x1536, .f32⟩
  | 91 => ⟨S10x8192x1536, .f32⟩
  | 92 => ⟨S_, .f32⟩
  | 93 => ⟨S10x8192x1536, .f32⟩
  | 94 => ⟨S10x8192x1536, .f32⟩
  | 95 => ⟨S10x8192x1536, .f32⟩
  | 96 => ⟨S10x8192x512, .f32⟩
  | 97 => ⟨S10x8192x512, .f32⟩
  | 98 => ⟨S10x8192x512, .f32⟩
  | 99 => ⟨S10x8192x8x64, .f32⟩
  | 100 => ⟨S10x8192x8x64, .f32⟩
  | 101 => ⟨S_, .f32⟩
  | 102 => ⟨S10x8192x8, .f32⟩
  | 103 => ⟨S10x8192x8x1, .f32⟩
  | 104 => ⟨S_, .f32⟩
  | 105 => ⟨S10x8192x8x1, .f32⟩
  | 106 => ⟨S10x8192x8x1, .f32⟩
  | 107 => ⟨S10x8192x8x1, .f32⟩
  | 108 => ⟨S10x8192x8x64, .f32⟩
  | 109 => ⟨S10x8192x8x64, .f32⟩
  | 110 => ⟨S_, .f32⟩
  | 111 => ⟨S10x8192x8x64, .f32⟩
  | 112 => ⟨S10x8192x8x64, .f32⟩
  | 113 => ⟨S10x8192x8x64, .f32⟩
  | 114 => ⟨S10x8192x8x64, .f32⟩
  | 115 => ⟨S_, .f32⟩
  | 116 => ⟨S10x8192x8, .f32⟩
  | 117 => ⟨S10x8192x8x1, .f32⟩
  | 118 => ⟨S_, .f32⟩
  | 119 => ⟨S10x8192x8x1, .f32⟩
  | 120 => ⟨S10x8192x8x1, .f32⟩
  | 121 => ⟨S10x8192x8x1, .f32⟩
  | 122 => ⟨S10x8192x8x64, .f32⟩
  | 123 => ⟨S10x8192x8x64, .f32⟩
  | 124 => ⟨S81920x512, .f32⟩
  | 125 => ⟨S81920x512, .bf16⟩
  | 126 => ⟨S10x256x8192, .bf16⟩
  | 127 => ⟨S81920x256, .f32⟩
  | _ => ⟨S81920x1024, .f32⟩

abbrev hbmTy0_2 (i : Nat) : BufTy := match i % 128 with
  | 0 => ⟨S81920x256, .bf16⟩
  | 1 => ⟨S_, .f32⟩
  | 2 => ⟨S10x8192x512, .f32⟩
  | 3 => ⟨S10x8192x512, .f32⟩
  | 4 => ⟨S81920x512, .f32⟩
  | 5 => ⟨S81920x512, .bf16⟩
  | 6 => ⟨S10x512x8192, .bf16⟩
  | 7 => ⟨S81920x512, .f32⟩
  | 8 => ⟨S81920x512, .bf16⟩
  | 9 => ⟨S81920x512, .f32⟩
  | 10 => ⟨S81920x512, .f32⟩
  | 11 => ⟨S81920x512, .f32⟩
  | 12 => ⟨S81920x512, .f32⟩
  | _ => ⟨S81920x1024, .f32⟩

abbrev hbmTy (i : Nat) : BufTy := match i / 128 with
  | 0 => hbmTy0_0 i
  | 1 => hbmTy0_1 i
  | 2 => hbmTy0_2 i
  | _ => ⟨S81920x1024, .f32⟩

abbrev bufTy : (tb : Table) → Fin (tcTables nBuf tb) → BufTy
  | .hbm, ⟨i, _⟩ => hbmTy i
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v17 : Ref sig .tc := ⟨.hbm, 41, rfl⟩
abbrev main_v18 : Ref sig .tc := ⟨.hbm, 42, rfl⟩
abbrev main_c_0 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst : Ref sig .tc := ⟨.hbm, 68, rfl⟩
abbrev main_v23 : Ref sig .tc := ⟨.hbm, 69, rfl⟩
abbrev main_v24 : Ref sig .tc := ⟨.hbm, 70, rfl⟩
abbrev main_cst_1 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst_2 : Ref sig .tc := ⟨.hbm, 90, rfl⟩
abbrev main_v43 : Ref sig .tc := ⟨.hbm, 91, rfl⟩
abbrev main_v44 : Ref sig .tc := ⟨.hbm, 92, rfl⟩
abbrev main_cst_3 : Ref sig .tc := ⟨.hbm, 93, rfl⟩
abbrev main_v45 : Ref sig .tc := ⟨.hbm, 94, rfl⟩
abbrev main_v46 : Ref sig .tc := ⟨.hbm, 95, rfl⟩
abbrev main_cst_4 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_5 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_6 : Ref sig .tc := ⟨.hbm, 139, rfl⟩
abbrev main_v88 : Ref sig .tc := ⟨.hbm, 140, rfl⟩
abbrev main_v89 : Ref sig .tc := ⟨.hbm, 141, rfl⟩
abbrev main_cst_7 : Ref sig .tc := ⟨.hbm, 142, rfl⟩
abbrev main_v90 : Ref sig .tc := ⟨.hbm, 143, rfl⟩
abbrev main_v91 : Ref sig .tc := ⟨.hbm, 144, rfl⟩
abbrev main_cst_8 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_c_9 : Ref sig .tc := ⟨.hbm, 192, rfl⟩
abbrev main_call2_v0 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_call3_v0 : Ref sig .tc := ⟨.hbm, 215, rfl⟩
abbrev main_call3_v1 : Ref sig .tc := ⟨.hbm, 216, rfl⟩
abbrev main_call3_cst : Ref sig .tc := ⟨.hbm, 217, rfl⟩
abbrev main_call3_v2 : Ref sig .tc := ⟨.hbm, 218, rfl⟩
abbrev main_call3_v3 : Ref sig .tc := ⟨.hbm, 219, rfl⟩
abbrev main_call3_cst_0 : Ref sig .tc := ⟨.hbm, 220, rfl⟩
abbrev main_call3_v4 : Ref sig .tc := ⟨.hbm, 221, rfl⟩
abbrev main_call3_v5 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_cst_10 : Ref sig .tc := ⟨.hbm, 229, rfl⟩
abbrev main_v165 : Ref sig .tc := ⟨.hbm, 230, rfl⟩
abbrev main_v166 : Ref sig .tc := ⟨.hbm, 231, rfl⟩
abbrev main_cst_11 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_cst_12 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_cst_13 : Ref sig .tc := ⟨.hbm, 243, rfl⟩
abbrev main_v176 : Ref sig .tc := ⟨.hbm, 244, rfl⟩
abbrev main_v177 : Ref sig .tc := ⟨.hbm, 245, rfl⟩
abbrev main_cst_14 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_cst_15 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩

abbrev nD : Nat := 1
abbrev τ : Topo := Topo.v7x

variable {F : FTy → Type} [FloatOps F]
-- ==== Proof.Softmax.lean ====
module

public import Idealize.ShloMosaic.Lib.Pointwise
public import Idealize.ShloMosaic.PureOps.Ideal.Laws

@[expose] public section

set_option maxRecDepth 16384

noncomputable section

namespace Cert.Softmax

open Idealize.ShloMosaic

/-- A finite sum of reals, read as an extended real, is the sum of the terms read so. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals times a nonnegative real is the sum of the products. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The pattern of minus infinity. -/
theorem ofBits_bot : Ideal.ofBits .f32 0xFF800000#32 = ⊥ := by
  simp [Ideal.ofBits, Ideal.ieee]

/-- The pattern of plus infinity. -/
theorem ofBits_top : Ideal.ofBits .f32 0x7F800000#32 = ⊤ := by
  simp [Ideal.ofBits, Ideal.ieee]

/-- The pattern of one eighth. -/
theorem ofBits_eighth : Ideal.ofBits .f32 0x3E000000#32 = ((1 / 8 : ℝ) : EReal) := by
  simp [Ideal.ofBits, Ideal.ieee, -EReal.coe_mul]
  norm_num

/-- The maximum of finitely many reals, taken from minus infinity up, is a real. -/
theorem max_real {n : ℕ} (hn : 0 < n) (r : Fin n → ℝ) :
    ∃ M : ℝ, Finset.univ.fold max (⊥ : EReal) (fun j => (r j : EReal)) = (M : EReal) := by
  have h1 : Finset.univ.fold max (⊥ : EReal) (fun j => (r j : EReal)) < ⊤ :=
    (Finset.fold_max_lt _).mpr ⟨bot_lt_top, fun x _ => EReal.coe_lt_top _⟩
  have h2 : ((r ⟨0, hn⟩ : ℝ) : EReal) ≤ Finset.univ.fold max (⊥ : EReal) (fun j => (r j : EReal)) :=
    (Finset.le_fold_max _).mpr (Or.inr ⟨⟨0, hn⟩, Finset.mem_univ _, le_refl _⟩)
  refine ⟨_, (EReal.coe_toReal h1.ne ?_).symm⟩
  intro h
  rw [h] at h2
  exact absurd h2 (not_le.mpr (EReal.bot_lt_coe _))

/-- One element of an attention row: the values `v` weighted by the exponentials of the scores less their maximum,
    divided by the exponentials' sum at the end. -/
def late {n : ℕ} (s v : Fin n → EReal) : EReal :=
  Ideal.div (∑ j, Ideal.exp (s j - Finset.univ.fold max ⊥ s) * v j)
    (∑ j, Ideal.exp (s j - Finset.univ.fold max ⊥ s))

/-- The same with each weight divided by the sum before it meets its value. -/
def early {n : ℕ} (s v : Fin n → EReal) : EReal :=
  ∑ j, v j * Ideal.div (Ideal.exp (s j - Finset.univ.fold max ⊥ s)) (∑ j, Ideal.exp (s j - Finset.univ.fold max ⊥ s))

/-- Where every score is a real number the two are equal, whatever the values are: the sum of the exponentials is then
    a positive real, and dividing by one distributes over a sum of extended reals. -/
theorem late_eq_early {n : ℕ} (hn : 0 < n) (s v : Fin n → EReal) (hs : ∀ j, ∃ r : ℝ, s j = (r : EReal)) :
    late s v = early s v := by
  choose r hr using hs
  obtain rfl : s = fun j => (r j : EReal) := funext hr
  obtain ⟨M, hM⟩ := max_real hn r
  unfold late early
  rw [hM]
  have he : ∀ j, Ideal.exp ((r j : EReal) - (M : EReal)) = ((Real.exp (r j - M) : ℝ) : EReal) := fun j => by
    rw [← EReal.coe_sub, Ideal.exp_coe]
  simp only [he]
  rw [← coe_sum]
  have hpos : 0 < ∑ j, Real.exp (r j - M) :=
    Finset.sum_pos (fun j _ => Real.exp_pos _) ⟨⟨0, hn⟩, Finset.mem_univ _⟩
  rw [Ideal.div_coe hpos.ne', sum_mul_real _ _ (by positivity)]
  refine Finset.sum_congr rfl fun j _ => ?_
  rw [Ideal.div_coe hpos.ne', mul_right_comm, mul_comm (v j)]

/-- A sum of products of reals is a real. -/
theorem sum_mul_isReal {ι : Type} [Fintype ι] (f g : ι → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [coe_sum]
  exact Finset.sum_congr rfl fun i _ => by rw [ha, hb, EReal.coe_mul]

/-- Both tables of scores at once: the scores with the scale on the query side are the scores with the scale outside. -/
theorem score_eq {ι : Type} [Fintype ι] (q k : ι → EReal) :
    ∑ d, (q d * Ideal.ofBits .f32 0x3E000000#32) * k d = (∑ d, k d * q d) * Ideal.ofBits .f32 0x3E000000#32 := by
  rw [ofBits_eighth, sum_mul_real _ _ (by norm_num)]
  refine Finset.sum_congr rfl fun d _ => ?_
  rw [mul_comm _ (k d), ← mul_assoc]

/-- A number whose absolute value is below infinity is a real. -/
theorem isReal_of_abs_lt {x : EReal} (h : max x (-x) < ⊤) : ∃ r : ℝ, x = r := by
  have h1 := (max_lt_iff.mp h).1
  have h2 := (max_lt_iff.mp h).2
  refine ⟨x.toReal, (EReal.coe_toReal h1.ne ?_).symm⟩
  rintro rfl
  simp at h2

end Cert.Softmax
-- ==== Proof.GqaBlock.lean ====
module

public import proofs.«01_k».proof.Proof.Gen.GqaIdeal.Value
public import proofs.«01_k».proof.Proof.Softmax
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.GqaBlock

open Cert.GqaIdeal Cert.GqaIdeal.Gen

/-- The body's stacked queries: four blocks of 64 rows, one per query head of a pair of pairs, each zero on the half of the
    lanes that belongs to the pair's other head. -/
def qstack (a b : Vec Ideal S1x64x128 .bf16) : FVec Ideal S256x128 .bf16 :=
  concatenate S256x128 0
    [⟨S64x128, select k0_pay3 (shapeCast S64x128 a shapeCasts_S1x64x128_S64x128) (broadcast S64x128 (Scalar.ofBits (F := Ideal) .bf16 0x0000#16))⟩,
      ⟨S64x128, select k0_pay3 (broadcast S64x128 (Scalar.ofBits (F := Ideal) .bf16 0x0000#16)) (shapeCast S64x128 a shapeCasts_S1x64x128_S64x128)⟩,
      ⟨S64x128, select k0_pay3 (shapeCast S64x128 b shapeCasts_S1x64x128_S64x128) (broadcast S64x128 (Scalar.ofBits (F := Ideal) .bf16 0x0000#16))⟩,
      ⟨S64x128, select k0_pay3 (broadcast S64x128 (Scalar.ofBits (F := Ideal) .bf16 0x0000#16)) (shapeCast S64x128 b shapeCasts_S1x64x128_S64x128)⟩]
    concatenates_S64x128_S64x128_S64x128_S64x128_S256x128_d0

/-- A row of the body's attention, over any blocks: the weighted values divided by the sum of the weights, the scores those
    of the stacked query row. -/
theorem pay_late (a b : Vec Ideal S1x64x128 .bf16) (kt : Vec Ideal S1x128x8192 .bf16) (v : Vec Ideal S1x8192x128 .bf16)
    (R : Fin 256) (l : Fin 128) :
    k0_pay4 a b kt v (ix2 R l)
      = Softmax.late (fun j : Fin 8192 => ∑ x : Fin 128, qstack a b (ix2 R x) * kt (ix3 0 x j)) (fun j => v (ix3 0 j l)) := by
  unfold Softmax.late
  rw [← Softmax.ofBits_bot]
  unfold k0_pay4
  generalize hQ : concatenate S256x128 0 [⟨S64x128, _⟩, ⟨S64x128, _⟩, ⟨S64x128, _⟩, ⟨S64x128, _⟩] concatenates_S64x128_S64x128_S64x128_S64x128_S256x128_d0 = Q
  obtain rfl : qstack a b = Q := hQ
  generalize qstack a b = Q
  pointwise

/-- The body's lane mask: a lane counts as the pair's first head exactly below 64. -/
theorem lane_mask : ∀ l : Fin 128, IntOp.cmpi CmpIPredicate.slt (BitVec.ofNat 32 l.val) 64#32 = if l.val < 64 then 1#1 else 0#1 := by
  decide +kernel

/-- A select under the lane mask takes its first operand exactly on the lanes below 64. -/
theorem select_lane {α : Type} (l : Fin 128) (x y : α) :
    Scalar.select (IntOp.cmpi CmpIPredicate.slt (BitVec.ofNat 32 l.val) 64#32) x y = if l.val < 64 then x else y := by
  rw [lane_mask]
  unfold Scalar.select
  split_ifs <;> first | rfl | contradiction

/-- The stacked queries' first 64 rows: the first pair's even head. -/
theorem qstack0 (a b : Vec Ideal S1x64x128 .bf16) (r : Fin 64) (l : Fin 128) :
    qstack a b (ix2 ⟨r.val, by omega⟩ l) = (if l.val < 64 then a (ix3 0 r l) else 0) := by
  unfold qstack k0_pay3
  pointwise
  exact select_lane l _ _

/-- The next 64 rows: the first pair's odd head. -/
theorem qstack1 (a b : Vec Ideal S1x64x128 .bf16) (r : Fin 64) (l : Fin 128) :
    qstack a b (ix2 ⟨64 + r.val, by omega⟩ l) = (if l.val < 64 then 0 else a (ix3 0 r l)) := by
  unfold qstack k0_pay3
  pointwise
  exact select_lane l _ _

/-- The next 64 rows: the second pair's even head. -/
theorem qstack2 (a b : Vec Ideal S1x64x128 .bf16) (r : Fin 64) (l : Fin 128) :
    qstack a b (ix2 ⟨128 + r.val, by omega⟩ l) = (if l.val < 64 then b (ix3 0 r l) else 0) := by
  unfold qstack k0_pay3
  pointwise
  simp only [select_lane]
  split_ifs <;> first | omega | rfl | exact congrArg b (by idx_ext)

/-- The last 64 rows: the second pair's odd head. -/
theorem qstack3 (a b : Vec Ideal S1x64x128 .bf16) (r : Fin 64) (l : Fin 128) :
    qstack a b (ix2 ⟨192 + r.val, by omega⟩ l) = (if l.val < 64 then 0 else b (ix3 0 r l)) := by
  unfold qstack k0_pay3
  pointwise
  simp only [select_lane]
  split_ifs <;> first | omega | rfl | exact congrArg b (by idx_ext)

/-- A sum over 128 lanes of which only the lower half counts. -/
theorem sum_low (f : Fin 128 → EReal) (k : Fin 128 → EReal) :
    ∑ x : Fin 128, (if x.val < 64 then f x else 0) * k x = ∑ d : Fin 64, f ⟨d.val, by omega⟩ * k ⟨d.val, by omega⟩ := by
  refine (Fin.sum_univ_add (a := 64) (b := 64) _).trans ?_
  simp
  rfl

/-- A sum over 128 lanes of which only the upper half counts. -/
theorem sum_high (f : Fin 128 → EReal) (k : Fin 128 → EReal) :
    ∑ x : Fin 128, (if x.val < 64 then 0 else f x) * k x
      = ∑ d : Fin 64, f ⟨64 + d.val, by omega⟩ * k ⟨64 + d.val, by omega⟩ := by
  refine (Fin.sum_univ_add (a := 64) (b := 64) _).trans ?_
  simp
  refine Finset.sum_congr rfl fun d _ => ?_
  rw [show Fin.addNat d 64 = (⟨64 + d.val, by omega⟩ : Fin 128) from Fin.ext (Nat.add_comm _ _)]

/-- One element of one query head's attention over a block: the head is the half of the 128 lanes that lane `l` is in. -/
def headAt (a : Vec Ideal S1x64x128 .bf16) (kt : Vec Ideal S1x128x8192 .bf16) (v : Vec Ideal S1x8192x128 .bf16)
    (r : Fin 64) (l : Fin 128) : EReal :=
  Softmax.late (fun j : Fin 8192 => ∑ d : Fin 64, a (ix3 0 r ⟨64 * (l.val / 64) + d.val, by omega⟩)
      * kt (ix3 0 ⟨64 * (l.val / 64) + d.val, by omega⟩ j)) (fun j => v (ix3 0 j l))

/-- The rows for the lanes of a pair's even head. -/
theorem head_low (a b q : Vec Ideal S1x64x128 .bf16) (kt : Vec Ideal S1x128x8192 .bf16) (v : Vec Ideal S1x8192x128 .bf16)
    (R : Fin 256) (r : Fin 64) (l : Fin 128) (hl : l.val < 64)
    (hq : ∀ x, qstack a b (ix2 R x) = if x.val < 64 then q (ix3 0 r x) else 0) :
    k0_pay4 a b kt v (ix2 R l) = headAt q kt v r l := by
  rw [pay_late]
  unfold headAt
  congr 1
  funext j
  simp only [hq]
  rw [sum_low (fun x => q (ix3 0 r x)) (fun x => kt (ix3 0 x j))]
  refine Finset.sum_congr rfl fun d _ => ?_
  have e : l.val / 64 = 0 := by omega
  congr 3 <;> simp [e]

/-- The rows for the lanes of a pair's odd head. -/
theorem head_high (a b q : Vec Ideal S1x64x128 .bf16) (kt : Vec Ideal S1x128x8192 .bf16) (v : Vec Ideal S1x8192x128 .bf16)
    (R : Fin 256) (r : Fin 64) (l : Fin 128) (hl : ¬ l.val < 64)
    (hq : ∀ x, qstack a b (ix2 R x) = if x.val < 64 then 0 else q (ix3 0 r x)) :
    k0_pay4 a b kt v (ix2 R l) = headAt q kt v r l := by
  rw [pay_late]
  unfold headAt
  congr 1
  funext j
  simp only [hq]
  rw [sum_high (fun x => q (ix3 0 r x)) (fun x => kt (ix3 0 x j))]
  refine Finset.sum_congr rfl fun d _ => ?_
  have e : l.val / 64 = 1 := by omega
  congr 3 <;> simp [e]

/-- The first stored piece of a group of four heads. -/
theorem piece_even (a b : Vec Ideal S1x64x128 .bf16) (kt : Vec Ideal S1x128x8192 .bf16) (v : Vec Ideal S1x8192x128 .bf16)
    (r : Fin 64) (l : Fin 128) : k0_pay6 (k0_pay5 a b kt v) (ix3 0 r l) = headAt a kt v r l := by
  unfold k0_pay6 k0_pay5 k0_pay3
  generalize hp : k0_pay4 a b kt v = p
  pointwise
  rw [select_lane]
  subst hp
  split_ifs with h
  · exact head_low a b a kt v _ r l h (qstack0 a b r)
  · exact head_high a b a kt v _ r l h (qstack1 a b r)

/-- The second stored piece of a group of four heads. -/
theorem piece_odd (a b : Vec Ideal S1x64x128 .bf16) (kt : Vec Ideal S1x128x8192 .bf16) (v : Vec Ideal S1x8192x128 .bf16)
    (r : Fin 64) (l : Fin 128) : k0_pay7 k0_pay3 (k0_pay4 a b kt v) (ix3 0 r l) = headAt b kt v r l := by
  unfold k0_pay7 k0_pay3
  generalize hp : k0_pay4 a b kt v = p
  pointwise
  rw [select_lane]
  subst hp
  split_ifs with h
  · exact head_low a b b kt v _ r l h (qstack2 a b r)
  · exact head_high a b b kt v _ r l h (qstack3 a b r)

/-- A head of a stored piece, its operands read from the whole blocks: the piece is 128-lane piece `P` of the 512, its keys
    and values are those of group `P / 2`. -/
theorem headAt_eq (x0 : Vec Ideal S1x64x512 .bf16) (x1 : Vec Ideal S1x256x8192 .bf16) (x2 : Vec Ideal S1x8192x256 .bf16)
    (a : Vec Ideal S1x64x128 .bf16) (kt : Vec Ideal S1x128x8192 .bf16) (v : Vec Ideal S1x8192x128 .bf16) (P : ℕ)
    (hP : P < 4)
    (ha : ∀ (r : Fin 64) (l : Fin 128), a (ix3 0 r l) = x0 (ix3 0 r ⟨128 * P + l.val, by omega⟩))
    (hk : ∀ (l : Fin 128) (j : Fin 8192), kt (ix3 0 l j) = x1 (ix3 0 ⟨128 * (P / 2) + l.val, by omega⟩ j))
    (hv : ∀ (j : Fin 8192) (l : Fin 128), v (ix3 0 j l) = x2 (ix3 0 j ⟨128 * (P / 2) + l.val, by omega⟩))
    (r : Fin 64) (l : Fin 128) (c : Fin 512) (hc : c.val = 128 * P + l.val) :
    headAt a kt v r l
      = Softmax.late (fun j : Fin 8192 => ∑ d : Fin 64, x0 (ix3 0 r ⟨64 * (c.val / 64) + d.val, by omega⟩)
          * x1 (ix3 0 ⟨128 * (c.val / 256) + 64 * (c.val / 64 % 2) + d.val, by omega⟩ j))
        (fun j => x2 (ix3 0 j ⟨128 * (c.val / 256) + c.val % 128, by omega⟩)) := by
  unfold headAt
  simp only [ha, hk, hv]
  congr 1
  · funext j
    refine Finset.sum_congr rfl fun d _ => ?_
    congr 3
    · refine Fin.ext ?_
      show 128 * P + (64 * (l.val / 64) + d.val) = 64 * (c.val / 64) + d.val
      omega
    · refine Fin.ext ?_
      show 128 * (P / 2) + (64 * (l.val / 64) + d.val) = 128 * (c.val / 256) + 64 * (c.val / 64 % 2) + d.val
      omega
  · funext j
    congr 2
    refine Fin.ext ?_
    show 128 * (P / 2) + l.val = 128 * (c.val / 256) + c.val % 128
    omega

/-- The block the body leaves, element by element: lane `c` of the 512 is query head `c / 64`, whose keys and values are
    those of the group `c / 256`. -/
theorem out_at (x0 : Vec Ideal S1x64x512 .bf16) (x1 : Vec Ideal S1x256x8192 .bf16) (x2 : Vec Ideal S1x8192x256 .bf16)
    (r : Fin 64) (c : Fin 512) :
    out0_3 x0 x1 x2 (ix3 0 r c)
      = Softmax.late (fun j : Fin 8192 => ∑ d : Fin 64, x0 (ix3 0 r ⟨64 * (c.val / 64) + d.val, by omega⟩)
          * x1 (ix3 0 ⟨128 * (c.val / 256) + 64 * (c.val / 64 % 2) + d.val, by omega⟩ j))
        (fun j => x2 (ix3 0 j ⟨128 * (c.val / 256) + c.val % 128, by omega⟩)) := by
  unfold out0_3
  canon_tiles y h
  case piece0 =>
    obtain ⟨p, q, rfl⟩ : ∃ (p : Fin 64) (q : Fin 128), y = ix3 0 p q := ⟨y 1, y 2, by idx_ext⟩
    obtain rfl : r = p := Fin.ext h1
    refine (piece_odd (View.ld x0 r0_4) (View.ld x0 r0_5) (View.ld x1 r0_6) (View.ld x2 r0_7) r q).trans
      (headAt_eq x0 x1 x2 _ _ _ 3 (by decide) ?_ ?_ ?_ r q c h2)
    all_goals
      intros
      refine View.ld_unit_apply_of _ _ _ _ _ _ fun a => ?_
      fin_cases a <;> simp
  case piece1 =>
    obtain ⟨p, q, rfl⟩ : ∃ (p : Fin 64) (q : Fin 128), y = ix3 0 p q := ⟨y 1, y 2, by idx_ext⟩
    obtain rfl : r = p := Fin.ext h1
    refine (piece_even (View.ld x0 r0_4) (View.ld x0 r0_5) (View.ld x1 r0_6) (View.ld x2 r0_7) r q).trans
      (headAt_eq x0 x1 x2 _ _ _ 2 (by decide) ?_ ?_ ?_ r q c h2)
    all_goals
      intros
      refine View.ld_unit_apply_of _ _ _ _ _ _ fun a => ?_
      fin_cases a <;> simp
  case piece2 =>
    obtain ⟨p, q, rfl⟩ : ∃ (p : Fin 64) (q : Fin 128), y = ix3 0 p q := ⟨y 1, y 2, by idx_ext⟩
    obtain rfl : r = p := Fin.ext h1
    refine (piece_odd (View.ld x0 r0_0) (View.ld x0 r0_1) (View.ld x1 r0_2) (View.ld x2 r0_3) r q).trans
      (headAt_eq x0 x1 x2 _ _ _ 1 (by decide) ?_ ?_ ?_ r q c h2)
    all_goals
      intros
      refine View.ld_unit_apply_of _ _ _ _ _ _ fun a => ?_
      fin_cases a <;> simp
  case piece3 =>
    obtain ⟨p, q, rfl⟩ : ∃ (p : Fin 64) (q : Fin 128), y = ix3 0 p q := ⟨y 1, y 2, by idx_ext⟩
    obtain rfl : r = p := Fin.ext h1
    refine (piece_even (View.ld x0 r0_0) (View.ld x0 r0_1) (View.ld x1 r0_2) (View.ld x2 r0_3) r q).trans
      (headAt_eq x0 x1 x2 _ _ _ 0 (by decide) ?_ ?_ ?_ r q c (h2.trans (by simp)))
    all_goals
      intros
      refine View.ld_unit_apply_of _ _ _ _ _ _ fun a => ?_
      fin_cases a <;> simp

end Cert.GqaBlock
-- ==== Proof.GqaRef.lean ====
module

public import proofs.«01_k».proof.Proof.Gen.GqaIdeal.Value
public import proofs.«01_k».proof.Proof.Gen.GqaRefIdeal.Read
public import proofs.«01_k».proof.Proof.GqaBlock
public import Idealize.ShloMosaic.Lib.Pointwise
public import Idealize.ShloMosaic.Lib.Pipeline.ValueKit

@[expose] public section

set_option maxRecDepth 16384
set_option maxHeartbeats 2000000

noncomputable section

open Idealize.ShloMosaic Idealize.ShloMosaic.TcCoe Idealize.SL.Sem
open Idealize.ShloMosaic.Pipeline (Dat)

namespace Cert.GqaIdeal.RefValue

open Cert.GqaIdeal Cert.GqaIdeal.Gen

/-- The reference's result as a function of the three arguments. -/
abbrev REF (Q : FVec Ideal S10x8192x8x64 .f32) (K W : FVec Ideal S10x8192x2x64 .f32) : FVec Ideal S10x8192x512 .bf16 :=
  Cert.GqaRefIdeal.Read.val_main_v19 (F := Ideal) Q K W

/-- The scores of one query row against every key, scaled after the dot product. -/
def scoreOf (Q : FVec Ideal S10x8192x8x64 .f32) (K : FVec Ideal S10x8192x2x64 .f32) (b : Fin 10) (s : Fin 8192) (c : Fin 512)
    (j : Fin 8192) : EReal :=
  (∑ d : Fin 64, K (ix4 b j ⟨c.val / 256, by omega⟩ d) * Q (ix4 b s ⟨c.val / 64, by omega⟩ d)) * Ideal.ofBits .f32 0x3E000000#32

open Cert.GqaRefIdeal.Read in
/-- The reference's scores at an index. -/
theorem ref_score (Q : FVec Ideal S10x8192x8x64 .f32) (K : FVec Ideal S10x8192x2x64 .f32) (b : Fin 10) (s : Fin 8192) (c : Fin 512)
    (j : Fin 8192) :
    val_main_v4 (F := Ideal) Q K (ix5 b ⟨c.val / 256, by omega⟩ ⟨c.val / 64 % 4, by omega⟩ s j) = scoreOf Q K b s c j := by
  unfold scoreOf
  unfold val_main_v4 val_main_v3 val_main_v2 val_main_v1 val_main_v0 val_main_cst
  pointwise
  congr 1
  refine Finset.sum_congr rfl fun d _ => ?_
  congr 1
  blk_ext

/-- The bottom of the extended reals is no maximum. -/
theorem bot_max (x : EReal) : max ⊥ x = x := max_eq_right bot_le

open Cert.GqaRefIdeal in
/-- A maximum over the last of five axes, at an index: the fold of `max` along that axis. -/
theorem reduce_max (A : FVec Ideal S10x2x4x8192x8192 .f32) (e : FVec Ideal S_ .f32)
    (h0 : S10x2x4x8192x8192.ReducesTo [4] S10x2x4x8192) (hu : 0 < S_.numel) (b : Fin 10) (s : Fin 8192) (g : Fin 2) (h : Fin 4) :
    Host.reduce FloatOps.maximumf A e h0 hu (ix4 b g h s)
      = Finset.univ.fold max (e (Shape.Idx.first hu)) (fun x => A (ix5 b g h s x)) := by
  simp only [pointwise]

section Ref

open Cert.GqaRefIdeal.Read

variable (Q : FVec Ideal S10x8192x8x64 .f32) (K W : FVec Ideal S10x8192x2x64 .f32) (b : Fin 10) (s : Fin 8192)

/-- The reference's row maximum. -/
theorem ref_max (g : Fin 2) (h : Fin 4) :
    val_main_v7 (F := Ideal) Q K (ix4 b g h s)
      = Finset.univ.fold max ⊥ (fun j : Fin 8192 => val_main_v4 (F := Ideal) Q K (ix5 b g h s j)) := by
  have e1 : val_main_v7 (F := Ideal) Q K (ix4 b g h s)
      = max (val_main_v6 (F := Ideal) (ix4 b g h s)) (val_main_v5 (F := Ideal) Q K (ix4 b g h s)) := by
    rw [val_main_v7_apply, Ideal.maximumf_eq_max]
  have e0 : val_main_v6 (F := Ideal) (ix4 b g h s) = Ideal.ofBits .f32 0xFF800000#32 := by
    unfold val_main_v6 val_main_cst_1
    pointwise
  have e2 : val_main_v5 (F := Ideal) Q K (ix4 b g h s)
      = Finset.univ.fold max ⊥ (fun j : Fin 8192 => val_main_v4 (F := Ideal) Q K (ix5 b g h s j)) := by
    unfold val_main_v5
    generalize val_main_v4 (F := Ideal) Q K = A
    have hc : val_main_cst_0 (F := Ideal) (Shape.Idx.first (by decide : 0 < Cert.GqaRefIdeal.S_.numel)) = ⊥ := Softmax.ofBits_bot
    generalize val_main_cst_0 (F := Ideal) = E at hc ⊢
    rw [reduce_max, hc]
  rw [e1, e2, e0, Softmax.ofBits_bot, bot_max]

/-- The exponential of a score less its row's maximum. -/
theorem ref_exp (g : Fin 2) (h : Fin 4) (j : Fin 8192) :
    val_main_v11 (F := Ideal) Q K (ix5 b g h s j)
      = Ideal.exp (val_main_v4 (F := Ideal) Q K (ix5 b g h s j) - val_main_v7 (F := Ideal) Q K (ix4 b g h s)) := by
  unfold val_main_v11 val_main_v10 val_main_v9 val_main_v8
  generalize val_main_v4 (F := Ideal) Q K = A
  generalize val_main_v7 (F := Ideal) Q K = B
  pointwise

/-- A row's sum of exponentials. -/
theorem ref_sum (g : Fin 2) (h : Fin 4) :
    val_main_v12 (F := Ideal) Q K (ix4 b g h s) = ∑ j : Fin 8192, val_main_v11 (F := Ideal) Q K (ix5 b g h s j) := by
  unfold val_main_v12 val_main_cst_2
  generalize val_main_v11 (F := Ideal) Q K = A
  pointwise

/-- A weight: the exponential over its row's sum. -/
theorem ref_weight (g : Fin 2) (h : Fin 4) (j : Fin 8192) :
    val_main_v15 (F := Ideal) Q K (ix5 b g h s j)
      = Ideal.div (val_main_v11 (F := Ideal) Q K (ix5 b g h s j)) (val_main_v12 (F := Ideal) Q K (ix4 b g h s)) := by
  unfold val_main_v15 val_main_v14 val_main_v13
  generalize val_main_v11 (F := Ideal) Q K = A
  generalize val_main_v12 (F := Ideal) Q K = B
  pointwise

/-- The result: the weights' sum of the values. -/
theorem ref_out (c : Fin 512) :
    val_main_v19 (F := Ideal) Q K W (ix3 b s c)
      = ∑ j : Fin 8192, W (ix4 b j ⟨c.val / 256, by omega⟩ ⟨c.val % 64, by omega⟩) *
         val_main_v15 (F := Ideal) Q K (ix5 b ⟨c.val / 256, by omega⟩ ⟨c.val / 64 % 4, by omega⟩ s j) := by
  unfold val_main_v19 val_main_v18 val_main_v17 val_main_v16
  generalize val_main_v15 (F := Ideal) Q K = A
  pointwise

/-- The reference's result at an index: every weight divided by the row's sum before it meets its value. -/
theorem ref_early (c : Fin 512) :
    REF Q K W (ix3 b s c)
      = Softmax.early (scoreOf Q K b s c) (fun j => W (ix4 b j ⟨c.val / 256, by omega⟩ ⟨c.val % 64, by omega⟩)) := by
  unfold Softmax.early
  refine (ref_out Q K W b s c).trans (Finset.sum_congr rfl fun j _ => ?_)
  rw [ref_weight, ref_sum]
  simp only [ref_exp, ref_max, ref_score]

end Ref

/-- The block the body leaves is the reference's, given what its three operand blocks hold: the scaled queries of the row, and
    each key and value head twice. -/
theorem block_ref (x0 : Vec Ideal S1x64x512 .bf16) (x1 : Vec Ideal S1x256x8192 .bf16) (x2 : Vec Ideal S1x8192x256 .bf16)
    (Q : FVec Ideal S10x8192x8x64 .f32) (K W : FVec Ideal S10x8192x2x64 .f32) (b : Fin 10) (s : Fin 8192) (r : Fin 64) (l : Fin 512)
    (h0 : ∀ n : Fin 512, x0 (ix3 0 r n) = Q (ix4 b s ⟨n.val / 64, by omega⟩ ⟨n.val % 64, by omega⟩) * Ideal.ofBits .f32 0x3E000000#32)
    (h1 : ∀ (n : Fin 256) (j : Fin 8192), x1 (ix3 0 n j) = K (ix4 b j ⟨n.val / 128, by omega⟩ ⟨n.val % 64, by omega⟩))
    (h2 : ∀ (j : Fin 8192) (n : Fin 256), x2 (ix3 0 j n) = W (ix4 b j ⟨n.val / 128, by omega⟩ ⟨n.val % 64, by omega⟩))
    (hq : ∀ i, ∃ z : ℝ, Q i = (z : EReal)) (hk : ∀ i, ∃ z : ℝ, K i = (z : EReal)) :
    out0_3 x0 x1 x2 (ix3 0 r l) = REF Q K W (ix3 b s l) := by
  rw [ref_early]
  refine (GqaBlock.out_at _ _ _ r l).trans ?_
  have hs : (fun j : Fin 8192 => ∑ d : Fin 64, x0 (ix3 0 r ⟨64 * (l.val / 64) + d.val, by omega⟩)
        * x1 (ix3 0 ⟨128 * (l.val / 256) + 64 * (l.val / 64 % 2) + d.val, by omega⟩ j)) = scoreOf Q K b s l := by
    funext j
    unfold scoreOf
    rw [← Softmax.score_eq]
    simp only [h0, h1]
    refine Finset.sum_congr rfl fun d _ => congrArg₂ (fun q k => q * Ideal.ofBits .f32 0x3E000000#32 * k) ?_ ?_
    · exact congrArg Q (by idx_ext)
    · exact congrArg K (by idx_ext)
  have hv : (fun j : Fin 8192 => x2 (ix3 0 j ⟨128 * (l.val / 256) + l.val % 128, by omega⟩))
      = fun j => W (ix4 b j ⟨l.val / 256, by omega⟩ ⟨l.val % 64, by omega⟩) := by
    funext j
    rw [h2]
    exact congrArg W (by idx_ext)
  refine (congrArg₂ Softmax.late hs hv).trans (Softmax.late_eq_early (by decide) _ _ fun j => ?_)
  obtain ⟨z, hz⟩ := Softmax.sum_mul_isReal (fun d : Fin 64 => K (ix4 b j ⟨l.val / 256, by omega⟩ d))
    (fun d : Fin 64 => Q (ix4 b s ⟨l.val / 64, by omega⟩ d)) (fun _ => hk _) (fun _ => hq _)
  unfold scoreOf
  rw [hz, Softmax.ofBits_eighth]
  exact ⟨_, (EReal.coe_mul _ _).symm⟩

end Cert.GqaIdeal.RefValue
-- ==== Proof.GqaReads.lean ====
module

public import proofs.«01_k».proof.Proof.Gen.GqaIdeal.Value
public import Idealize.ShloMosaic.Lib.Pointwise
public import Idealize.ShloMosaic.Lib.StableHlo.RunRead
public import Idealize.ShloMosaic.Lib.Pipeline.ValueKit

@[expose] public section

set_option maxRecDepth 16384
set_option maxHeartbeats 2000000

noncomputable section

open Idealize.ShloMosaic Idealize.ShloMosaic.TcCoe Idealize.SL.Sem
open Idealize.ShloMosaic.Pipeline (Dat)

namespace Cert.GqaIdeal.RefValue

open Cert.GqaIdeal Cert.GqaIdeal.Gen

variable (m : (ℓ : Loc nD τ sig) → Buf (Elt Ideal) ℓ)

/-- The 256 lanes the host assembles from an array of two heads. -/
def twiceOf (a : FVec Ideal S10x8192x2x64 .f32) : FVec Ideal S10x8192x256 .f32 :=
  concatenate S10x8192x256 2
      [⟨S10x8192x64, (shapeCast S10x8192x64 (extractStridedSlice S10x8192x1x64 ![0, 0, 0, 0] a slices_S10x8192x2x64_S10x8192x1x64_0_0_0_0) shapeCasts_S10x8192x1x64_S10x8192x64 : FVec Ideal S10x8192x64 .f32)⟩,
       ⟨S10x8192x64, (shapeCast S10x8192x64 (extractStridedSlice S10x8192x1x64 ![0, 0, 0, 0] a slices_S10x8192x2x64_S10x8192x1x64_0_0_0_0) shapeCasts_S10x8192x1x64_S10x8192x64 : FVec Ideal S10x8192x64 .f32)⟩,
       ⟨S10x8192x64, (shapeCast S10x8192x64 (extractStridedSlice S10x8192x1x64 ![0, 0, 1, 0] a slices_S10x8192x2x64_S10x8192x1x64_0_0_1_0) shapeCasts_S10x8192x1x64_S10x8192x64 : FVec Ideal S10x8192x64 .f32)⟩,
       ⟨S10x8192x64, (shapeCast S10x8192x64 (extractStridedSlice S10x8192x1x64 ![0, 0, 1, 0] a slices_S10x8192x2x64_S10x8192x1x64_0_0_1_0) shapeCasts_S10x8192x1x64_S10x8192x64 : FVec Ideal S10x8192x64 .f32)⟩]
      concatenates_S10x8192x64_S10x8192x64_S10x8192x64_S10x8192x64_S10x8192x256_d2

/-- A concatenation of four pieces, piece by piece. -/
theorem cat_congr {a b c d a' b' c' d' : FVec Ideal S10x8192x64 .f32} (h) (ha : a = a') (hb : b = b') (hc : c = c') (hd : d = d') :
  concatenate S10x8192x256 2 [⟨S10x8192x64, a⟩, ⟨S10x8192x64, b⟩, ⟨S10x8192x64, c⟩, ⟨S10x8192x64, d⟩] h
   = concatenate S10x8192x256 2 [⟨S10x8192x64, a'⟩, ⟨S10x8192x64, b'⟩, ⟨S10x8192x64, c'⟩, ⟨S10x8192x64, d'⟩] h := by subst ha hb hc hd; rfl

/-- Those lanes read at an index: each head twice, 64 lanes a piece. -/
theorem twiceOf_apply (a : FVec Ideal S10x8192x2x64 .f32) (b : Fin 10) (s : Fin 8192) (l : Fin 256) :
    twiceOf a (ix3 b s l) = a (ix4 b s ⟨l.val / 128, by omega⟩ ⟨l.val % 64, by omega⟩) := by
  unfold twiceOf
  pointwise
  split_ifs <;> blk_ext

/-- The scaled queries the region reads. -/
theorem read_q (c : Dev nD) (b : Fin 10) (s : Fin 8192) (l : Fin 512) :
    (V m c main_v3 : FVec Ideal S10x8192x512 .bf16) (ix3 b s l)
      = @HMul.hMul EReal EReal EReal _
          ((m ((c : Thread nD τ).loc main_arg0) : FVec Ideal S10x8192x8x64 .f32) (ix4 b s ⟨l.val / 64, by omega⟩ ⟨l.val % 64, by omega⟩))
          (Ideal.ofBits .f32 0x3E000000#32) := by
  entry_read
  pointwise

/-- The keys' lanes as the region reads them. -/
theorem lanes_k (c : Dev nD) : V m c main_v14
    = truncf FTy.bf16 (transpose S10x256x8192 [0, 2, 1] (twiceOf (m ((c : Thread nD τ).loc main_arg1))) transposes_S10x8192x256_S10x256x8192_0_2_1)
        bitsLt_bf16_f32 := by
  unfold V twiceOf
  after_reads_simp
  dsimp only [Matrix.cons_val_zero, Matrix.cons_val_one, Matrix.cons_val]
  refine congrArg (fun z => truncf FTy.bf16 (transpose S10x256x8192 [0, 2, 1] z transposes_S10x8192x256_S10x256x8192_0_2_1) bitsLt_bf16_f32)
    (cat_congr _ ?_ ?_ ?_ ?_)
  all_goals
    after_reads_simp
    try rfl

/-- The values' lanes as the region reads them. -/
theorem lanes_v (c : Dev nD) : V m c main_v24 = truncf FTy.bf16 (twiceOf (m ((c : Thread nD τ).loc main_arg2))) bitsLt_bf16_f32 := by
  unfold V twiceOf
  after_reads_simp
  dsimp only [Matrix.cons_val_zero, Matrix.cons_val_one, Matrix.cons_val]
  refine congrArg (fun z => truncf FTy.bf16 z bitsLt_bf16_f32) (cat_congr _ ?_ ?_ ?_ ?_)
  all_goals
    after_reads_simp
    try rfl

/-- The keys the region reads: transposed, each key head twice. -/
theorem read_k (c : Dev nD) (b : Fin 10) (s : Fin 8192) (l : Fin 256) :
    (V m c main_v14 : FVec Ideal S10x256x8192 .bf16) (ix3 b l s)
      = (m ((c : Thread nD τ).loc main_arg1) : FVec Ideal S10x8192x2x64 .f32) (ix4 b s ⟨l.val / 128, by omega⟩ ⟨l.val % 64, by omega⟩) := by
  rw [lanes_k]
  pointwise
  exact twiceOf_apply _ b s l

/-- The values the region reads: each value head twice. -/
theorem read_v (c : Dev nD) (b : Fin 10) (s : Fin 8192) (l : Fin 256) :
    (V m c main_v24 : FVec Ideal S10x8192x256 .bf16) (ix3 b s l)
      = (m ((c : Thread nD τ).loc main_arg2) : FVec Ideal S10x8192x2x64 .f32) (ix4 b s ⟨l.val / 128, by omega⟩ ⟨l.val % 64, by omega⟩) := by
  rw [lanes_v]
  pointwise
  exact twiceOf_apply _ b s l

end Cert.GqaIdeal.RefValue
-- ==== Proof.GqaValue.lean ====
module

public import proofs.«01_k».proof.Proof.Gen.GqaIdeal.Value
public import proofs.«01_k».proof.Proof.Gen.GqaRefIdeal.Read
public import proofs.«01_k».proof.Proof.GqaRef
public import proofs.«01_k».proof.Proof.GqaReads
public import Idealize.ShloMosaic.Lib.Pointwise
public import Idealize.ShloMosaic.Lib.Pipeline.ValueKit

@[expose] public section

set_option maxRecDepth 16384
set_option maxHeartbeats 2000000

noncomputable section

open Idealize.ShloMosaic Idealize.ShloMosaic.TcCoe Idealize.SL.Sem
open Idealize.ShloMosaic.Pipeline (Dat)

namespace Cert.GqaIdeal.RefValue

open Cert.GqaIdeal Cert.GqaIdeal.Gen

variable (m : (ℓ : Loc nD τ sig) → Buf (Elt Ideal) ℓ)

/-- What the windows' index maps are at every grid point: the queries and the result move with the batch and the block of
    64 rows, the keys and the values with the batch alone. -/
theorem idx : ∀ t : Fin cfg0.N, win0_0.index t = ![t.val / 128, t.val % 128, 0] ∧ win0_1.index t = ![t.val / 128, 0, 0]
    ∧ win0_2.index t = ![t.val / 128, 0, 0] ∧ win0_3.index t = ![t.val / 128, t.val % 128, 0] :=
  (by decide +kernel : ∀ t : Fin grid0.N, _)

/-- The result array after the run is the reference's result, where every query and every key is a real. -/
theorem final (c : Dev nD)
    (hq : ∀ i, ∃ r : ℝ, (m ((c : Thread nD τ).loc main_arg0) : FVec Ideal S10x8192x8x64 .f32) i = (r : EReal))
    (hk : ∀ i, ∃ r : ℝ, (m ((c : Thread nD τ).loc main_arg1) : FVec Ideal S10x8192x2x64 .f32) i = (r : EReal)) :
    (dats m 0 c).arrAt 3 (cfgs 0).N
      = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  have hN : t.val < 1280 := t.isLt
  obtain ⟨r, l, rfl⟩ : ∃ (r : Fin 64) (l : Fin 512), y = ix3 0 r l := ⟨y 1, y 2, by idx_ext⟩
  have he : ((View.whole main_v25).slice (win0_3.rect t)).emb (ix3 0 r l)
      = (ix3 (⟨t.val / 128, by omega⟩ : Fin 10) (⟨t.val % 128 * 64 + r.val, by omega⟩ : Fin 8192) l : S10x8192x512.Idx) := by
    blk_ext [idx t]
  rw [he]
  refine block_ref _ _ _ _ _ _ _ _ r l (fun n => ?_) (fun n j => ?_) (fun j n => ?_) hq hk
  · refine Eq.trans ?_ (read_q m c _ _ n)
    blk_ext [iblk, idx t]
  · refine Eq.trans ?_ (read_k m c _ j n)
    blk_ext [iblk, idx t]
  · refine Eq.trans ?_ (read_v m c _ j n)
    blk_ext [iblk, idx t]

end Cert.GqaIdeal.RefValue
-- ==== Proof.Finite.lean ====
module

public import proofs.«01_k».proof.Proof.Gen.Pre_scores_finite
public import proofs.«01_k».proof.Proof.Softmax
public import Idealize.ShloMosaic.Lib.Pointwise
public import Idealize.ShloMosaic.Lib.ReduceAll

@[expose] public section

noncomputable section

open Idealize.ShloMosaic

namespace Cert.Finite

/-- A shape of no axes has one index. -/
theorem sub0 (s : Shape) (h : s.rank = 0) : Subsingleton s.Idx :=
  ⟨fun a b => funext fun x => absurd x.isLt (by omega)⟩

/-- An element whose absolute value compares below the infinite literal is a real. -/
theorem real_of_cmp {s : Shape} (x y : FVec Ideal s .f32) (hy : ∀ i, y i = (⊤ : EReal)) (i : s.Idx)
    (h : cmpf .olt (Host.absf x) y i = 1#1) : ∃ r : ℝ, x i = (r : EReal) := by
  refine Softmax.isReal_of_abs_lt ?_
  by_contra hn
  revert h
  show (cmpf .olt (Host.absf x) y i = 1#1 → False)
  pointwise
  rw [hy]
  have h2 : ¬ FloatOps.absf (F := Ideal) (x i) < (⊤ : EReal) := hn
  rw [decide_eq_false h2]
  decide

/-- The attention's precondition, read: every query and every key is a real. -/
theorem scores_real (q : FVec Ideal Pre_scores_finite.S10x8192x8x64 .f32) (k v : FVec Ideal Pre_scores_finite.S10x8192x2x64 .f32)
    (h : Pre_scores_finite.fn (F := Ideal) q k v = fun _ => 1#1) :
    (∀ i, ∃ r : ℝ, q i = (r : EReal)) ∧ (∀ i, ∃ r : ℝ, k i = (r : EReal)) := by
  haveI : Subsingleton Pre_scores_finite.S_.Idx := sub0 _ rfl
  have h0 := congrFun h (fun a => a.elim0)
  unfold Pre_scores_finite.fn at h0
  have h1 := IntOp.andi_eq_one.1 h0
  exact ⟨fun i => real_of_cmp _ _ (fun _ => Softmax.ofBits_top) i (Host.reduce_andi_all _ _ _ _ _ h1.1 i),
    fun i => real_of_cmp _ _ (fun _ => Softmax.ofBits_top) i (Host.reduce_andi_all _ _ _ _ _ h1.2 i)⟩

end Cert.Finite
-- ==== Proof.GqaClaims.lean ====
module

public import proofs.«01_k».proof.Defs
public import proofs.«01_k».proof.Proof.Gen.Gqa.Frame
public import proofs.«01_k».proof.Proof.Gen.GqaIdeal.Frame
public import proofs.«01_k».proof.Proof.Gen.GqaIdeal.Value
public import proofs.«01_k».proof.Proof.Gen.GqaRefIdeal.Run
public import proofs.«01_k».proof.Proof.Gen.GqaRefIdeal.Read
public import proofs.«01_k».proof.Proof.GqaValue
public import proofs.«01_k».proof.Proof.Gen.Pre_scores_finite
public import proofs.«01_k».proof.Proof.Finite
public import Idealize.ShloMosaic.Adequacy
public import Idealize.ShloMosaic.Init
public import Idealize.ShloMosaic.Lib.Quiescent

@[expose] public section

noncomputable section

open Idealize.ShloMosaic Idealize.ShloMosaic.TcCoe Idealize.SL.Sem

namespace Cert.GqaClaims

/-- Grouped-query attention: the launched program ends, leaves its arguments unchanged and every semaphore at zero. -/
theorem frame : Cert.quiescent_Gqa := fun m ρ _ => Cert.Gqa.Gen.frame m ρ

/-- The same of the program at extended reals. -/
theorem frame_ideal : Cert.quiescent_GqaIdeal := fun m ρ _ => Cert.GqaIdeal.Gen.frame m ρ

/-- The same from the memories that the precondition allows. -/
theorem frame_ideal_pre : Cert.quiescent_GqaIdeal_pre_scores_finite := fun m ρ _ => Cert.GqaIdeal.Gen.frame m ρ

/-- The reference's run ends, leaves its arguments unchanged and every semaphore at zero. -/
theorem frame_ref : Cert.quiescent_GqaRefIdeal := fun m ρ _ =>
  (θ_run Cert.GqaRefIdeal.defs _ _).mono (fun r h => ⟨fun c => ⟨(h c).2.1, (h c).2.2.1, (h c).2.2.2⟩,
      Idealize.ShloMosaic.sem_eq_zero_of_no_sems (by decide) r.2⟩)
    (Cert.GqaRefIdeal.Value.run (F := Ideal) m ρ)

/-- The same from the memories that the precondition allows. -/
theorem frame_ref_pre : Cert.quiescent_GqaRefIdeal_pre_scores_finite := fun m ρ _ =>
  (θ_run Cert.GqaRefIdeal.defs _ _).mono (fun r h => ⟨fun c => ⟨(h c).2.1, (h c).2.2.1, (h c).2.2.2⟩,
      Idealize.ShloMosaic.sem_eq_zero_of_no_sems (by decide) r.2⟩)
    (Cert.GqaRefIdeal.Value.run (F := Ideal) m ρ)

/-- The program at extended reals is the printed one, nothing rewritten. -/
theorem preserves : Cert.preserves_Gqa_GqaIdeal := trivial

/-- Grouped-query attention: at extended reals the kernel's result array and the reference's end equal, from arguments that agree. -/
theorem algebraic : Cert.algebraic_GqaIdeal_GqaRefIdeal_pre_scores_finite := by
  intro m ρ m' ρ' hpre hagree
  refine ⟨fun c => Cert.GqaIdeal.RefValue.REF (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)), ?_, ?_⟩
  · refine (θ_run Cert.GqaIdeal.defs _ _).mono (fun r h c => ⟨(h c).1.trans ?_, (h c).2⟩) (Cert.GqaIdeal.Value.run_blocks (F := Ideal) m ρ)
    have hr := Finite.scores_real _ _ _ (hpre c)
    exact Cert.GqaIdeal.RefValue.final m c hr.1 hr.2
  · refine (θ_run Cert.GqaRefIdeal.defs _ _).mono (fun r h c => ⟨(h c).1.trans ?_, (h c).2⟩)
      (Cert.GqaRefIdeal.Value.run (F := Ideal) m' ρ')
    rw [Cert.GqaRefIdeal.Read.val_main_v19_eq, (hagree c).1, (hagree c).2.1, (hagree c).2.2]

end Cert.GqaClaims
-- ==== Proof.Rows.lean ====
module

public import Idealize.ShloMosaic.Lib.Pointwise
public import Idealize.ShloMosaic.PureOps.Ideal.Laws

@[expose] public section

set_option maxRecDepth 16384

noncomputable section

namespace Cert.Rows

open Idealize.ShloMosaic

/-- The mean of a row of 1024 elements. -/
def mean (y : Fin 1024 → EReal) : EReal :=
  Ideal.div (∑ k, y k) (Ideal.ofBits .f32 0x44800000#32)

/-- Element `l` of the layer norm of a row `y` of 1024 elements, with scale `g` and shift `b` there. -/
def lnAt (y : Fin 1024 → EReal) (g b : EReal) (l : Fin 1024) : EReal :=
  (y l - mean y)
      * Ideal.rsqrt (Ideal.div (∑ k, (y k - mean y) * (y k - mean y)) (Ideal.ofBits .f32 0x44800000#32)
          + Ideal.ofBits .f32 0x3727C5AC#32) * g + b

/-- A layer norm depends on its row element by element. -/
theorem lnAt_congr {y y' : Fin 1024 → EReal} {g g' b b' : EReal} (l : Fin 1024) (hy : ∀ k, y k = y' k) (hg : g = g')
    (hb : b = b') : lnAt y g b l = lnAt y' g' b' l := by
  rw [funext hy, hg, hb]

end Cert.Rows
-- ==== Proof.FfnValue.lean ====
module

public import proofs.«01_k».proof.Proof.Gen.FfnIdeal.Value
public import proofs.«01_k».proof.Proof.Gen.FfnRefIdeal.Read
public import proofs.«01_k».proof.Proof.Rows
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.RefValue

open Cert.FfnIdeal Cert.FfnIdeal.Gen

variable (m : (ℓ : Loc nD τ sig) → Buf (Elt Ideal) ℓ)

/-- What the windows' index maps are at every grid point: the token rows, their embeddings and the result move with
    the point, every weight is one whole block. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The reference's result as a function of the nine arguments. -/
abbrev REF (X : FVec Ideal S81920x1024 .f32) (P : FVec Ideal S81920x256 .f32) (Wi : FVec Ideal S1024x5632 .f32)
    (Wo : FVec Ideal S2816x1024 .f32) (Wg : FVec Ideal S1024x1024 .f32) (Bg : FVec Ideal S1024 .f32)
    (Wp : FVec Ideal S256x1024 .f32) (G : FVec Ideal S1024 .f32) (B : FVec Ideal S1024 .f32) : FVec Ideal S81920x1024 .f32 :=
  Cert.FfnRefIdeal.Read.val_main_v45 (F := Ideal) X P Wi Wo Wg Bg Wp G B

open Cert.FfnRefIdeal.Read in
/-- The reference's result at an index: the layer norm of the row of sums before it. -/
theorem ref_ln (X : FVec Ideal S81920x1024 .f32) (P : FVec Ideal S81920x256 .f32) (Wi : FVec Ideal S1024x5632 .f32)
    (Wo : FVec Ideal S2816x1024 .f32) (Wg : FVec Ideal S1024x1024 .f32) (Bg : FVec Ideal S1024 .f32)
    (Wp : FVec Ideal S256x1024 .f32)
    (G : FVec Ideal S1024 .f32) (B : FVec Ideal S1024 .f32) (i : Fin 81920) (l : Fin 1024) :
    REF X P Wi Wo Wg Bg Wp G B (ix2 i l)
      = Rows.lnAt (fun k => val_main_v21 (F := Ideal) X P Wi Wo Wg Bg Wp (ix2 i k)) (G (ix1 l)) (B (ix1 l)) l := by
  unfold REF Rows.lnAt Rows.mean
  unfold val_main_v45 val_main_v44 val_main_v43 val_main_v42 val_main_v41 val_main_v40 val_main_v39 val_main_v38 val_main_v37 val_main_v36 val_main_v35 val_main_cst_6 val_main_v34 val_main_v33 val_main_v32 val_main_v31 val_main_cst_5 val_main_v30 val_main_v29 val_main_cst_4 val_main_v28 val_main_v27 val_main_v26 val_main_v25 val_main_v24 val_main_cst_3 val_main_v23 val_main_v22 val_main_cst_2
  generalize val_main_v21 (F := Ideal) X P Wi Wo Wg Bg Wp = Y
  pointwise

/-- What the body stores at a block index, over any blocks: the layer norm of the row of sums before it. -/
theorem pay_ln (v0 : Vec Ideal S256x1024 .f32) (v2 : Vec Ideal S1024x2816 .bf16) (v5 : Vec Ideal S1024x2816 .bf16)
    (v12 : Vec Ideal S2816x1024 .bf16) (v15 : Vec Ideal S1024x1024 .bf16) (v18 : Vec Ideal S1x1024 .f32)
    (v23 : Vec Ideal S256x256 .f32) (v25 : Vec Ideal S256x1024 .bf16) (v33 v35 : Vec Ideal S1x1024 .f32)
    (r : Fin 256) (l : Fin 1024) :
    k0_pay1 (k0_pay2 v0 v2 v5 v12 v15 v18 v23 v25) (k0_pay3 v33) v35 (ix2 r l)
      = Rows.lnAt (fun k => k0_pay2 v0 v2 v5 v12 v15 v18 v23 v25 (ix2 r k)) (v33 (ix2 0 l)) (v35 (ix2 0 l)) l := by
  unfold Rows.lnAt Rows.mean k0_pay1 k0_pay3
  generalize k0_pay2 v0 v2 v5 v12 v15 v18 v23 v25 = Y
  pointwise

open Cert.FfnRefIdeal.Read in
/-- The row of sums that the body computes at a point is the reference's at the point's rows. -/
theorem pre_point (c : Dev nD) (t : Fin cfg0.N) (r : Fin 256) (k : Fin 1024) (i : Fin 81920) (hi : i.val = t.val * 256 + r.val) :
    k0_pay2 (F := Ideal) (iblk m c 0 t) (iblk m c 2 t) (iblk m c 3 t) (iblk m c 4 t) (iblk m c 5 t) (iblk m c 6 t)
        (iblk m c 1 t) (iblk m c 7 t) (ix2 r k)
      = val_main_v21 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix2 i k) := by
  unfold k0_pay2
  unfold val_main_v21 val_main_v20 val_main_v19 val_main_v18 val_main_cst_1 val_main_v17 val_main_v16 val_main_v15 val_main_v14 val_main_cst_0 val_main_v13 val_main_v12 val_main_cst val_main_v11 val_main_v10 val_main_v9 val_main_v8 val_main_v7 val_main_v6 val_main_v5 val_main_v4 val_main_v3 val_main_call0_v5 val_main_call0_v4 val_main_call0_cst_0 val_main_call0_v3 val_main_call0_v2 val_main_call0_cst val_main_call0_v1 val_main_call0_v0 val_main_v2 val_main_v1 val_main_v0
  pointwise
  simp only [Ideal.logistic]
  blk_point [iblk, V, idx t]

/-- The result array after the run is the reference's result. -/
theorem final (c : Dev nD) : (dats m 0 c).arrAt 10 (cfgs 0).N
    = REF (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  refine (dats m 0 c).arrAt_eq_of_covers 10 _ (by decide +kernel) fun t _ y => ?_
  blk_simp
  rw [after0_10]; frame_out
  have hN : t.val < 320 := t.isLt
  obtain ⟨r, l, rfl⟩ : ∃ (r : Fin 256) (l : Fin 1024), y = ix2 r l := ⟨y 0, y 1, by idx_ext⟩
  have he : ((View.whole main_v10).slice (win0_10.rect t)).emb (ix2 r l)
      = (ix2 (⟨t.val * 256 + r.val, by omega⟩ : Fin 81920) l : S81920x1024.Idx) := by
    blk_ext [idx t]
  rw [he]
  refine (pay_ln _ _ _ _ _ _ _ _ _ _ r l).trans (Eq.trans ?_ (ref_ln _ _ _ _ _ _ _ _ _ _ l).symm)
  refine Rows.lnAt_congr l (fun k => pre_point m c t r k _ rfl) ?_ ?_
  · blk_ext! [iblk, V, idx t]
  · blk_ext! [iblk, V, idx t]

end Cert.FfnIdeal.RefValue
-- ==== Proof.FfnClaims.lean ====
module

public import proofs.«01_k».proof.Defs
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnValue
public import Idealize.ShloMosaic.Adequacy
public import Idealize.ShloMosaic.Init
public import Idealize.ShloMosaic.Lib.Quiescent

@[expose] public section

noncomputable section

open Idealize.ShloMosaic Idealize.ShloMosaic.TcCoe Idealize.SL.Sem

namespace Cert.FfnClaims

/-- The channel mixer: the launched program ends, leaves its arguments unchanged and every semaphore at zero. -/
theorem frame : Cert.quiescent_Ffn := fun m ρ _ => Cert.Ffn.Gen.frame m ρ

/-- The same of the program at extended reals. -/
theorem frame_ideal : Cert.quiescent_FfnIdeal := fun m ρ _ => Cert.FfnIdeal.Gen.frame m ρ

/-- The reference's run ends, leaves its arguments unchanged and every semaphore at zero. -/
theorem frame_ref : Cert.quiescent_FfnRefIdeal := fun m ρ _ =>
  (θ_run Cert.FfnRefIdeal.defs _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩,
      Idealize.ShloMosaic.sem_eq_zero_of_no_sems (by decide) r.2⟩)
    (Cert.FfnRefIdeal.Value.run (F := Ideal) m ρ)

/-- The program at extended reals is the printed one, nothing rewritten. -/
theorem preserves : Cert.preserves_Ffn_FfnIdeal := trivial

/-- The channel mixer: at extended reals the kernel's result array and the reference's end equal, from arguments that agree. -/
theorem algebraic : Cert.algebraic_FfnIdeal_FfnRefIdeal := by
  intro m ρ m' ρ' hpre hagree
  refine ⟨fun c => Cert.FfnIdeal.RefValue.REF (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)), ?_, ?_⟩
  · exact (θ_run Cert.FfnIdeal.defs _ _).mono (fun r h c => ⟨(h c).1.trans (Cert.FfnIdeal.RefValue.final m c), (h c).2⟩) (Cert.FfnIdeal.Value.run_blocks (F := Ideal) m ρ)
  · refine (θ_run Cert.FfnRefIdeal.defs _ _).mono (fun r h c => ⟨(h c).1.trans ?_, (h c).2⟩)
      (Cert.FfnRefIdeal.Value.run (F := Ideal) m' ρ')
    rw [Cert.FfnRefIdeal.Read.val_main_v45_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

end Cert.FfnClaims
-- ==== Proof.MergeRow.lean ====
module

public import Idealize.ShloMosaic.Lib.Pointwise
public import Idealize.ShloMosaic.PureOps.Ideal.Laws

@[expose] public section

set_option maxRecDepth 16384

noncomputable section

namespace Cert.MergeRow

open Idealize.ShloMosaic

/-- One element of a head after its norm, with element `d` of the head's sum `o`, scale `g`, and gate argument `z`. -/
def gated (o : Fin 64 → EReal) (v g z : EReal) : EReal :=
  v * Ideal.rsqrt (Ideal.div (∑ k, o k * o k) (Ideal.ofBits .f32 0x42800000#32) + Ideal.ofBits .f32 0x358637BD#32) * g
    * (z * Ideal.logistic z)

/-- The gate of branch `j` at channel `n`, of a token row `x`. -/
def gate (x : Fin 1024 → EReal) (wg : Fin 1024 → Fin 3072 → EReal) (bg : Fin 3072 → EReal) (j : Fin 3) (n : Fin 1024) :
    EReal :=
  Ideal.logistic ((∑ d, x d * wg d ⟨1024 * j.val + n.val, by omega⟩) + bg ⟨1024 * j.val + n.val, by omega⟩)

/-- Channel `k` of the row that the merge's layer norm takes: a token row `x` scaled, and the gated sum of the three
    branches' projections, projected once more. -/
def row (x : Fin 1024 → EReal) (u : Fin 3 → Fin 512 → EReal) (wg : Fin 1024 → Fin 3072 → EReal) (bg : Fin 3072 → EReal)
    (wb : Fin 3 → Fin 512 → Fin 1024 → EReal) (wo : Fin 1024 → Fin 1024 → EReal) (k : Fin 1024) : EReal :=
  Ideal.ofBits .f32 0x3FD744FD#32 * x k
    + ∑ n, (gate x wg bg 0 n * (∑ c, u 0 c * wb 0 c n) + gate x wg bg 1 n * (∑ c, u 1 c * wb 1 c n)
        + gate x wg bg 2 n * (∑ c, u 2 c * wb 2 c n)) * wo n k

/-- Such a row depends on its operands element by element. -/
theorem row_congr {x x' : Fin 1024 → EReal} {a b u a' b' u' : Fin 512 → EReal} {wg wg' : Fin 1024 → Fin 3072 → EReal}
    {bg bg' : Fin 3072 → EReal} {wb wb' : Fin 3 → Fin 512 → Fin 1024 → EReal} {wo wo' : Fin 1024 → Fin 1024 → EReal}
    (k : Fin 1024) (hx : ∀ d, x d = x' d) (ha : ∀ c, a c = a' c) (hb : ∀ c, b c = b' c) (hu : ∀ c, u c = u' c)
    (hg : ∀ d n, wg d n = wg' d n) (hbg : ∀ n, bg n = bg' n) (hwb : ∀ j c n, wb j c n = wb' j c n)
    (hwo : ∀ n k, wo n k = wo' n k) :
    row x ![a, b, u] wg bg wb wo k = row x' ![a', b', u'] wg' bg' wb' wo' k := by
  obtain rfl := funext hx
  obtain rfl := funext ha
  obtain rfl := funext hb
  obtain rfl := funext hu
  obtain rfl := funext fun d => funext (hg d)
  obtain rfl := funext hbg
  obtain rfl := funext fun j => funext fun c => funext (hwb j c)
  obtain rfl := funext fun n => funext (hwo n)
  rfl

/-- A gated head's element depends on its operands element by element. -/
theorem gated_congr {o o' : Fin 64 → EReal} {v v' g g' z z' : EReal} (ho : ∀ d, o d = o' d) (hv : v = v') (hg : g = g')
    (hz : z = z') : gated o v g z = gated o' v' g' z' := by
  rw [funext ho, hv, hg, hz]

/-- Lane `d` of the head of 64 lanes that lane `c` of 512 lies in. -/
def lane512 (c : Fin 512) (d : Fin 64) : Fin 512 := ⟨c.val / 64 * 64 + d.val, by omega⟩

end Cert.MergeRow
-- ==== Proof.MergeBlock.lean ====
module

public import proofs.«01_k».proof.Proof.Gen.MergeIdeal.Frame
public import proofs.«01_k».proof.Proof.Softmax
public import proofs.«01_k».proof.Proof.Rows
public import proofs.«01_k».proof.Proof.MergeRow
public import Idealize.ShloMosaic.Lib.Pointwise
public import Idealize.ShloMosaic.Lib.Pipeline.ValueKit

@[expose] public section

set_option maxRecDepth 16384

noncomputable section

open Idealize.ShloMosaic

namespace Cert.MergeBlock

open Cert.MergeIdeal Cert.MergeIdeal.Gen Cert.MergeRow

/-! ## The table of ones -/

/-- The number of the head of each lane along the second axis, as the body computes it from integers. -/
def headOf : IVec S128x128 32 :=
  select (andi k0_pay4 (cmpi .ne (remsi (iota .tc S128x128 32 [1] iota_S128x128_d1_w32) k0_pay5)
    (broadcast S128x128 0#32))) (subi k0_pay3 (broadcast S128x128 1#32)) k0_pay3

/-- Along the first axis the head's number is the lane's divided by 64. -/
theorem rowHead_at (a b : Fin 128) : k0_pay2 (ix2 a b) = BitVec.ofNat 32 (a.val / 64) := by
  have h : ∀ a : Fin 128, k0_pay2 (ix2 a 0) = BitVec.ofNat 32 (a.val / 64) := by decide +kernel
  exact (show k0_pay2 (ix2 a b) = k0_pay2 (ix2 a 0) from rfl).trans (h a)

/-- Along the second axis the head's number is the lane's divided by 64. -/
theorem colHead_at (a b : Fin 128) : headOf (ix2 a b) = BitVec.ofNat 32 (b.val / 64) := by
  have h : ∀ b : Fin 128, headOf (ix2 0 b) = BitVec.ofNat 32 (b.val / 64) := by decide +kernel
  exact (show headOf (ix2 a b) = headOf (ix2 0 b) from rfl).trans (h b)

/-- The table of ones that the body multiplies by. -/
abbrev headOnes : FVec Ideal S128x128 .bf16 :=
  k0_pay6 (F := Ideal) k0_pay2 (iota .tc S128x128 32 [1] iota_S128x128_d1_w32) k0_pay3 k0_pay4 k0_pay5

/-- The pattern of one. -/
theorem ofBits_one : Ideal.ofBits .f32 0x3F800000#32 = 1 := by
  simp [Ideal.ofBits, Ideal.ieee, -EReal.coe_mul]
  norm_num

/-- The pattern of sixty-four. -/
theorem ofBits_64 : Ideal.ofBits .f32 0x42800000#32 = ((64 : ℝ) : EReal) := by
  simp [Ideal.ofBits, Ideal.ieee, -EReal.coe_mul]
  norm_num

/-- The pattern of one sixty-fourth. -/
theorem ofBits_inv64 : Ideal.ofBits .f32 0x3C800000#32 = ((1 / 64 : ℝ) : EReal) := by
  simp [Ideal.ofBits, Ideal.ieee, -EReal.coe_mul]
  norm_num

/-- The table holds one where two lanes lie in the same head and zero elsewhere. -/
theorem headOnes_at (a b : Fin 128) : headOnes (ix2 a b) = if a.val / 64 = b.val / 64 then (1 : EReal) else 0 := by
  have h : headOnes (ix2 a b) = if IntOp.cmpi .eq (k0_pay2 (ix2 a b)) (headOf (ix2 a b)) = 1#1
      then Ideal.ofBits .f32 0x3F800000#32 else Ideal.ofBits .f32 0x00000000#32 := rfl
  rw [h, rowHead_at, colHead_at, ofBits_one, Ideal.ofBits_zero]
  have ha : a.val / 64 < 2 := by omega
  have hb : b.val / 64 < 2 := by omega
  generalize a.val / 64 = p at *
  generalize b.val / 64 = q at *
  interval_cases p <;> interval_cases q <;> rfl

/-! ## One head's root mean square norm -/

/-- Lane `d` of the head that lane `l` lies in. -/
def lane (l : Fin 128) (d : Fin 64) : Fin 128 := ⟨l.val / 64 * 64 + d.val, by omega⟩

/-- A sum over 128 lanes against the table's column `l` is the sum over the head of `l`. -/
theorem sum_head (f : Fin 128 → EReal) (l : Fin 128) :
    ∑ x : Fin 128, f x * (if x.val / 64 = l.val / 64 then (1 : EReal) else 0) = ∑ d, f (lane l d) := by
  simp only [mul_ite, mul_one, mul_zero]
  rw [← Finset.sum_filter]
  symm
  refine Finset.sum_bij' (fun d _ => lane l d) (fun x _ => ⟨x.val % 64, Nat.mod_lt _ (by omega)⟩) ?_ ?_ ?_ ?_ ?_
  · intro d _
    simp only [Finset.mem_filter, Finset.mem_univ, true_and, lane]
    omega
  · intro x _; exact Finset.mem_univ _
  · intro d _
    apply Fin.ext
    simp only [lane]
    omega
  · intro x hx
    apply Fin.ext
    simp only [Finset.mem_filter, Finset.mem_univ, true_and] at hx
    simp only [lane]
    omega
  · intro d _; rfl

/-- What the body computes at an element of 128 lanes: the norm of the head that the lane lies in, where the sums of the
    two directions are reals. -/
theorem part_at (f b : Vec Ideal S1x512x128 .f32) (g : Vec Ideal S1x128 .f32)
    (z : Vec Ideal S512x128 .f32) (r : Fin 512) (l : Fin 128)
    (h : ∀ x, ∃ y : ℝ, f (ix3 0 r x) + b (ix3 0 r x) = (y : EReal)) :
    k0_pay8 (F := Ideal) headOnes f b g z (ix2 r l)
      = gated (fun d => f (ix3 0 r (lane l d)) + b (ix3 0 r (lane l d))) (f (ix3 0 r l) + b (ix3 0 r l))
          (g (ix2 0 l)) (z (ix2 r l)) := by
  have hE := fun x => headOnes_at x l
  generalize headOnes = E at *
  unfold k0_pay8 gated
  pointwise
  generalize f (ix3 0 r l) + b (ix3 0 r l) = v
  simp only [hE]
  have hz : ∀ x, (f (ix3 0 r x) + b (ix3 0 r x)) * (f (ix3 0 r x) + b (ix3 0 r x))
      - (f (ix3 0 r x) + b (ix3 0 r x)) * (f (ix3 0 r x) + b (ix3 0 r x)) = 0 := by
    intro x
    obtain ⟨y, hy⟩ := h x
    rw [hy, ← EReal.coe_mul, ← EReal.coe_sub, sub_self, EReal.coe_zero]
  rw [sum_head (fun x => (f (ix3 0 r x) + b (ix3 0 r x)) * (f (ix3 0 r x) + b (ix3 0 r x))) l]
  simp only [hz, zero_mul, Finset.sum_const_zero, add_zero]
  rw [ofBits_64, Ideal.div_coe (by norm_num), ofBits_inv64]

/-! ## The third branch's row of 512 lanes -/

/-- The four pieces side by side, read in the piece that a lane lies in. -/
theorem pieces_at (p : Fin 4 → FVec Ideal S512x128 .bf16) (r : Fin 512) (j : Fin 4) (l : Fin 128) (c : Fin 512)
    (hc : c.val = 128 * j.val + l.val) :
    concatenate S512x512 1 [⟨S512x128, p 0⟩, ⟨S512x128, p 1⟩, ⟨S512x128, p 2⟩, ⟨S512x128, p 3⟩]
        concatenates_S512x128_S512x128_S512x128_S512x128_S512x512_d1 (ix2 r c) = p j (ix2 r l) := by
  have hb : 128 * j.val + l.val < 512 := by have := j.isLt; have := l.isLt; omega
  obtain rfl : c = ⟨128 * j.val + l.val, hb⟩ := Fin.ext hc
  fin_cases j
  · pointwise
  · pointwise
  · pointwise
    rw [dif_neg (by omega), dif_neg (by omega), dif_pos (by omega)]
    exact congrArg (p 2) (by idx_ext)
  · pointwise
    rw [dif_neg (by omega), dif_neg (by omega), dif_neg (by omega)]
    exact congrArg (p 3) (by idx_ext)

/-- The third branch's row, where piece `j` is the norm over lanes `128 j` on: every head's norm, gated. -/
theorem branch_at (f b : Vec Ideal S1x512x512 .f32) (z : Vec Ideal S512x512 .f32) (g : Vec Ideal S1x128 .f32)
    (g' : Vec Ideal S1x128 .f32)
    (fj bj : Fin 4 → Vec Ideal S1x512x128 .f32) (zj : Fin 4 → Vec Ideal S512x128 .f32)
    (hf : ∀ j r (l : Fin 128), fj j (ix3 0 r l) = f (ix3 0 r ⟨128 * j.val + l.val, by omega⟩))
    (hb : ∀ j r (l : Fin 128), bj j (ix3 0 r l) = b (ix3 0 r ⟨128 * j.val + l.val, by omega⟩))
    (hz : ∀ j r (l : Fin 128), zj j (ix2 r l) = z (ix2 r ⟨128 * j.val + l.val, by omega⟩))
    (hg : ∀ l, g' (ix2 0 l) = g (ix2 0 l)) (r : Fin 512) (c : Fin 512)
    (h : ∀ x, ∃ y : ℝ, f (ix3 0 r x) + b (ix3 0 r x) = (y : EReal)) :
    concatenate S512x512 1 [⟨S512x128, k0_pay8 (F := Ideal) headOnes (fj 0) (bj 0) g' (zj 0)⟩,
          ⟨S512x128, k0_pay8 (F := Ideal) headOnes (fj 1) (bj 1) g' (zj 1)⟩,
          ⟨S512x128, k0_pay8 (F := Ideal) headOnes (fj 2) (bj 2) g' (zj 2)⟩,
          ⟨S512x128, k0_pay8 (F := Ideal) headOnes (fj 3) (bj 3) g' (zj 3)⟩]
        concatenates_S512x128_S512x128_S512x128_S512x128_S512x512_d1 (ix2 r c)
      = gated (fun d => f (ix3 0 r (lane512 c d)) + b (ix3 0 r (lane512 c d))) (f (ix3 0 r c) + b (ix3 0 r c))
          (g (ix2 0 ⟨c.val % 128, Nat.mod_lt _ (by omega)⟩)) (z (ix2 r c)) := by
  have hc : c.val = 128 * (⟨c.val / 128, by omega⟩ : Fin 4).val + (⟨c.val % 128, by omega⟩ : Fin 128).val := by
    show c.val = 128 * (c.val / 128) + c.val % 128
    omega
  refine (pieces_at (fun j => k0_pay8 (F := Ideal) headOnes (fj j) (bj j) g' (zj j)) r _ _ c hc).trans ?_
  refine (part_at _ _ _ _ r _ fun x => ?_).trans ?_
  · rw [hf, hb]; exact h _
  · have e1 : ∀ d, (⟨128 * (c.val / 128) + (lane ⟨c.val % 128, by omega⟩ d).val, by omega⟩ : Fin 512) = lane512 c d := by
      intro d
      apply Fin.ext
      show 128 * (c.val / 128) + (c.val % 128 / 64 * 64 + d.val) = c.val / 64 * 64 + d.val
      omega
    have e2 : (⟨128 * (c.val / 128) + c.val % 128, by omega⟩ : Fin 512) = c := Fin.ext (by show 128 * (c.val / 128) + c.val % 128 = c.val; omega)
    simp only [hf, hb, hz, hg, e1, e2]

/-! ## The block that the body leaves -/

/-- A load of a rectangle at an index is the buffer at the index moved by the rectangle's corner. -/
theorem ld_at {s : Shape} {e : EltTy} {size : Fin s.rank → Nat} {off : Fin s.rank → Nat} {inb} {x : Vec Ideal s e}
    {j : (Rect.unit (s := s) off size inb).shape.Idx} {i : s.Idx} (h : ∀ a, (i a).val = off a + (j a).val) :
    View.ld x (Rect.unit (s := s) off size inb) j = x i :=
  View.ld_unit_apply_of _ _ _ _ _ _ h

/-- The body's last stage at a block index, over any operands: the layer norm of the row before it. -/
theorem last_at (v0 : Vec Ideal S512x1024 .f32) (v169 : FVec Ideal S512x512 .bf16) (v196 v199 : FVec Ideal S512x1024 .f32)
    (v200 : Vec Ideal S1x1024 .f32) (v205 : Vec Ideal S1x512x1024 .bf16) (v213 : Vec Ideal S1024x1024 .bf16)
    (v217 v219 : Vec Ideal S1x1024 .f32) (r : Fin 512) (l : Fin 1024) :
    k0_pay19 v0 v169 v196 v199 v200 v205 v213 v217 v219 (ix2 r l)
      = Rows.lnAt (fun k => Ideal.ofBits .f32 0x3FD744FD#32 * v0 (ix2 r k)
          + ∑ n : Fin 1024, (v196 (ix2 r n) + Ideal.logistic (v199 (ix2 r n) + v200 (ix2 0 n))
              * (∑ c : Fin 512, v169 (ix2 r c) * v205 (ix3 0 c n))) * v213 (ix2 n k))
          (v217 (ix2 0 l)) (v219 (ix2 0 l)) l := by
  unfold Rows.lnAt Rows.mean k0_pay19
  pointwise

/-- The gated sum of the first two branches. -/
theorem two_at (v1 : Vec Ideal S512x1024 .f32) (v170 v171 : Vec Ideal S512x512 .bf16) (v172 : Vec Ideal S1024x1024 .bf16)
    (v175 : Vec Ideal S1x1024 .f32) (v180 : Vec Ideal S1x512x1024 .bf16) (v184 : Vec Ideal S1024x1024 .bf16)
    (v187 : Vec Ideal S1x1024 .f32) (v192 : Vec Ideal S1x512x1024 .bf16) (r : Fin 512) (n : Fin 1024) :
    k0_pay17 (k0_pay1 v1) v170 v171 v172 v175 v180 v184 v187 v192 (ix2 r n)
      = Ideal.logistic ((∑ d : Fin 1024, v1 (ix2 r d) * v172 (ix2 d n)) + v175 (ix2 0 n))
            * (∑ c : Fin 512, v170 (ix2 r c) * v180 (ix3 0 c n))
        + Ideal.logistic ((∑ d : Fin 1024, v1 (ix2 r d) * v184 (ix2 d n)) + v187 (ix2 0 n))
            * (∑ c : Fin 512, v171 (ix2 r c) * v192 (ix3 0 c n)) := by
  unfold k0_pay17 k0_pay1
  pointwise

/-- The third gate's product. -/
theorem third_at (v1 : Vec Ideal S512x1024 .f32) (v197 : Vec Ideal S1024x1024 .bf16) (r : Fin 512) (n : Fin 1024) :
    k0_pay18 (k0_pay1 v1) v197 (ix2 r n) = ∑ d : Fin 1024, v1 (ix2 r d) * v197 (ix2 d n) := by
  unfold k0_pay18 k0_pay1
  pointwise

/-- The block the body leaves, element by element, over any blocks of which the two directions' sums are reals. -/
theorem out_at (x0 : Vec Ideal S512x1024 .f32) (x1 x2 : Vec Ideal S512x512 .bf16) (x3 x4 : Vec Ideal S1x512x512 .f32)
    (x5 : Vec Ideal S512x512 .f32) (x6 : Vec Ideal S1024x3072 .bf16) (x7 : Vec Ideal S1x3072 .f32)
    (x8 : Vec Ideal S3x512x1024 .bf16) (x9 : Vec Ideal S1024x1024 .bf16) (x10 : Vec Ideal S1x128 .f32)
    (x11 x12 : Vec Ideal S1x1024 .f32) (r : Fin 512) (l : Fin 1024)
    (h : ∀ x, ∃ y : ℝ, x3 (ix3 0 r x) + x4 (ix3 0 r x) = (y : EReal)) :
    out0_13 x0 x1 x2 x3 x4 x5 x6 x7 x8 x9 x10 x11 x12 (ix2 r l)
      = Rows.lnAt (row (fun d => x0 (ix2 r d)) ![fun c => x1 (ix2 r c), fun c => x2 (ix2 r c),
          fun c => gated (fun d => x3 (ix3 0 r (lane512 c d)) + x4 (ix3 0 r (lane512 c d)))
            (x3 (ix3 0 r c) + x4 (ix3 0 r c)) (x10 (ix2 0 ⟨c.val % 128, Nat.mod_lt _ (by omega)⟩)) (x5 (ix2 r c))]
          (fun d n => x6 (ix2 d n)) (fun n => x7 (ix2 0 n)) (fun j c n => x8 (ix3 j c n)) (fun n k => x9 (ix2 n k)))
          (x11 (ix2 0 l)) (x12 (ix2 0 l)) l := by
  unfold_out out0_13
  canon_tiles y hy
  obtain ⟨p, q, rfl⟩ : ∃ (p : Fin 512) (q : Fin 1024), y = ix2 p q := ⟨y 0, y 1, by idx_ext⟩
  obtain rfl : r = p := Fin.ext hy0
  obtain rfl : l = q := Fin.ext hy1
  have hB := branch_at x3 x4 x5 x10 (View.ld x10 r0_2)
    ![View.ld x3 r0_1, View.ld x3 r0_4, View.ld x3 r0_6, View.ld x3 r0_8]
    ![View.ld x4 r0_1, View.ld x4 r0_4, View.ld x4 r0_6, View.ld x4 r0_8]
    ![View.ld x5 r0_3, View.ld x5 r0_5, View.ld x5 r0_7, View.ld x5 r0_9] (fun j _ _ => (by fin_cases j <;> exact ld_at fun a => by fin_cases a <;> simp))
    (fun j _ _ => (by fin_cases j <;> exact ld_at fun a => by fin_cases a <;> simp))
    (fun j _ _ => (by fin_cases j <;> exact ld_at fun a => by fin_cases a <;> simp)) (fun _ => ld_at fun a => by fin_cases a <;> simp) r
  have hx0 : ∀ a b, View.ld x0 r0_0 (ix2 a b) = x0 (ix2 a b) := fun _ _ => ld_at fun a => by fin_cases a <;> simp
  have hx1 : ∀ a b, View.ld x1 r0_10 (ix2 a b) = x1 (ix2 a b) := fun _ _ => ld_at fun a => by fin_cases a <;> simp
  have hx2 : ∀ a b, View.ld x2 r0_10 (ix2 a b) = x2 (ix2 a b) := fun _ _ => ld_at fun a => by fin_cases a <;> simp
  have hx60 : ∀ a (b : Fin 1024), View.ld x6 r0_11 (ix2 a b) = x6 (ix2 a ⟨1024 * (0 : Fin 3).val + b.val, by simp; omega⟩) :=
    fun _ _ => ld_at fun a => by fin_cases a <;> simp
  have hx61 : ∀ a (b : Fin 1024), View.ld x6 r0_14 (ix2 a b) = x6 (ix2 a ⟨1024 * (1 : Fin 3).val + b.val, by simp; omega⟩) :=
    fun _ _ => ld_at fun a => by fin_cases a <;> simp
  have hx62 : ∀ a (b : Fin 1024), View.ld x6 r0_17 (ix2 a b) = x6 (ix2 a ⟨1024 * (2 : Fin 3).val + b.val, by simp; omega⟩) :=
    fun _ _ => ld_at fun a => by fin_cases a <;> simp
  have hx70 : ∀ (b : Fin 1024), View.ld x7 r0_12 (ix2 0 b) = x7 (ix2 0 ⟨1024 * (0 : Fin 3).val + b.val, by simp; omega⟩) :=
    fun _ => ld_at fun a => by fin_cases a <;> simp
  have hx71 : ∀ (b : Fin 1024), View.ld x7 r0_15 (ix2 0 b) = x7 (ix2 0 ⟨1024 * (1 : Fin 3).val + b.val, by simp; omega⟩) :=
    fun _ => ld_at fun a => by fin_cases a <;> simp
  have hx72 : ∀ (b : Fin 1024), View.ld x7 r0_18 (ix2 0 b) = x7 (ix2 0 ⟨1024 * (2 : Fin 3).val + b.val, by simp; omega⟩) :=
    fun _ => ld_at fun a => by fin_cases a <;> simp
  have hx80 : ∀ a b, View.ld x8 r0_13 (ix3 0 a b) = x8 (ix3 0 a b) := fun _ _ => ld_at fun a => by fin_cases a <;> simp
  have hx81 : ∀ a b, View.ld x8 r0_16 (ix3 0 a b) = x8 (ix3 1 a b) := fun _ _ => ld_at fun a => by fin_cases a <;> simp
  have hx82 : ∀ a b, View.ld x8 r0_19 (ix3 0 a b) = x8 (ix3 2 a b) := fun _ _ => ld_at fun a => by fin_cases a <;> simp
  have hx9 : ∀ a b, View.ld x9 r0_20 (ix2 a b) = x9 (ix2 a b) := fun _ _ => ld_at fun a => by fin_cases a <;> simp
  have hx11 : ∀ b, View.ld x11 r0_21 (ix2 0 b) = x11 (ix2 0 b) := fun _ => ld_at fun a => by fin_cases a <;> simp
  have hx12 : ∀ b, View.ld x12 r0_21 (ix2 0 b) = x12 (ix2 0 b) := fun _ => ld_at fun a => by fin_cases a <;> simp
  refine (last_at _ _ _ _ _ _ _ _ _ r l).trans (Rows.lnAt_congr l (fun k => ?_) (hx11 l) (hx12 l))
  unfold row gate
  simp only [two_at, third_at, hx0, hx1, hx2, hx60, hx61, hx62, hx70, hx71, hx72, hx80, hx81, hx82, hx9]
  have e : ∀ c, _ = _ := fun c => hB c h
  refine congrArg _ (Finset.sum_congr rfl fun n _ => congrArg (· * _) (congrArg _ (congrArg _ (Finset.sum_congr rfl fun c _ => ?_))))
  exact congrArg (· * _) (e c)

end Cert.MergeBlock
-- ==== Proof.MergeRef.lean ====
module

public import proofs.«01_k».proof.Proof.Gen.MergeRefIdeal.Read
public import proofs.«01_k».proof.Proof.Rows
public import proofs.«01_k».proof.Proof.MergeRow
public import Idealize.ShloMosaic.Lib.Pointwise
public import Idealize.ShloMosaic.Lib.Pipeline.ValueKit

@[expose] public section

set_option maxRecDepth 16384

noncomputable section

open Idealize.ShloMosaic

namespace Cert.MergeRef

open Cert.MergeRefIdeal Cert.MergeRefIdeal.Read Cert.MergeRow

variable (X : FVec Ideal S81920x1024 .f32) (A B : FVec Ideal S81920x512 .bf16) (O : FVec Ideal S2x81920x512 .f32)
  (Z : FVec Ideal S81920x512 .f32) (Wg : FVec Ideal S1024x3072 .f32) (Bg : FVec Ideal S3072 .f32)
  (Wb : FVec Ideal S3x512x1024 .f32) (Wo : FVec Ideal S1024x1024 .f32) (Gn : FVec Ideal S64 .f32)
  (G1 B1 : FVec Ideal S1024 .f32)

/-- The reference's result at an index: the layer norm of the row before it. -/
theorem ln_at (i : Fin 81920) (l : Fin 1024) :
    val_main_v80 (F := Ideal) X A B O Z Wg Bg Wb Wo Gn G1 B1 (ix2 i l)
      = Rows.lnAt (fun k => val_main_v56 (F := Ideal) X A B O Z Wg Bg Wb Wo Gn (ix2 i k)) (G1 (ix1 l)) (B1 (ix1 l)) l := by
  unfold Rows.lnAt Rows.mean
  unfold val_main_v80 val_main_v79 val_main_v78 val_main_v77 val_main_v76 val_main_v75 val_main_v74 val_main_v73 val_main_v72 val_main_v71 val_main_v70 val_main_cst_9 val_main_v69 val_main_v68 val_main_v67 val_main_v66 val_main_cst_8 val_main_v65 val_main_v64 val_main_cst_7 val_main_v63 val_main_v62 val_main_v61 val_main_v60 val_main_v59 val_main_cst_6 val_main_v58 val_main_v57 val_main_cst_5
  generalize val_main_v56 (F := Ideal) X A B O Z Wg Bg Wb Wo Gn = Y
  pointwise

/-- The row before the layer norm, with the third branch's row as it comes. -/
theorem row_at (i : Fin 81920) (k : Fin 1024) :
    val_main_v56 (F := Ideal) X A B O Z Wg Bg Wb Wo Gn (ix2 i k)
      = row (fun d => X (ix2 i d)) ![fun c => A (ix2 i c), fun c => B (ix2 i c),
          fun c => val_main_v23 (F := Ideal) O Z Gn (ix2 i c)] (fun d n => Wg (ix2 d n)) (fun n => Bg (ix1 n))
          (fun j c n => Wb (ix3 j c n)) (fun n k => Wo (ix2 n k)) k := by
  unfold row gate
  unfold val_main_v56 val_main_v55 val_main_v54 val_main_v53 val_main_cst_4 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_cst_3 val_main_v31 val_main_v30 val_main_cst_2 val_main_v29 val_main_v28 val_main_v27 val_main_v26 val_main_v25 val_main_v24
  generalize val_main_v23 (F := Ideal) O Z Gn = Y
  pointwise
  rfl

/-- The third branch's row: every head's norm, gated. -/
theorem gated_at (i : Fin 81920) (c : Fin 512) :
    val_main_v23 (F := Ideal) O Z Gn (ix2 i c)
      = gated (fun d => O (ix3 0 i (lane512 c d)) + O (ix3 1 i (lane512 c d))) (O (ix3 0 i c) + O (ix3 1 i c))
          (Gn (ix1 ⟨c.val % 64, Nat.mod_lt _ (by omega)⟩)) (Z (ix2 i c)) := by
  unfold gated
  unfold val_main_v23 val_main_v22 val_main_v21 val_main_call0_v5 val_main_call0_v4 val_main_call0_cst_0 val_main_call0_v3 val_main_call0_v2 val_main_call0_cst val_main_call0_v1 val_main_call0_v0 val_main_v20 val_main_v19 val_main_v18 val_main_v17 val_main_v16 val_main_v15 val_main_v14 val_main_v13 val_main_v12 val_main_cst_1 val_main_v11 val_main_v10 val_main_cst_0 val_main_v9 val_main_v8 val_main_cst val_main_v7 val_main_v6 val_main_v5 val_main_v4 val_main_v3 val_main_v2 val_main_v1 val_main_v0
  pointwise
  simp only [Ideal.logistic]
  rfl

end Cert.MergeRef
-- ==== Proof.MergeValue.lean ====
module

public import proofs.«01_k».proof.Proof.Gen.MergeIdeal.Value
public import proofs.«01_k».proof.Proof.MergeBlock
public import proofs.«01_k».proof.Proof.MergeRef
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen Cert.MergeRow

variable (m : (ℓ : Loc nD τ sig) → Buf (Elt Ideal) ℓ)

/-- What the windows' index maps are at every grid point: the token rows of every input and of the result move with the
    point, the two directions are rows 0 and 1 of one array, every weight is one whole block. -/
theorem idx : ∀ t : Fin cfg0.N, win0_0.index t = ![t.val, 0] ∧ win0_1.index t = ![t.val, 0] ∧ win0_2.index t = ![t.val, 0]
    ∧ win0_3.index t = ![0, t.val, 0] ∧ win0_4.index t = ![1, t.val, 0] ∧ win0_5.index t = ![t.val, 0]
    ∧ win0_6.index t = ![0, 0] ∧ win0_7.index t = ![0, 0] ∧ win0_8.index t = ![0, 0, 0] ∧ win0_9.index t = ![0, 0]
    ∧ win0_10.index t = ![0, 0] ∧ win0_11.index t = ![0, 0] ∧ win0_12.index t = ![0, 0] ∧ win0_13.index t = ![t.val, 0] :=
  (by decide +kernel : ∀ t : Fin grid0.N, _)

/-- The reference's result as a function of the twelve arguments. -/
abbrev REF (X : FVec Ideal S81920x1024 .f32) (A B : FVec Ideal S81920x512 .bf16) (O : FVec Ideal S2x81920x512 .f32)
    (Z : FVec Ideal S81920x512 .f32) (Wg : FVec Ideal S1024x3072 .f32) (Bg : FVec Ideal S3072 .f32)
    (Wb : FVec Ideal S3x512x1024 .f32) (Wo : FVec Ideal S1024x1024 .f32) (Gn : FVec Ideal S64 .f32)
    (G1 B1 : FVec Ideal S1024 .f32) : FVec Ideal S81920x1024 .f32 :=
  Cert.MergeRefIdeal.Read.val_main_v80 (F := Ideal) X A B O Z Wg Bg Wb Wo Gn G1 B1

/-- The norm's scale, laid out twice side by side, read at a lane of 128. -/
theorem read_scale (c : Dev nD) (t : Fin cfg0.N) (l : Fin 128) :
    iblk m c 10 t (ix2 0 l) = m ((c : Thread nD τ).loc main_arg9) (ix1 ⟨l.val % 64, Nat.mod_lt _ (by omega)⟩) := by
  blk_ext! [iblk, V, idx t]

/-- The token rows of a point. -/
theorem read_x (c : Dev nD) (t : Fin cfg0.N) (r : Fin 512) (d : Fin 1024) :
    iblk m c 0 t (ix2 r d) = m ((c : Thread nD τ).loc main_arg0) (ix2 ⟨t.val * 512 + r.val, by have : t.val < 160 := t.isLt; omega⟩ d) := by
  blk_ext! [iblk, V, idx t]

/-- The first branch's rows of a point. -/
theorem read_a (c : Dev nD) (t : Fin cfg0.N) (r x : Fin 512) :
    iblk m c 1 t (ix2 r x) = m ((c : Thread nD τ).loc main_arg1) (ix2 ⟨t.val * 512 + r.val, by have : t.val < 160 := t.isLt; omega⟩ x) := by
  blk_ext! [iblk, V, idx t]

/-- The second branch's rows of a point. -/
theorem read_b (c : Dev nD) (t : Fin cfg0.N) (r x : Fin 512) :
    iblk m c 2 t (ix2 r x) = m ((c : Thread nD τ).loc main_arg2) (ix2 ⟨t.val * 512 + r.val, by have : t.val < 160 := t.isLt; omega⟩ x) := by
  blk_ext! [iblk, V, idx t]

/-- The output gate's rows of a point. -/
theorem read_z (c : Dev nD) (t : Fin cfg0.N) (r x : Fin 512) :
    iblk m c 5 t (ix2 r x) = m ((c : Thread nD τ).loc main_arg4) (ix2 ⟨t.val * 512 + r.val, by have : t.val < 160 := t.isLt; omega⟩ x) := by
  blk_ext! [iblk, V, idx t]

/-- The merge gates' weight, whole. -/
theorem read_wg (c : Dev nD) (t : Fin cfg0.N) (d : Fin 1024) (n : Fin 3072) :
    iblk m c 6 t (ix2 d n) = m ((c : Thread nD τ).loc main_arg5) (ix2 d n) := by
  blk_ext! [iblk, V, idx t]

/-- The merge gates' bias, as a row. -/
theorem read_bg (c : Dev nD) (t : Fin cfg0.N) (n : Fin 3072) :
    iblk m c 7 t (ix2 0 n) = m ((c : Thread nD τ).loc main_arg6) (ix1 n) := by
  blk_ext! [iblk, V, idx t]

/-- The branches' weights, whole. -/
theorem read_wb (c : Dev nD) (t : Fin cfg0.N) (j : Fin 3) (x : Fin 512) (n : Fin 1024) :
    iblk m c 8 t (ix3 j x n) = m ((c : Thread nD τ).loc main_arg7) (ix3 j x n) := by
  blk_ext! [iblk, V, idx t]

/-- The output weight, whole. -/
theorem read_wo (c : Dev nD) (t : Fin cfg0.N) (n k : Fin 1024) :
    iblk m c 9 t (ix2 n k) = m ((c : Thread nD τ).loc main_arg8) (ix2 n k) := by
  blk_ext! [iblk, V, idx t]

/-- The layer norm's scale, as a row. -/
theorem read_g1 (c : Dev nD) (t : Fin cfg0.N) (l : Fin 1024) :
    iblk m c 11 t (ix2 0 l) = m ((c : Thread nD τ).loc main_arg10) (ix1 l) := by
  blk_ext! [iblk, V, idx t]

/-- The layer norm's shift, as a row. -/
theorem read_b1 (c : Dev nD) (t : Fin cfg0.N) (l : Fin 1024) :
    iblk m c 12 t (ix2 0 l) = m ((c : Thread nD τ).loc main_arg11) (ix1 l) := by
  blk_ext! [iblk, V, idx t]

/-- The result array after the run is the reference's result, where the two directions' outputs are reals. -/
theorem final (c : Dev nD) (ho : ∀ i, ∃ r : ℝ, m ((c : Thread nD τ).loc main_arg3) i = (r : EReal)) :
    (dats m 0 c).arrAt 13 (cfgs 0).N
    = REF (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) := by
  refine (dats m 0 c).arrAt_eq_of_covers 13 _ (by decide +kernel) fun t _ y => ?_
  blk_simp
  rw [after0_13]
  have hN : t.val < 160 := t.isLt
  obtain ⟨r, l, rfl⟩ : ∃ (r : Fin 512) (l : Fin 1024), y = ix2 r l := ⟨y 0, y 1, by idx_ext⟩
  have he : ((View.whole main_v10).slice (win0_13.rect t)).emb (ix2 r l)
      = (ix2 (⟨t.val * 512 + r.val, by omega⟩ : Fin 81920) l : S81920x1024.Idx) := by
    blk_ext [idx t]
  rw [he]
  have h3 : ∀ x : Fin 512, iblk m c 3 t (ix3 0 r x)
      = m ((c : Thread nD τ).loc main_arg3) (ix3 0 ⟨t.val * 512 + r.val, by omega⟩ x) := fun x => by
    blk_ext! [iblk, V, idx t]
  have h4 : ∀ x : Fin 512, iblk m c 4 t (ix3 0 r x)
      = m ((c : Thread nD τ).loc main_arg3) (ix3 1 ⟨t.val * 512 + r.val, by omega⟩ x) := fun x => by
    blk_ext! [iblk, V, idx t]
  have h : ∀ x : Fin 512, ∃ y : ℝ, @HAdd.hAdd EReal EReal EReal _ (iblk m c 3 t (ix3 0 r x)) (iblk m c 4 t (ix3 0 r x)) = (y : EReal) := by
    intro x
    obtain ⟨a, ha⟩ := ho (ix3 0 ⟨t.val * 512 + r.val, by omega⟩ x)
    obtain ⟨b, hb⟩ := ho (ix3 1 ⟨t.val * 512 + r.val, by omega⟩ x)
    exact ⟨a + b, by rw [h3, h4, ha, hb, EReal.coe_add]⟩
  refine (MergeBlock.out_at _ _ _ _ _ _ _ _ _ _ _ _ _ r l h).trans
    ((Rows.lnAt_congr l (fun k => ?_) ?_ ?_).trans (MergeRef.ln_at _ _ _ _ _ _ _ _ _ _ _ _ _ l).symm)
  · refine (row_congr k (fun d => read_x m c t r d) (fun x => read_a m c t r x) (fun x => read_b m c t r x) (fun x => ?_)
      (fun d n => read_wg m c t d n) (fun n => read_bg m c t n) (fun j x n => read_wb m c t j x n)
      (fun n k => read_wo m c t n k)).trans (MergeRef.row_at _ _ _ _ _ _ _ _ _ _ _ k).symm
    refine (gated_congr (fun d => ?_) ?_ ((read_scale m c t _).trans ?_) (read_z m c t r x)).trans
      (MergeRef.gated_at _ _ _ _ x).symm
    · rw [h3, h4]
    · rw [h3, h4]
    · exact congrArg _ (by blk_ext)
  · exact read_g1 m c t l
  · exact read_b1 m c t l

end Cert.MergeIdeal.RefValue
-- ==== Proof.RuleFinite.lean ====
module

public import proofs.«01_k».proof.Proof.Gen.Pre_rule_finite
public import proofs.«01_k».proof.Proof.Finite
public import Idealize.ShloMosaic.Lib.Pointwise
public import Idealize.ShloMosaic.Lib.ReduceAll

@[expose] public section

noncomputable section

open Idealize.ShloMosaic

namespace Cert.Finite

/-- The merge's precondition, read: every element of the delta rule's output is a real. -/
theorem rule_real (a0 : FVec Ideal Pre_rule_finite.S81920x1024 .f32) (a1 a2 : FVec Ideal Pre_rule_finite.S81920x512 .bf16)
    (o : FVec Ideal Pre_rule_finite.S2x81920x512 .f32) (a4 : FVec Ideal Pre_rule_finite.S81920x512 .f32)
    (a5 : FVec Ideal Pre_rule_finite.S1024x3072 .f32) (a6 : FVec Ideal Pre_rule_finite.S3072 .f32)
    (a7 : FVec Ideal Pre_rule_finite.S3x512x1024 .f32) (a8 : FVec Ideal Pre_rule_finite.S1024x1024 .f32)
    (a9 : FVec Ideal Pre_rule_finite.S64 .f32) (a10 a11 : FVec Ideal Pre_rule_finite.S1024 .f32)
    (h : Pre_rule_finite.fn (F := Ideal) a0 a1 a2 o a4 a5 a6 a7 a8 a9 a10 a11 = fun _ => 1#1) :
    ∀ i, ∃ r : ℝ, o i = (r : EReal) := by
  haveI : Subsingleton Pre_rule_finite.S_.Idx := sub0 _ rfl
  have h0 := congrFun h (fun a => a.elim0)
  unfold Pre_rule_finite.fn at h0
  exact fun i => real_of_cmp _ _ (fun _ => Softmax.ofBits_top) i (Host.reduce_andi_all _ _ _ _ _ h0 i)

end Cert.Finite
-- ==== Proof.MergeClaims.lean ====
module

public import proofs.«01_k».proof.Defs
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.MergeValue
public import proofs.«01_k».proof.Proof.Gen.Pre_rule_finite
public import proofs.«01_k».proof.Proof.RuleFinite
public import Idealize.ShloMosaic.Adequacy
public import Idealize.ShloMosaic.Init
public import Idealize.ShloMosaic.Lib.Quiescent

@[expose] public section

noncomputable section

open Idealize.ShloMosaic Idealize.ShloMosaic.TcCoe Idealize.SL.Sem

namespace Cert.MergeClaims

/-- The merge: the launched program ends, leaves its arguments unchanged and every semaphore at zero. -/
theorem frame : Cert.quiescent_Merge := fun m ρ _ => Cert.Merge.Gen.frame m ρ

/-- The same of the program at extended reals. -/
theorem frame_ideal : Cert.quiescent_MergeIdeal := fun m ρ _ => Cert.MergeIdeal.Gen.frame m ρ

/-- The same from the memories that the precondition allows. -/
theorem frame_ideal_pre : Cert.quiescent_MergeIdeal_pre_rule_finite := fun m ρ _ => Cert.MergeIdeal.Gen.frame m ρ

/-- The reference's run ends, leaves its arguments unchanged and every semaphore at zero. -/
theorem frame_ref : Cert.quiescent_MergeRefIdeal := fun m ρ _ =>
  (θ_run Cert.MergeRefIdeal.defs _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩,
      Idealize.ShloMosaic.sem_eq_zero_of_no_sems (by decide) r.2⟩)
    (Cert.MergeRefIdeal.Value.run (F := Ideal) m ρ)

/-- The same from the memories that the precondition allows. -/
theorem frame_ref_pre : Cert.quiescent_MergeRefIdeal_pre_rule_finite := fun m ρ _ =>
  (θ_run Cert.MergeRefIdeal.defs _ _).mono (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩,
      Idealize.ShloMosaic.sem_eq_zero_of_no_sems (by decide) r.2⟩)
    (Cert.MergeRefIdeal.Value.run (F := Ideal) m ρ)

/-- The program at extended reals is the printed one, nothing rewritten. -/
theorem preserves : Cert.preserves_Merge_MergeIdeal := trivial

/-- The merge: at extended reals the kernel's result array and the reference's end equal, from arguments that agree. -/
theorem algebraic : Cert.algebraic_MergeIdeal_MergeRefIdeal_pre_rule_finite := by
  intro m ρ m' ρ' hpre hagree
  refine ⟨fun c => Cert.MergeIdeal.RefValue.REF (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)), ?_, ?_⟩
  · refine (θ_run Cert.MergeIdeal.defs _ _).mono (fun r h c => ⟨(h c).1.trans ?_, (h c).2⟩) (Cert.MergeIdeal.Value.run_blocks (F := Ideal) m ρ)
    exact Cert.MergeIdeal.RefValue.final m c (Finite.rule_real _ _ _ _ _ _ _ _ _ _ _ _ (hpre c))
  · refine (θ_run Cert.MergeRefIdeal.defs _ _).mono (fun r h c => ⟨(h c).1.trans ?_, (h c).2⟩)
      (Cert.MergeRefIdeal.Value.run (F := Ideal) m' ρ')
    rw [Cert.MergeRefIdeal.Read.val_main_v80_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

end Cert.MergeClaims
-- ==== Proof.ProjLines.lean ====
module

public import proofs.«01_k».proof.Proof.Gen.ProjIdeal.Value
public import proofs.«01_k».proof.Proof.Gen.ProjRefIdeal.Read
public import Idealize.ShloMosaic.Lib.Pointwise
public import Idealize.ShloMosaic.Lib.StableHlo.RunRead
public import Idealize.ShloMosaic.Lib.Routing.OpsSet
public import Idealize.ShloMosaic.Lib.Routing.OpsOne
public import Idealize.ShloMosaic.Lib.Pipeline.ValueKit

@[expose] public section

set_option maxRecDepth 16384

noncomputable section

open Idealize.ShloMosaic Idealize.ShloMosaic.TcCoe Idealize.SL.Sem
open Idealize.ShloMosaic.Routing (shape1 shape2)

namespace Cert.ProjIdeal.Lines

/-- A line of operations run after another. -/
theorem after_both {τ : Topo} {sig : RefSig} {Val : EltTy → Type} (l k : List (HloOp τ sig Val)) (V : Valuation τ sig Val) :
    StableHlo.after (l ++ k) V = StableHlo.after k (StableHlo.after l V) := by
  induction l generalizing V with
  | nil => rfl
  | cons a l ih => exact ih _

open Cert.ProjIdeal Cert.ProjIdeal.Gen

/-- The host operations before the region, line by line. -/
theorem V_lines (m : (ℓ : Loc nD τ sig) → Buf (Elt Ideal) ℓ) (c : Dev nD) (b : Ref sig .tc) :
    V m c b = StableHlo.after hostOps0_6 (StableHlo.after hostOps0_5 (StableHlo.after hostOps0_4 (StableHlo.after hostOps0_3
      (StableHlo.after hostOps0_2 (StableHlo.after hostOps0_1 (StableHlo.after hostOps0 (fun b => m (c, b)))))))) b := by
  unfold V
  simp only [List.flatten_cons, List.flatten_nil, List.append_nil, after_both]

variable (σ : Valuation τ sig (Elt Ideal))

/-! ## The weights -/

/-- The columns of the first mixer: the queries' 512, then each key head twice, then each value head twice. -/
def wide (W : FVec Ideal S1024x4384 .f32) : FVec Ideal S1024x1024 .f32 :=
  concatenate S1024x1024 1
    [⟨S1024x512, (extractStridedSlice S1024x512 ![0, 0] W slices_S1024x4384_S1024x512_0_0 : FVec Ideal S1024x512 .f32)⟩,
     ⟨S1024x64, (extractStridedSlice S1024x64 ![0, 512] W slices_S1024x4384_S1024x64_0_512 : FVec Ideal S1024x64 .f32)⟩,
     ⟨S1024x64, (extractStridedSlice S1024x64 ![0, 512] W slices_S1024x4384_S1024x64_0_512 : FVec Ideal S1024x64 .f32)⟩,
     ⟨S1024x64, (extractStridedSlice S1024x64 ![0, 576] W slices_S1024x4384_S1024x64_0_576 : FVec Ideal S1024x64 .f32)⟩,
     ⟨S1024x64, (extractStridedSlice S1024x64 ![0, 576] W slices_S1024x4384_S1024x64_0_576 : FVec Ideal S1024x64 .f32)⟩,
     ⟨S1024x64, (extractStridedSlice S1024x64 ![0, 640] W slices_S1024x4384_S1024x64_0_640 : FVec Ideal S1024x64 .f32)⟩,
     ⟨S1024x64, (extractStridedSlice S1024x64 ![0, 640] W slices_S1024x4384_S1024x64_0_640 : FVec Ideal S1024x64 .f32)⟩,
     ⟨S1024x64, (extractStridedSlice S1024x64 ![0, 704] W slices_S1024x4384_S1024x64_0_704 : FVec Ideal S1024x64 .f32)⟩,
     ⟨S1024x64, (extractStridedSlice S1024x64 ![0, 704] W slices_S1024x4384_S1024x64_0_704 : FVec Ideal S1024x64 .f32)⟩]
    concatenates_S1024x512_S1024x64_S1024x64_S1024x64_S1024x64_S1024x64_S1024x64_S1024x64_S1024x64_S1024x1024_d1

/-- The first mixer's columns read among the queries'. -/
theorem wide_q (W : FVec Ideal S1024x4384 .f32) (d : Fin 1024) (n : Fin 512) : wide W (ix2 d ⟨n.val, by omega⟩) = W (ix2 d ⟨n.val, by omega⟩) := by
  unfold wide
  pointwise

/-- The first mixer's columns read among the keys' and the values': each head of 64 twice. -/
theorem wide_kv (W : FVec Ideal S1024x4384 .f32) (d : Fin 1024) (k : Fin 512) :
    wide W (ix2 d ⟨512 + k.val, by omega⟩) = W (ix2 d ⟨512 + 64 * (k.val / 128) + k.val % 64, by omega⟩) := by
  have hk := k.isLt
  unfold wide
  pointwise
  split_ifs <;> first | (exfalso; omega) | (refine congrArg W ?_; refine congrArg (ix2 d) (Fin.ext ?_); dsimp only; omega) | (blk_ext)

/-- Equal pieces make equal columns. -/
theorem nine_congr {A A' : FVec Ideal S1024x512 .f32} {a b c d e f g k a' b' c' d' e' f' g' k' : FVec Ideal S1024x64 .f32} (h)
    (hA : A = A') (ha : a = a') (hb : b = b') (hc : c = c') (hd : d = d') (he : e = e') (hf : f = f') (hg : g = g') (hk : k = k') :
    concatenate S1024x1024 1 [⟨S1024x512, A⟩, ⟨S1024x64, a⟩, ⟨S1024x64, b⟩, ⟨S1024x64, c⟩, ⟨S1024x64, d⟩, ⟨S1024x64, e⟩, ⟨S1024x64, f⟩, ⟨S1024x64, g⟩, ⟨S1024x64, k⟩] h
      = concatenate S1024x1024 1 [⟨S1024x512, A'⟩, ⟨S1024x64, a'⟩, ⟨S1024x64, b'⟩, ⟨S1024x64, c'⟩, ⟨S1024x64, d'⟩, ⟨S1024x64, e'⟩, ⟨S1024x64, f'⟩, ⟨S1024x64, g'⟩, ⟨S1024x64, k'⟩] h := by
  subst hA ha hb hc hd he hf hg hk; rfl

theorem line_wa : StableHlo.after hostOps0 σ (Proc.devRef .tc main_v6)
    = (truncf .bf16 (wide (σ (Proc.devRef .tc main_arg1))) bitsLt_bf16_f32 : FVec Ideal S1024x1024 .bf16) := by
  unfold wide
  after_reads_simp
  dsimp only [Matrix.cons_val_zero, Matrix.cons_val_one, Matrix.cons_val]
  refine congrArg (fun z => truncf FTy.bf16 z bitsLt_bf16_f32) (nine_congr _ ?_ ?_ ?_ ?_ ?_ ?_ ?_ ?_ ?_)
  all_goals
    after_reads_simp
    try rfl

theorem line_wn (d : Fin 1024) (n : Fin 1536) : StableHlo.after hostOps0 σ (Proc.devRef .tc main_v8) (ix2 d n)
    = σ (Proc.devRef .tc main_arg1) (ix2 d ⟨768 + n.val, by omega⟩) := by
  after_reads_simp
  pointwise

theorem line_wc (d : Fin 1024) (n : Fin 1536) : StableHlo.after hostOps0 σ (Proc.devRef .tc main_v10) (ix2 d n)
    = σ (Proc.devRef .tc main_arg1) (ix2 d ⟨2304 + n.val, by omega⟩) := by
  after_reads_simp
  pointwise

theorem line_wz (d : Fin 1024) (n : Fin 512) : StableHlo.after hostOps0 σ (Proc.devRef .tc main_v12) (ix2 d n)
    = σ (Proc.devRef .tc main_arg1) (ix2 d ⟨3840 + n.val, by omega⟩) := by
  after_reads_simp
  pointwise

theorem line_wg (d : Fin 1024) (n : Fin 32) : StableHlo.after hostOps0 σ (Proc.devRef .tc main_v13) (ix2 d n)
    = σ (Proc.devRef .tc main_arg1) (ix2 d ⟨4352 + n.val, by omega⟩) := by
  after_reads_simp
  pointwise

theorem line_zero : StableHlo.after hostOps0 σ (Proc.devRef .tc main_c) = (constantI S_ 32 0#32 : IVec S_ 32) := by
  after_reads_simp

/-- The gates' columns, padded with zeros to 128 lanes. -/
theorem line_pad (hz : σ (Proc.devRef .tc main_c) = (constantI S_ 32 0#32 : IVec S_ 32)) (d : Fin 1024) (l : Fin 128) :
    (StableHlo.after hostOps0_1 σ (Proc.devRef .tc main_v14) : FVec Ideal S1024x128 .f32) (ix2 d l)
      = if h : l.val < 32 then (σ (Proc.devRef .tc main_v13) : FVec Ideal S1024x32 .f32) (ix2 d ⟨l.val, h⟩) else (0 : EReal) := by
  have e : StableHlo.after hostOps0_1 σ (Proc.devRef .tc main_v14)
      = (pad S1024x128 ![0, 0] ![0, 96] ![0, 0] (σ (Proc.devRef .tc main_v13) : FVec Ideal S1024x32 .f32) (sitofp .f32 (constantI S_ 32 0#32) : FVec Ideal S_ .f32)
          pads_S1024x32_S1024x128_000_0960 h_S_ : FVec Ideal S1024x128 .f32) := by
    after_reads_simp
    rw [hz]
    rfl
  rw [e]
  pointwise
  split_ifs with h1 h2 h2
  · rfl
  · have h3 : (l.val - 0) / (0 + 1) < 32 := (h1 1).2.2
    omega
  · refine absurd (fun a => ?_) h1
    match a with
    | ⟨0, _⟩ =>
      have hd := d.isLt
      show 0 ≤ d.val ∧ (d.val - 0) % (0 + 1) = 0 ∧ (d.val - 0) / (0 + 1) < 1024
      omega
    | ⟨1, _⟩ =>
      show 0 ≤ l.val ∧ (l.val - 0) % (0 + 1) = 0 ∧ (l.val - 0) / (0 + 1) < 32
      omega
  · show ((((0#32 : BitVec 32).toInt : ℤ) : ℝ) : EReal) = 0
    simp

theorem line_wab (d : Fin 1024) (l : Fin 128) : StableHlo.after hostOps0_2 σ (Proc.devRef .tc main_v15) (ix2 d l)
    = σ (Proc.devRef .tc main_v14) (ix2 d l) := by
  after_reads_simp
  pointwise

/-! ## The decays' parameters, written into a table of zeros row by row -/

/-- Update `k` of a row written at a pair of index words lands at `(r, c)` exactly when the first word is `r` and the
    second plus `k` is `c`, both read signed. -/
theorem lands_row {R C U w : ℕ} (d : ScatterDims (shape2 R C) (shape1 2) (shape1 U)) (hiw : d.insertedWindowDims = [0])
    (hsd : d.scatterDimsToOperandDims = [0, 1]) (hivd : d.indexVectorDim = 0) (idx : IVec (shape1 2) w) (k : Fin U) (r : Fin R) (c : Fin C) :
    d.resultIdx? (ValueIdx.ix1 k) idx = some (ValueIdx.ix2 r c)
      ↔ (idx (ValueIdx.ix1 (0 : Fin 2))).toInt = r.val ∧ (idx (ValueIdx.ix1 (1 : Fin 2))).toInt + (k.val : Int) = c.val := by
  have hwin1 : d.window (ValueIdx.ix1 k) 1 = k.val := by
    have hk : d.sKept = [1] := by
      show (shape2 R C).kept d.insertedWindowDims = _
      rw [hiw]
      rfl
    unfold ScatterDims.window
    rw [dif_pos (by rw [hk]; simp)]
    exact congrArg (fun t => ((ValueIdx.ix1 k : (shape1 U).Idx) t).val) (Subsingleton.elim (α := Fin 1) _ 0)
  have hwin0 : d.window (ValueIdx.ix1 k) 0 = 0 := by
    unfold ScatterDims.window
    rw [dif_neg fun h => (of_decide_eq_true (List.mem_filter.1 h).2) (by rw [hiw]; simp)]
  rw [Routing.resultIdx?_ix2, Routing.start_pair d hsd hivd, Routing.start_pair d hsd hivd, hwin0, hwin1]
  omega

/-- A table with sixteen elements written at the start of a row. -/
def put (a : BitVec 32) (x : FVec Ideal S8x128 .f32) (u : FVec Ideal S16 .f32) : FVec Ideal S8x128 .f32 :=
  Host.scatter scatter_S8x128_S2_S16_0_0_01_0 (fun _ b => b) x
    (concatenate S2 0 [⟨S1, (broadcastInDim S1 ![] bcast_S_S1 (constantI S_ 32 a) : IVec S1 32)⟩, ⟨S1, (broadcastInDim S1 ![] bcast_S_S1 (constantI S_ 32 0#32) : IVec S1 32)⟩]
      concatenates_S1_S1_S2_d0) u

/-- That table read at an element. -/
theorem put_at (a : BitVec 32) (x : FVec Ideal S8x128 .f32) (u : FVec Ideal S16 .f32) (r : Fin 8) (l : Fin 128) :
    put a x u (ix2 r l) = if h : a.toInt = r.val ∧ l.val < 16 then u (ix1 ⟨l.val, h.2⟩) else x (ix2 r l) := by
  have w0 : (concatenate S2 0 [⟨S1, (broadcastInDim S1 ![] bcast_S_S1 (constantI S_ 32 a) : IVec S1 32)⟩, ⟨S1, (broadcastInDim S1 ![] bcast_S_S1 (constantI S_ 32 0#32) : IVec S1 32)⟩]
      concatenates_S1_S1_S2_d0 : IVec S2 32) (ix1 (0 : Fin 2)) = a := by
    pointwise
  have w1 : (concatenate S2 0 [⟨S1, (broadcastInDim S1 ![] bcast_S_S1 (constantI S_ 32 a) : IVec S1 32)⟩, ⟨S1, (broadcastInDim S1 ![] bcast_S_S1 (constantI S_ 32 0#32) : IVec S1 32)⟩]
      concatenates_S1_S1_S2_d0 : IVec S2 32) (ix1 (1 : Fin 2)) = 0#32 := by
    pointwise
  unfold put
  generalize (concatenate S2 0 [⟨S1, (broadcastInDim S1 ![] bcast_S_S1 (constantI S_ 32 a) : IVec S1 32)⟩, ⟨S1, (broadcastInDim S1 ![] bcast_S_S1 (constantI S_ 32 0#32) : IVec S1 32)⟩]
      concatenates_S1_S1_S2_d0 : IVec S2 32) = idx at w0 w1 ⊢
  have ei : (ix2 r l : S8x128.Idx) = ValueIdx.ix2 r l := by idx_ext
  have e0 : (ix1 (0 : Fin 2) : S2.Idx) = ValueIdx.ix1 (0 : Fin 2) := by idx_ext
  have e1 : (ix1 (1 : Fin 2) : S2.Idx) = ValueIdx.ix1 (1 : Fin 2) := by idx_ext
  rw [e0] at w0
  rw [e1] at w1
  rw [ei]
  have key : ∀ k : Fin 16, scatter_S8x128_S2_S16_0_0_01_0.resultIdx? (ValueIdx.ix1 k) idx = some (ValueIdx.ix2 r l) ↔ a.toInt = r.val ∧ k.val = l.val := by
    intro k
    have := lands_row scatter_S8x128_S2_S16_0_0_01_0 rfl rfl rfl idx k r l
    rw [w0, w1] at this
    rw [this]
    have hz : (0#32 : BitVec 32).toInt = 0 := rfl
    rw [hz]
    omega
  split_ifs with h
  · refine Routing.scatter_set_hit _ x idx u (ValueIdx.ix2 r l) _ (fun k hk => ?_) (ValueIdx.ix1 ⟨l.val, h.2⟩) ((key _).2 ⟨h.1, rfl⟩)
    obtain ⟨k, rfl⟩ : ∃ k' : Fin 16, k = ValueIdx.ix1 k' := ⟨k 0, by idx_ext⟩
    have e := ((key k).1 hk).2
    exact congrArg u (by rw [show k = (⟨l.val, h.2⟩ : Fin 16) from Fin.ext e]; idx_ext)
  · refine Routing.scatter_set_miss _ x idx u (ValueIdx.ix2 r l) fun k hk => ?_
    obtain ⟨k, rfl⟩ : ∃ k' : Fin 16, k = ValueIdx.ix1 k' := ⟨k 0, by idx_ext⟩
    have e := (key k).1 hk
    exact h ⟨e.1, by have := k.isLt; omega⟩

theorem line_gp : StableHlo.after hostOps0_2 σ (Proc.devRef .tc main_v31)
    = put 2#32 (put 1#32 (put 0#32 (broadcastInDim S8x128 ![] bcast_S_S8x128 (constant S_ .f32 0x00000000#32))
        (shapeCast S16 (σ (Proc.devRef .tc main_arg5) : FVec Ideal S2x8 .f32) shapeCasts_S2x8_S16))
        (shapeCast S16 (σ (Proc.devRef .tc main_arg6) : FVec Ideal S2x8 .f32) shapeCasts_S2x8_S16))
        (broadcastInDim S16 ![] bcast_S_S16 (constant S_ .f32 0x3F800000#32)) := by
  unfold put
  after_reads_simp
  try rfl

/-! ## The angles' tables -/

/-- The angles of a coordinate: the coordinate times each frequency. -/
def angle (g : FVec Ideal S8192 .f32) : FVec Ideal S8192x16 .f32 :=
  mulf (broadcastInDim S8192x16 ![0, 1] bcast_S8192x1_S8192x16_0_1 (broadcastInDim S8192x1 ![0] bcast_S8192_S8192x1_0 g))
    (broadcastInDim S8192x16 ![0, 1] bcast_S1x16_S8192x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

theorem ref_row : Cert.ProjRefIdeal.Read.val_main_v31 (F := Ideal) = angle (Cert.ProjRefIdeal.Read.val_main_v18 (F := Ideal)) := rfl

theorem ref_col : Cert.ProjRefIdeal.Read.val_main_v36 (F := Ideal) = angle (Cert.ProjRefIdeal.Read.val_main_v20 (F := Ideal)) := rfl

theorem line_iota : StableHlo.after hostOps0_2 σ (Proc.devRef .tc main_v32) = (iotaInDim S8192 32 0 : IVec S8192 32) := by
  after_reads_simp

theorem line_64 : StableHlo.after hostOps0_2 σ (Proc.devRef .tc main_c_7) = (constantI S_ 32 64#32 : IVec S_ 32) := by
  after_reads_simp

theorem line_row (h1 : σ (Proc.devRef .tc main_v32) = (iotaInDim S8192 32 0 : IVec S8192 32)) (h2 : σ (Proc.devRef .tc main_c_7) = (constantI S_ 32 64#32 : IVec S_ 32)) :
    StableHlo.after hostOps0_3 σ (Proc.devRef .tc main_v33) = Cert.ProjRefIdeal.Read.val_main_v17 (F := Ideal) := by
  after_reads_simp
  rw [h1, h2]
  rfl

theorem line_rowf : StableHlo.after hostOps0_4 σ (Proc.devRef .tc main_v34) = (sitofp .f32 (σ (Proc.devRef .tc main_v33) : IVec S8192 32) : FVec Ideal S8192 .f32) := by
  after_reads_simp
  try rfl

theorem line_64' : StableHlo.after hostOps0_4 σ (Proc.devRef .tc main_c_8) = (constantI S_ 32 64#32 : IVec S_ 32) := by
  after_reads_simp

theorem line_col (h1 : σ (Proc.devRef .tc main_v32) = (iotaInDim S8192 32 0 : IVec S8192 32)) (h2 : σ (Proc.devRef .tc main_c_8) = (constantI S_ 32 64#32 : IVec S_ 32)) :
    StableHlo.after hostOps0_5 σ (Proc.devRef .tc main_v35) = Cert.ProjRefIdeal.Read.val_main_v19 (F := Ideal) := by
  after_reads_simp
  rw [h1, h2]
  rfl

/-- Four blocks of sixteen lanes, laid out twice side by side. -/
def quad (a b c d : FVec Ideal S8192x16 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x16, a⟩, ⟨S8192x16, b⟩, ⟨S8192x16, c⟩, ⟨S8192x16, d⟩]
      concatenates_S8192x16_S8192x16_S8192x16_S8192x16_S8192x64_d1 : FVec Ideal S8192x64 .f32) shapeCasts_S8192x64_S1x8192x1x64 : FVec Ideal S1x8192x1x64 .f32))
    shapeCasts_S1x8192x2x64_S8192x128

/-- That table read at a lane. -/
theorem quad_at (a b c d : FVec Ideal S8192x16 .f32) (s : Fin 8192) (l : Fin 128) :
    quad a b c d (ix2 s l) = if l.val % 64 < 16 then a (ix2 s ⟨l.val % 16, Nat.mod_lt _ (by omega)⟩)
      else if l.val % 64 < 32 then b (ix2 s ⟨l.val % 16, Nat.mod_lt _ (by omega)⟩)
      else if l.val % 64 < 48 then c (ix2 s ⟨l.val % 16, Nat.mod_lt _ (by omega)⟩)
      else d (ix2 s ⟨l.val % 16, Nat.mod_lt _ (by omega)⟩) := by
  rcases (by omega : l.val % 64 < 16 ∨ (16 ≤ l.val % 64 ∧ l.val % 64 < 32) ∨ (32 ≤ l.val % 64 ∧ l.val % 64 < 48) ∨ 48 ≤ l.val % 64) with h | h | h | h
  · rw [if_pos h]; unfold quad; pointwise; split_ifs <;> first | (exfalso; omega) | blk_ext
  · rw [if_neg (by omega), if_pos h.2]; unfold quad; pointwise; split_ifs <;> first | (exfalso; omega) | blk_ext
  · rw [if_neg (by omega), if_neg (by omega), if_pos h.2]; unfold quad; pointwise; split_ifs <;> first | (exfalso; omega) | blk_ext
  · rw [if_neg (by omega), if_neg (by omega), if_neg (by omega)]; unfold quad; pointwise; split_ifs <;> first | (exfalso; omega) | blk_ext

theorem quad_congr {a b c d a' b' c' d' : FVec Ideal S8192x16 .f32} (ha : a = a') (hb : b = b') (hc : c = c') (hd : d = d') :
    quad a b c d = quad a' b' c' d' := by subst ha hb hc hd; rfl

theorem line_cos : StableHlo.after hostOps0_6 σ (Proc.devRef .tc main_v67)
    = quad (Host.cos (angle (σ (Proc.devRef .tc main_v34)))) (Host.cos (angle (σ (Proc.devRef .tc main_v34))))
        (Host.cos (angle (sitofp .f32 (σ (Proc.devRef .tc main_v35) : IVec S8192 32)))) (Host.cos (angle (sitofp .f32 (σ (Proc.devRef .tc main_v35) : IVec S8192 32)))) := by
  after_reads_simp
  dsimp only [Matrix.cons_val_zero, Matrix.cons_val_one, Matrix.cons_val]
  refine quad_congr ?_ ?_ ?_ ?_
  all_goals
    unfold angle
    after_reads_simp
    try rfl

theorem line_sin : StableHlo.after hostOps0_6 σ (Proc.devRef .tc main_v70)
    = quad (Host.negf (Host.sin (angle (σ (Proc.devRef .tc main_v34))))) (Host.sin (angle (σ (Proc.devRef .tc main_v34))))
        (Host.negf (Host.sin (angle (sitofp .f32 (σ (Proc.devRef .tc main_v35) : IVec S8192 32))))) (Host.sin (angle (sitofp .f32 (σ (Proc.devRef .tc main_v35) : IVec S8192 32)))) := by
  after_reads_simp
  dsimp only [Matrix.cons_val_zero, Matrix.cons_val_one, Matrix.cons_val]
  refine quad_congr ?_ ?_ ?_ ?_
  all_goals
    unfold angle
    after_reads_simp
    try rfl

/-! ## The norms' scales -/

theorem line_qg (l : Fin 128) : StableHlo.after hostOps0_6 σ (Proc.devRef .tc main_v74) (ix2 0 l)
    = σ (Proc.devRef .tc main_arg2) (ix1 ⟨l.val % 64, Nat.mod_lt _ (by omega)⟩) := by
  after_reads_simp
  pointwise

theorem line_kg (l : Fin 128) : StableHlo.after hostOps0_6 σ (Proc.devRef .tc main_v78) (ix2 0 l)
    = σ (Proc.devRef .tc main_arg3) (ix1 ⟨l.val % 64, Nat.mod_lt _ (by omega)⟩) := by
  after_reads_simp
  pointwise

end Cert.ProjIdeal.Lines
-- ==== Proof.ProjReads.lean ====
module

public import proofs.«01_k».proof.Proof.ProjLines
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Reads

open Cert.ProjIdeal Cert.ProjIdeal.Gen Cert.ProjIdeal.Lines

variable (m : (ℓ : Loc nD τ sig) → Buf (Elt Ideal) ℓ)

/-- The input windows' index maps at every grid point: the token rows move with the point, the sixteen rows before and
    after them are the neighbouring blocks of sixteen, clamped at the array's ends, the tables repeat every sequence, every
    weight is one whole block. -/
theorem idx : ∀ t : Fin cfg0.N, win0_0.index t = ![t.val * 32 - 1, 0] ∧ win0_1.index t = ![t.val, 0]
    ∧ win0_2.index t = ![min ((t.val + 1) * 32) 5119, 0] ∧ win0_3.index t = ![t.val % 16, 0] ∧ win0_4.index t = ![t.val % 16, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] :=
  (by decide +kernel : ∀ t : Fin grid0.N, _)

/-- The output windows' index maps at every grid point. -/
theorem odx : ∀ t : Fin cfg0.N, win0_14.index t = ![t.val, 0] ∧ win0_15.index t = ![t.val / 16, 0, t.val % 16]
    ∧ win0_16.index t = ![t.val, 0] ∧ win0_17.index t = ![t.val, 0] ∧ win0_18.index t = ![t.val / 16, 0, t.val % 16]
    ∧ win0_19.index t = ![t.val, 0] ∧ win0_20.index t = ![t.val, 0] ∧ win0_21.index t = ![t.val, 0]
    ∧ win0_22.index t = ![t.val, 0] ∧ win0_23.index t = ![t.val, 0] ∧ win0_24.index t = ![t.val, 0] :=
  (by decide +kernel : ∀ t : Fin grid0.N, _)

/-- The grid's coordinate at a point is the point. -/
theorem coord : ∀ t : Fin cfg0.N, ((grid0.coords t) 0).val = t.val :=
  (by decide +kernel : ∀ t : Fin grid0.N, _)

/-- The token rows of a point. -/
theorem read_x (c : Dev nD) (t : Fin cfg0.N) (r : Fin 512) (d : Fin 1024) :
    iblk m c 1 t (ix2 r d) = m ((c : Thread nD τ).loc main_arg0) (ix2 ⟨t.val * 512 + r.val, by have : t.val < 160 := t.isLt; omega⟩ d) := by
  blk_ext! [iblk, V, idx t]

/-- The sixteen rows before a point's. -/
theorem read_before (c : Dev nD) (t : Fin cfg0.N) (r : Fin 16) (d : Fin 1024) (i : Fin 81920)
    (hi : i.val = (t.val * 32 - 1) * 16 + r.val) :
    iblk m c 0 t (ix2 r d) = m ((c : Thread nD τ).loc main_arg0) (ix2 i d) := by
  blk_ext! [iblk, V, idx t]

/-- The sixteen rows after a point's. -/
theorem read_after (c : Dev nD) (t : Fin cfg0.N) (r : Fin 16) (d : Fin 1024) (i : Fin 81920)
    (hi : i.val = min ((t.val + 1) * 32) 5119 * 16 + r.val) :
    iblk m c 2 t (ix2 r d) = m ((c : Thread nD τ).loc main_arg0) (ix2 i d) := by
  blk_ext! [iblk, V, idx t]

/-- The convolution's weights. -/
theorem read_cw (c : Dev nD) (t : Fin cfg0.N) (j : Fin 3) (n : Fin 1536) :
    iblk m c 12 t (ix2 j n) = m ((c : Thread nD τ).loc main_arg4) (ix2 j n) := by
  blk_ext! [iblk, V, idx t]

/-- The launched arrays. -/
abbrev launched (c : Dev nD) : Valuation τ sig (Elt Ideal) := fun b => m (c, b)

/-- The second mixer's weights, untouched after they are made. -/
theorem V_wn (c : Dev nD) : V m c main_v8 = StableHlo.after hostOps0 (launched m c) (Proc.devRef .tc main_v8) := by
  rw [V_lines]
  after_reads_simp

theorem V_wc (c : Dev nD) : V m c main_v10 = StableHlo.after hostOps0 (launched m c) (Proc.devRef .tc main_v10) := by
  rw [V_lines]
  after_reads_simp

theorem V_wz (c : Dev nD) : V m c main_v12 = StableHlo.after hostOps0 (launched m c) (Proc.devRef .tc main_v12) := by
  rw [V_lines]
  after_reads_simp

theorem V_wa (c : Dev nD) : V m c main_v6 = StableHlo.after hostOps0 (launched m c) (Proc.devRef .tc main_v6) := by
  rw [V_lines]
  after_reads_simp
  try rfl

theorem read_wn (c : Dev nD) (t : Fin cfg0.N) (d : Fin 1024) (n : Fin 1536) :
    iblk m c 6 t (ix2 d n) = m ((c : Thread nD τ).loc main_arg1) (ix2 d ⟨768 + n.val, by omega⟩) := by
  refine Eq.trans (b := V m c main_v8 (ix2 d n)) (by blk_ext! [iblk, idx t]) ?_
  rw [V_wn, line_wn]

theorem read_wc (c : Dev nD) (t : Fin cfg0.N) (d : Fin 1024) (n : Fin 1536) :
    iblk m c 7 t (ix2 d n) = m ((c : Thread nD τ).loc main_arg1) (ix2 d ⟨2304 + n.val, by omega⟩) := by
  refine Eq.trans (b := V m c main_v10 (ix2 d n)) (by blk_ext! [iblk, idx t]) ?_
  rw [V_wc, line_wc]

theorem read_wz (c : Dev nD) (t : Fin cfg0.N) (d : Fin 1024) (n : Fin 512) :
    iblk m c 8 t (ix2 d n) = m ((c : Thread nD τ).loc main_arg1) (ix2 d ⟨3840 + n.val, by omega⟩) := by
  refine Eq.trans (b := V m c main_v12 (ix2 d n)) (by blk_ext! [iblk, idx t]) ?_
  rw [V_wz, line_wz]

theorem read_wa (c : Dev nD) (t : Fin cfg0.N) (d : Fin 1024) (n : Fin 1024) :
    iblk m c 5 t (ix2 d n) = wide (m ((c : Thread nD τ).loc main_arg1)) (ix2 d n) := by
  refine Eq.trans (b := V m c main_v6 (ix2 d n)) (by blk_ext! [iblk, idx t]) ?_
  rw [V_wa, line_wa]
  rfl

/-! ## The tables of the rotation -/

section tables

variable (σ : Valuation τ sig (Elt Ideal))

/-- The tokens' numbers stay through the lines that find their rows. -/
theorem keep_iota : StableHlo.after hostOps0_4 (StableHlo.after hostOps0_3 σ) (Proc.devRef .tc main_v32) = σ (Proc.devRef .tc main_v32) := by
  after_reads_simp

/-- The rows stay through the lines that find the columns. -/
theorem keep_row : StableHlo.after hostOps0_5 σ (Proc.devRef .tc main_v34) = σ (Proc.devRef .tc main_v34) := by
  after_reads_simp

/-- The rows of the tokens, as numbers. -/
theorem rows_are : StableHlo.after hostOps0_5 (StableHlo.after hostOps0_4 (StableHlo.after hostOps0_3 (StableHlo.after hostOps0_2 σ))) (Proc.devRef .tc main_v34)
    = Cert.ProjRefIdeal.Read.val_main_v18 (F := Ideal) := by
  rw [keep_row, line_rowf, line_row _ (line_iota σ) (line_64 σ)]
  rfl

/-- The columns of the tokens. -/
theorem cols_are : StableHlo.after hostOps0_5 (StableHlo.after hostOps0_4 (StableHlo.after hostOps0_3 (StableHlo.after hostOps0_2 σ))) (Proc.devRef .tc main_v35)
    = Cert.ProjRefIdeal.Read.val_main_v19 (F := Ideal) :=
  line_col _ ((keep_iota _).trans (line_iota σ)) (line_64' _)

end tables

/-- The cosines' table: the angle of the row in the first 32 lanes of a head, of the column in the others. -/
theorem V_cos (c : Dev nD) : V m c main_v67
    = quad (Cert.ProjRefIdeal.Read.val_main_v37 (F := Ideal)) (Cert.ProjRefIdeal.Read.val_main_v37 (F := Ideal))
        (Cert.ProjRefIdeal.Read.val_main_v39 (F := Ideal)) (Cert.ProjRefIdeal.Read.val_main_v39 (F := Ideal)) := by
  rw [V_lines, line_cos, rows_are, cols_are]
  rfl

/-- The sines' table, signed. -/
theorem V_sin (c : Dev nD) : V m c main_v70
    = quad (Host.negf (Cert.ProjRefIdeal.Read.val_main_v38 (F := Ideal))) (Cert.ProjRefIdeal.Read.val_main_v38 (F := Ideal))
        (Host.negf (Cert.ProjRefIdeal.Read.val_main_v40 (F := Ideal))) (Cert.ProjRefIdeal.Read.val_main_v40 (F := Ideal)) := by
  rw [V_lines, line_sin, rows_are, cols_are]
  rfl

/-- The tables' rows of a point. -/
theorem read_cos (c : Dev nD) (t : Fin cfg0.N) (r : Fin 512) (l : Fin 128) (s : Fin 8192) (hs : s.val = t.val % 16 * 512 + r.val) :
    iblk m c 3 t (ix2 r l) = V m c main_v67 (ix2 s l) := by
  blk_ext! [iblk, idx t]

theorem read_sin (c : Dev nD) (t : Fin cfg0.N) (r : Fin 512) (l : Fin 128) (s : Fin 8192) (hs : s.val = t.val % 16 * 512 + r.val) :
    iblk m c 4 t (ix2 r l) = V m c main_v70 (ix2 s l) := by
  blk_ext! [iblk, idx t]

/-! ## The norms' scales -/

/-- The scales' arguments stay. -/
theorem keep_scales (σ : Valuation τ sig (Elt Ideal)) :
    StableHlo.after hostOps0_5 (StableHlo.after hostOps0_4 (StableHlo.after hostOps0_3 (StableHlo.after hostOps0_2 (StableHlo.after hostOps0_1 (StableHlo.after hostOps0 σ))))) (Proc.devRef .tc main_arg2) = σ (Proc.devRef .tc main_arg2)
    ∧ StableHlo.after hostOps0_5 (StableHlo.after hostOps0_4 (StableHlo.after hostOps0_3 (StableHlo.after hostOps0_2 (StableHlo.after hostOps0_1 (StableHlo.after hostOps0 σ))))) (Proc.devRef .tc main_arg3) = σ (Proc.devRef .tc main_arg3) := by
  constructor <;> after_reads_simp

/-- The scale of the queries' norm, laid out twice side by side, read at a lane of 128. -/
theorem read_qg (c : Dev nD) (t : Fin cfg0.N) (l : Fin 128) :
    iblk m c 10 t (ix2 0 l) = m ((c : Thread nD τ).loc main_arg2) (ix1 ⟨l.val % 64, Nat.mod_lt _ (by omega)⟩) := by
  refine Eq.trans (b := V m c main_v74 (ix2 0 l)) (by blk_ext! [iblk, idx t]) ?_
  rw [V_lines, line_qg, (keep_scales _).1]

/-- The scale of the keys' norm. -/
theorem read_kg (c : Dev nD) (t : Fin cfg0.N) (l : Fin 128) :
    iblk m c 11 t (ix2 0 l) = m ((c : Thread nD τ).loc main_arg3) (ix1 ⟨l.val % 64, Nat.mod_lt _ (by omega)⟩) := by
  refine Eq.trans (b := V m c main_v78 (ix2 0 l)) (by blk_ext! [iblk, idx t]) ?_
  rw [V_lines, line_kg, (keep_scales _).2]

end Cert.ProjIdeal.Reads
-- ==== Proof.ProjTile.lean ====
module

public import proofs.«01_k».proof.Proof.Gen.ProjIdeal.Skeleton
public import proofs.«01_k».proof.Proof.MergeBlock
public import Idealize.ShloMosaic.Lib.Pointwise
public import Idealize.ShloMosaic.Lib.Pipeline.ValueKit

@[expose] public section

set_option maxRecDepth 16384

noncomputable section

open Idealize.ShloMosaic

namespace Cert.ProjTile

open Cert.ProjIdeal Cert.ProjIdeal.Gen
open Cert.MergeBlock (lane sum_head ofBits_one ofBits_64 ofBits_inv64)

/-! ## The table of ones and the mask of the rotation -/

/-- The table of ones that the body multiplies by. -/
abbrev ones : FVec Ideal S128x128 .bf16 :=
  k0_pay8 (F := Ideal) k0_pay4 (iota .tc S128x128 32 [1] iota_S128x128_d1_w32) 64#32 k0_pay5 k0_pay6 k0_pay7

/-- The table of ones is the one that the merge's body multiplies by. -/
theorem ones_eq : ones = Cert.MergeBlock.headOnes := rfl

/-- The table holds one where two lanes lie in the same head and zero elsewhere. -/
theorem ones_at (a b : Fin 128) : ones (ix2 a b) = if a.val / 64 = b.val / 64 then (1 : EReal) else 0 := by
  rw [ones_eq]; exact Cert.MergeBlock.headOnes_at a b

/-- The mask of the lanes whose partner lies above them. -/
abbrev mask : IVec S512x128 1 := k0_pay13 k0_pay11 k0_pay12

/-- The mask holds in the first sixteen lanes of every 32. -/
theorem mask_at (r : Fin 512) (l : Fin 128) : mask (ix2 r l) = if l.val % 32 < 16 then 1#1 else 0#1 := by
  have h : ∀ l : Fin 128, mask (ix2 0 l) = if l.val % 32 < 16 then 1#1 else 0#1 := by decide +kernel
  exact (show mask (ix2 r l) = mask (ix2 0 l) from rfl).trans (h l)

/-! ## One slice of 128 lanes: the norm of its heads, and the rotation -/

/-- The root mean square norm of a row of 128 lanes, head by head, with scales `g`, at lane `l`. -/
def normed (q g : Fin 128 → EReal) (l : Fin 128) : EReal :=
  q l * Ideal.rsqrt (Ideal.div (∑ d, q (lane l d) * q (lane l d)) (Ideal.ofBits .f32 0x42800000#32)
    + Ideal.ofBits .f32 0x358637BD#32) * g l

/-- The lane that a lane is rotated with. -/
def partner (l : Fin 128) : Fin 128 :=
  if h : l.val % 32 < 16 then ⟨l.val + 16, by omega⟩ else ⟨l.val - 16, by omega⟩

/-- The rotated lane: itself by the cosine and its partner by the signed sine. -/
def roped (n cs sn : Fin 128 → EReal) (l : Fin 128) : EReal := n l * cs l + n (partner l) * sn l

/-- The sum over each head of the squares of a slice of 128 lanes, as the body takes it from two products with the table
    of ones. -/
def sumsq (E : FVec Ideal S128x128 .bf16) (q : FVec Ideal S512x128 .f32) : FVec Ideal S512x128 .f32 :=
  addf (matmul dot_S512x128_S128x128_S512x128_1_0_0_1_n_n none (truncf .bf16 (mulf q q) bitsLt_bf16_f32) E
      (constant S512x128 .f32 0x00000000#32))
    (matmul dot_S512x128_S128x128_S512x128_1_0_0_1_n_n none
      (truncf .bf16 (subf (mulf q q) (extf .f32 (truncf .bf16 (mulf q q) bitsLt_bf16_f32) bitsLt_bf16_f32)) bitsLt_bf16_f32) E
      (constant S512x128 .f32 0x00000000#32))

/-- The body's norm of a slice. -/
def norm (E : FVec Ideal S128x128 .bf16) (q : FVec Ideal S512x128 .f32) (g : FVec Ideal S1x128 .f32) : FVec Ideal S512x128 .f32 :=
  mulf (mulf q (rsqrt (addf (mulf (sumsq E q) (broadcast S512x128 (Scalar.ofBits .f32 0x3C800000#32)))
    (broadcast S512x128 (Scalar.ofBits .f32 0x358637BD#32))))) (broadcastTo S512x128 g broadcasts_S1x128_S512x128)

/-- The body's rotation of a slice. -/
def rope (M : IVec S512x128 1) (n cs sn : FVec Ideal S512x128 .f32) : FVec Ideal S512x128 .f32 :=
  addf (mulf n cs) (mulf (select M (dynamicRotate 1 112#32 none n rotates_S512x128_d1)
    (dynamicRotate 1 16#32 none n rotates_S512x128_d1)) sn)

/-- A slice of 128 columns of the first product. -/
def cols (o : Nat) (h : S512x1024.Slices ![0, o] S512x128) (y : FVec Ideal S512x1024 .f32) : FVec Ideal S512x128 .f32 :=
  extractStridedSlice S512x128 ![0, o] y h

/-- The sum of the squares at an element, where they are reals. -/
theorem sumsq_at (q : FVec Ideal S512x128 .f32) (r : Fin 512) (l : Fin 128)
    (h : ∀ x, ∃ y : ℝ, q (ix2 r x) = (y : EReal)) :
    sumsq ones q (ix2 r l) = ∑ d, q (ix2 r (lane l d)) * q (ix2 r (lane l d)) := by
  have hE := fun x => ones_at x l
  generalize ones = E at *
  unfold sumsq
  pointwise
  simp only [hE]
  have hz : ∀ x, q (ix2 r x) * q (ix2 r x) - q (ix2 r x) * q (ix2 r x) = 0 := by
    intro x
    obtain ⟨y, hy⟩ := h x
    rw [hy, ← EReal.coe_mul, ← EReal.coe_sub, sub_self, EReal.coe_zero]
  rw [sum_head (fun x => q (ix2 r x) * q (ix2 r x)) l]
  simp only [hz, zero_mul, Finset.sum_const_zero, add_zero]

/-- The norm at an element. -/
theorem norm_at (q : FVec Ideal S512x128 .f32) (g : FVec Ideal S1x128 .f32) (r : Fin 512) (l : Fin 128)
    (h : ∀ x, ∃ y : ℝ, q (ix2 r x) = (y : EReal)) :
    norm ones q g (ix2 r l) = normed (fun x => q (ix2 r x)) (fun x => g (ix2 0 x)) l := by
  have hs := sumsq_at q r l h
  unfold norm normed
  generalize sumsq ones q = s at *
  pointwise
  rw [hs, ofBits_64, Ideal.div_coe (by norm_num), ofBits_inv64]

/-- The rotation at an element. -/
theorem rope_at (n cs sn : FVec Ideal S512x128 .f32) (r : Fin 512) (l : Fin 128) :
    rope mask n cs sn (ix2 r l)
      = roped (fun x => n (ix2 r x)) (fun x => cs (ix2 r x)) (fun x => sn (ix2 r x)) l := by
  have hM := mask_at r l
  generalize mask = M at *
  unfold rope roped partner
  pointwise
  rw [hM]
  by_cases hl : l.val % 32 < 16
  · simp only [hl, if_true, dif_pos]
    refine congrArg (fun z => n (ix2 r l) * cs (ix2 r l) + z * sn (ix2 r l)) ?_
    exact congrArg n (by idx_ext)
  · simp only [hl, if_false, dif_neg, not_false_eq_true]
    refine congrArg (fun z => n (ix2 r l) * cs (ix2 r l) + z * sn (ix2 r l)) ?_
    exact congrArg n (by idx_ext)

/-! ## The printed slices are these -/

/-- One slice of queries: normed, rotated and scaled. -/
def query (E : FVec Ideal S128x128 .bf16) (M : IVec S512x128 1) (cs sn q : FVec Ideal S512x128 .f32) (g : FVec Ideal S1x128 .f32) :
    FVec Ideal S512x128 .bf16 :=
  truncf .bf16 (mulf (rope M (norm E q g) cs sn) (broadcast S512x128 (Scalar.ofBits .f32 0x3E000000#32))) bitsLt_bf16_f32

/-- One slice of keys: normed, rotated, and transposed. -/
def key (E : FVec Ideal S128x128 .bf16) (M : IVec S512x128 1) (cs sn q : FVec Ideal S512x128 .f32) (g : FVec Ideal S1x128 .f32) :
    FVec Ideal S1x128x512 .bf16 :=
  shapeCast S1x128x512 (truncf .bf16 (transpose S128x512 [1, 0] (rope M (norm E q g) cs sn)
    transposes_S512x128_p1_0_S128x512) bitsLt_bf16_f32) shapeCasts_S128x512_S1x128x512

section slices

variable (E : FVec Ideal S128x128 .bf16) (xm : Vec Ideal S512x1024 .bf16) (w : Vec Ideal S1024x1024 .bf16)
  (cs sn : Vec Ideal S512x128 .f32) (g : Vec Ideal S1x128 .f32) (y : FVec Ideal S512x1024 .f32)

theorem query0 : k0_pay15 xm E (k0_pay9 cs) (k0_pay10 sn) k0_pay11 k0_pay12 w g
    = query E mask cs sn (cols 0 slices_S512x1024_o0_0_S512x128 (k0_pay14 xm w)) g := by
  unfold k0_pay15 k0_pay9 k0_pay10
  simp only [shapeCast_self]
  rfl

theorem query1 : k0_pay22 E (k0_pay9 cs) (k0_pay10 sn) mask (k0_pay16 xm w) (k0_pay17 g) (k0_pay20 xm w) (k0_pay21 xm E w)
    = query E mask cs sn (cols 128 slices_S512x1024_o0_128_S512x128 (k0_pay14 xm w)) g := by
  unfold k0_pay17 k0_pay9 k0_pay10
  simp only [shapeCast_self]
  rfl

theorem query2 : k0_pay26 (k0_pay10 sn) (k0_pay24 E mask y g) (k0_pay25 E (k0_pay9 cs) y g)
    = query E mask cs sn (cols 256 slices_S512x1024_o0_256_S512x128 y) g := by
  unfold k0_pay24 k0_pay25 k0_pay23 k0_pay9 k0_pay10
  simp only [shapeCast_self]
  rfl

theorem query3 : k0_pay27 E (k0_pay9 cs) (k0_pay10 sn) mask y g
    = query E mask cs sn (cols 384 slices_S512x1024_o0_384_S512x128 y) g := by
  unfold k0_pay27 k0_pay9 k0_pay10
  simp only [shapeCast_self]
  rfl

theorem key0 : k0_pay33 E (k0_pay9 cs) (k0_pay10 sn) mask (k0_pay28 y) (k0_pay29 g) (k0_pay31 y) (k0_pay32 y)
    = key E mask cs sn (cols 512 slices_S512x1024_o0_512_S512x128 y) g := by
  unfold k0_pay29 k0_pay9 k0_pay10
  simp only [shapeCast_self]
  rfl

theorem key1 : k0_pay36 (k0_pay9 cs) (k0_pay10 sn) mask (k0_pay34 E y g) (k0_pay35 E y g)
    = key E mask cs sn (cols 640 slices_S512x1024_o0_640_S512x128 y) g := by
  unfold k0_pay35 k0_pay34 k0_pay9 k0_pay10
  simp only [shapeCast_self]
  rfl

end slices

/-! ## The convolved slices -/

/-- Three rows of one channel, weighed. -/
def conv3 (a b c w0 w1 w2 : EReal) : EReal := a * w0 + b * w1 + c * w2

/-- A number times its logistic. -/
def silu (v : EReal) : EReal := v * Ideal.logistic v

/-- A slice of rows before, at and after, weighed. -/
def conv (a : Vec Ideal S512x128 .f32) (w0 : Vec Ideal S1x128 .f32) (b : Vec Ideal S512x128 .f32) (w1 : Vec Ideal S1x128 .f32)
    (c : Vec Ideal S512x128 .f32) (w2 : Vec Ideal S1x128 .f32) : FVec Ideal S512x128 .f32 :=
  addf (addf (mulf a (broadcastTo S512x128 w0 broadcasts_S1x128_S512x128))
    (mulf b (broadcastTo S512x128 w1 broadcasts_S1x128_S512x128))) (mulf c (broadcastTo S512x128 w2 broadcasts_S1x128_S512x128))

/-- The activation of a slice. -/
def act (v : FVec Ideal S512x128 .f32) : FVec Ideal S512x128 .f32 := mulf v (logistic v)

/-- Each head of a slice divided by its length. -/
def unit (E : FVec Ideal S128x128 .bf16) (y : FVec Ideal S512x128 .f32) : FVec Ideal S512x128 .f32 :=
  mulf y (rsqrt (addf (sumsq E y) (broadcast S512x128 (Scalar.ofBits .f32 0x358637BD#32))))

/-- A slice times an eighth. -/
def eighth (y : FVec Ideal S512x128 .f32) : FVec Ideal S512x128 .f32 :=
  mulf y (broadcast S512x128 (Scalar.ofBits .f32 0x3E000000#32))

section convolved

variable (E : FVec Ideal S128x128 .bf16) (a b c : Vec Ideal S512x128 .f32) (w0 w1 w2 : Vec Ideal S1x128 .f32)

theorem cq0 : k0_pay44 E a w0 b w1 c w2 = eighth (unit E (act (conv a w0 b w1 c w2))) := rfl
theorem cq1 : k0_pay45 E a w0 b w1 c w2 = eighth (unit E (act (conv a w0 b w1 c w2))) := rfl
theorem cq2 : k0_pay47 E (k0_pay46 a w0) b w1 c w2 = eighth (unit E (act (conv a w0 b w1 c w2))) := rfl
theorem cq3 : k0_pay49 E (k0_pay48 a w0 b w1) c w2 = eighth (unit E (act (conv a w0 b w1 c w2))) := rfl
theorem ck0 : k0_pay54 E (k0_pay50 a w0 b w1 c w2) (k0_pay52 a w0 b w1 c w2) (k0_pay53 a w0 b w1 c w2)
    = unit E (act (conv a w0 b w1 c w2)) := rfl
theorem ck1 : k0_pay55 E a w0 b w1 c w2 = unit E (act (conv a w0 b w1 c w2)) := rfl
theorem ck2 : k0_pay56 E a w0 b w1 c w2 = unit E (act (conv a w0 b w1 c w2)) := rfl
theorem ck3 : k0_pay58 E (k0_pay57 a w0) b w1 c w2 = unit E (act (conv a w0 b w1 c w2)) := rfl
theorem cv0 : k0_pay61 (k0_pay59 a w0 b w1) (k0_pay60 c w2) = act (conv a w0 b w1 c w2) := rfl
theorem cv1 : k0_pay62 a w0 b w1 c w2 = act (conv a w0 b w1 c w2) := rfl
theorem cv2 : k0_pay64 (k0_pay63 a w0 b w1) c w2 = act (conv a w0 b w1 c w2) := rfl
theorem cv3 : k0_pay65 a w0 b w1 c w2 = act (conv a w0 b w1 c w2) := rfl

end convolved

/-- A convolved and activated element. -/
theorem act_at (a b c : Vec Ideal S512x128 .f32) (w0 w1 w2 : Vec Ideal S1x128 .f32) (r : Fin 512) (l : Fin 128) :
    act (conv a w0 b w1 c w2) (ix2 r l)
      = silu (conv3 (a (ix2 r l)) (b (ix2 r l)) (c (ix2 r l)) (w0 (ix2 0 l)) (w1 (ix2 0 l)) (w2 (ix2 0 l))) := by
  unfold act conv silu conv3
  pointwise

/-- Lane `l` of a row of 128 lanes whose heads are divided by their lengths. -/
def united (y : Fin 128 → EReal) (l : Fin 128) : EReal :=
  y l * Ideal.rsqrt ((∑ d, y (lane l d) * y (lane l d)) + Ideal.ofBits .f32 0x358637BD#32)

/-- A head's element divided by the head's length. -/
theorem unit_at (y : FVec Ideal S512x128 .f32) (r : Fin 512) (l : Fin 128)
    (h : ∀ x, ∃ z : ℝ, y (ix2 r x) = (z : EReal)) :
    unit ones y (ix2 r l) = united (fun x => y (ix2 r x)) l := by
  have hs := sumsq_at y r l h
  unfold unit united
  generalize sumsq ones y = s at *
  pointwise
  rw [hs]

/-! ## The plain products and the gates -/

section products

variable (xm : Vec Ideal S512x1024 .bf16)

theorem ya_at (w : Vec Ideal S1024x1024 .bf16) (r : Fin 512) (n : Fin 1024) :
    k0_pay14 xm w (ix2 r n) = ∑ d : Fin 1024, xm (ix2 r d) * w (ix2 d n) := by
  unfold k0_pay14
  pointwise

theorem va_at (w : Vec Ideal S1024x1024 .bf16) (r : Fin 512) (n : Fin 256) :
    k0_pay37 (k0_pay14 xm w) (ix2 r n) = ∑ d : Fin 1024, xm (ix2 r d) * w (ix2 d ⟨768 + n.val, by omega⟩) := by
  unfold k0_pay37 k0_pay14
  pointwise

theorem nq_at (w : Vec Ideal S1024x1536 .bf16) (r n : Fin 512) :
    k0_pay39 xm w (ix2 r n)
      = (∑ d : Fin 1024, xm (ix2 r d) * w (ix2 d ⟨n.val, by omega⟩)) * Ideal.ofBits .f32 0x3E000000#32 := by
  unfold k0_pay39 k0_pay38
  pointwise

theorem nk_at (w : Vec Ideal S1024x1536 .bf16) (r n : Fin 512) :
    k0_pay40 xm w (ix3 0 n r) = ∑ d : Fin 1024, xm (ix2 r d) * w (ix2 d ⟨512 + n.val, by omega⟩) := by
  unfold k0_pay40 k0_pay38
  pointwise

theorem nv_at (w : Vec Ideal S1024x1536 .bf16) (r n : Fin 512) :
    k0_pay41 xm w (ix2 r n) = ∑ d : Fin 1024, xm (ix2 r d) * w (ix2 d ⟨1024 + n.val, by omega⟩) := by
  unfold k0_pay41 k0_pay38
  pointwise

theorem cz_at (w : Vec Ideal S1024x512 .bf16) (r n : Fin 512) :
    k0_pay66 xm w (ix2 r n) = ∑ d : Fin 1024, xm (ix2 r d) * w (ix2 d n) := by
  unfold k0_pay66
  pointwise

theorem raw_at (w : Vec Ideal S1024x128 .bf16) (r : Fin 512) (n : Fin 128) :
    k0_pay67 xm w (ix2 r n) = ∑ d : Fin 1024, xm (ix2 r d) * w (ix2 d n) := by
  unfold k0_pay67
  pointwise

/-- The product of the rows with those around them. -/
theorem c_at (xs : Vec Ideal S544x1024 .bf16) (w : Vec Ideal S1024x1536 .bf16) (r : Fin 544) (n : Fin 1536) :
    k0_pay43 xs (k0_pay42 w) (constant S544x1536 .f32 0x00000000#32) (ix2 r n)
      = ∑ d : Fin 1024, xs (ix2 r d) * w (ix2 d n) := by
  unfold k0_pay43 k0_pay42
  pointwise

/-- A decay: minus the exponential of `a`, times the softplus of `z`. -/
def decay (a z : EReal) : EReal :=
  (0 - Ideal.exp a) * (max z 0 + Ideal.log (1 + Ideal.exp (0 - max z (-z))))

/-- A lane of the gates: a decay where the third row exceeds a half, else a logistic. -/
theorem gate_at (raw : FVec Ideal S512x128 .f32) (a b g : Vec Ideal S1x128 .f32) (r : Fin 512) (l : Fin 128) :
    k0_pay68 raw a b g (ix2 r l)
      = if Ideal.ofBits .f32 0x3F000000#32 < g (ix2 0 l) then decay (a (ix2 0 l)) (raw (ix2 r l) + b (ix2 0 l))
        else Ideal.logistic (raw (ix2 r l)) := by
  unfold k0_pay68 decay
  pointwise
  rfl

end products

end Cert.ProjTile
-- ==== Proof.ProjRead.lean ====
module

public import proofs.«01_k».proof.Proof.Gen.ProjIdeal.Frame
public import proofs.«01_k».proof.Proof.ProjTile
public import Idealize.ShloMosaic.Lib.Pointwise
public import Idealize.ShloMosaic.Lib.Pipeline.ValueKit
public import Idealize.ShloMosaic.Lib.Pipeline.RowLoads
public import Idealize.ShloMosaic.Lib.VecWindow
public import Idealize.ShloMosaic.Lib.ValueLayout

@[expose] public section

set_option maxRecDepth 16384

noncomputable section

open Idealize.ShloMosaic Idealize.ShloMosaic.Tactic

namespace Cert.ProjRead

open Cert.ProjIdeal Cert.ProjIdeal.Gen

open Cert.ProjTile

/-! ## The rows with those around them -/

/-- The flag of the last block of a sequence. -/
abbrev lastFlag (i : grid0.Coords) : BitVec 1 :=
  Scalar.cmpi .eq (Scalar.select (Scalar.andi
    (Scalar.xori (Scalar.cmpi .slt (Scalar.remsi (BitVec.ofNat 32 (i 0).val) 16#32) 0#32) 0#1)
    (Scalar.cmpi .ne (Scalar.remsi (BitVec.ofNat 32 (i 0).val) 16#32) 0#32))
    (Scalar.addi (Scalar.remsi (BitVec.ofNat 32 (i 0).val) 16#32) 16#32)
    (Scalar.remsi (BitVec.ofNat 32 (i 0).val) 16#32)) 15#32

/-- The scratch array of rows: the sixteen before the block, the block's own and the sixteen after it. -/
def around (i : grid0.Coords) (x0 : Vec Ideal S16x1024 .f32) (x1 : Vec Ideal S512x1024 .f32) (x2 : Vec Ideal S16x1024 .f32) :
    Vec Ideal S544x1024 .bf16 :=
  View.canon (Val := Elt Ideal) [⟨Rect.unit ![528, 0] ![16, 1024] inb_S544x1024_S16x1024_528_0, k0_pay3 (lastFlag i) x2⟩,
    ⟨Rect.unit ![16, 0] ![512, 1024] inb_S544x1024_S512x1024_16_0, k0_pay2 x1⟩,
    ⟨Rect.unit ![0, 0] ![16, 1024] inb_S544x1024_S16x1024_0_0, k0_pay1 i x0⟩]

/-- A load of the last piece stored reads it. -/
theorem readCov_head {s : Shape} {e : EltTy} (v : View sig .tc .vmem s e) (R : Rect s) (w : R.shape.Idx → Elt Ideal e)
    (L : List (View.Piece (Elt Ideal) s e)) : v.readCov (Val := Elt Ideal) (⟨R, w⟩ :: L) R.toLoadRect = w := by
  rw [View.readCov_eq_canon']
  funext j
  exact View.canon_cons_emb (Val := Elt Ideal) R w L j

/-- The rows after the block lie apart from the block's own. -/
theorem rows_apart : Disjoint (Rect.unit (s := S544x1024) ![528, 0] ![16, 1024] inb_S544x1024_S16x1024_528_0).set
    (Rect.unit (s := S544x1024) ![16, 0] ![512, 1024] inb_S544x1024_S512x1024_16_0).set :=
  Rect.unit_disjoint 0 (Or.inr (by show 16 + 512 ≤ 528; omega))

/-- A load of the piece stored before the last one, from which it lies apart, reads it. -/
theorem readCov_second {s : Shape} {e : EltTy} (v : View sig .tc .vmem s e) (A B C : Rect s) (hd : Disjoint A.set B.set)
    (a : A.shape.Idx → Elt Ideal e) (y : B.shape.Idx → Elt Ideal e) (b : C.shape.Idx → Elt Ideal e) :
    v.readCov (Val := Elt Ideal) [⟨A, a⟩, ⟨B, y⟩, ⟨C, b⟩] B.toLoadRect = y := by
  rw [View.readCov_cons_of_disjoint v ⟨A, a⟩ [⟨B, y⟩, ⟨C, b⟩] B.toLoadRect hd]
  exact readCov_head v B y _

/-- The scratch array of rows read whole. -/
theorem rows_all (v : View sig .tc .vmem S544x1024 .bf16) (L : List (View.Piece (Elt Ideal) S544x1024 .bf16)) :
    v.readCov (Val := Elt Ideal) L (Rect.unit ![0, 0] ![544, 1024] inb_S544x1024_S544x1024_0_0).toLoadRect
      = View.canon L := by
  rw [View.readCov_eq_canon']
  funext j
  exact congrArg (View.canon L) (Rect.emb_unit_full (s := S544x1024) inb_S544x1024_S544x1024_0_0 j)

/-- The flag of a sequence's last block at a block. -/
theorem lastFlag_at (i : grid0.Coords) : lastFlag i = if (i 0).val % 16 = 15 then 1#1 else 0#1 := by
  have h : ∀ n : Fin 160, Scalar.cmpi .eq (Scalar.select (Scalar.andi
    (Scalar.xori (Scalar.cmpi .slt (Scalar.remsi (BitVec.ofNat 32 n.val) 16#32) 0#32) 0#1)
    (Scalar.cmpi .ne (Scalar.remsi (BitVec.ofNat 32 n.val) 16#32) 0#32))
    (Scalar.addi (Scalar.remsi (BitVec.ofNat 32 n.val) 16#32) 16#32)
    (Scalar.remsi (BitVec.ofNat 32 n.val) 16#32)) 15#32 = if n.val % 16 = 15 then 1#1 else 0#1 := by decide +kernel
  exact h (i 0)

/-- A row of the sixteen before the block: zeros before a sequence's first block. -/
theorem before_at (i : grid0.Coords) (x0 : Vec Ideal S16x1024 .f32) (r : Fin 16) (d : Fin 1024) :
    k0_pay1 i x0 (ix2 r d) = if (i 0).val % 16 = 0 then 0 else x0 (ix2 r d) := by
  have h : ∀ n : Fin 160, Scalar.cmpi .eq (Scalar.select (Scalar.andi
    (Scalar.xori (Scalar.cmpi .slt (Scalar.remsi (BitVec.ofNat 32 n.val) 16#32) 0#32) 0#1)
    (Scalar.cmpi .ne (Scalar.remsi (BitVec.ofNat 32 n.val) 16#32) 0#32))
    (Scalar.addi (Scalar.remsi (BitVec.ofNat 32 n.val) 16#32) 16#32)
    (Scalar.remsi (BitVec.ofNat 32 n.val) 16#32)) 0#32 = if n.val % 16 = 0 then 1#1 else 0#1 := by decide +kernel
  have h' := h (i 0)
  unfold k0_pay1
  simp only [shapeCast_self]
  show Scalar.select (Scalar.cmpi .eq (Scalar.select (Scalar.andi
    (Scalar.xori (Scalar.cmpi .slt (Scalar.remsi (BitVec.ofNat 32 (i 0).val) 16#32) 0#32) 0#1)
    (Scalar.cmpi .ne (Scalar.remsi (BitVec.ofNat 32 (i 0).val) 16#32) 0#32))
    (Scalar.addi (Scalar.remsi (BitVec.ofNat 32 (i 0).val) 16#32) 16#32)
    (Scalar.remsi (BitVec.ofNat 32 (i 0).val) 16#32)) 0#32) (broadcast S16x1024 (Scalar.ofBits (F := Ideal) .f32 0#32)) x0 (ix2 r d) = _
  rw [h']
  split
  · show Ideal.ofBits .f32 0#32 = 0
    exact Ideal.ofBits_zero_f32
  · rfl

/-- A row of the sixteen after the block: zeros after a sequence's last block. -/
theorem after_at (i : grid0.Coords) (x2 : Vec Ideal S16x1024 .f32) (r : Fin 16) (d : Fin 1024) :
    k0_pay3 (lastFlag i) x2 (ix2 r d) = if (i 0).val % 16 = 15 then 0 else x2 (ix2 r d) := by
  rw [lastFlag_at]
  unfold k0_pay3
  simp only [shapeCast_self]
  split
  · show Ideal.ofBits .f32 0#32 = 0
    exact Ideal.ofBits_zero_f32
  · rfl

/-- A row of the block. -/
theorem own_at (x1 : Vec Ideal S512x1024 .f32) (r : Fin 512) (d : Fin 1024) : k0_pay2 x1 (ix2 r d) = x1 (ix2 r d) := by
  unfold k0_pay2
  pointwise

/-- The scratch array of rows at an element. -/
theorem around_at (i : grid0.Coords) (x0 : Vec Ideal S16x1024 .f32) (x1 : Vec Ideal S512x1024 .f32) (x2 : Vec Ideal S16x1024 .f32)
    (r : Fin 544) (d : Fin 1024) :
    around i x0 x1 x2 (ix2 r d)
      = if h : r.val < 16 then (if (i 0).val % 16 = 0 then 0 else x0 (ix2 ⟨r.val, h⟩ d))
        else if h' : r.val < 528 then x1 (ix2 ⟨r.val - 16, by omega⟩ d)
        else if (i 0).val % 16 = 15 then 0 else x2 (ix2 ⟨r.val - 528, by omega⟩ d) := by
  unfold around
  have hcover : ∃ p ∈ ([⟨Rect.unit ![528, 0] ![16, 1024] inb_S544x1024_S16x1024_528_0, k0_pay3 (lastFlag i) x2⟩,
      ⟨Rect.unit ![16, 0] ![512, 1024] inb_S544x1024_S512x1024_16_0, k0_pay2 x1⟩,
      ⟨Rect.unit ![0, 0] ![16, 1024] inb_S544x1024_S16x1024_0_0, k0_pay1 i x0⟩] : List (View.Piece (Elt Ideal) S544x1024 .bf16)),
      ix2 r d ∈ p.1.set := by
    by_cases h : r.val < 16
    · refine ⟨_, List.mem_cons_of_mem _ (List.mem_cons_of_mem _ List.mem_cons_self), (LoadRect.mem_set _).mpr fun a => ?_⟩
      fin_cases a
      · exact ⟨r.val, h, by simp⟩
      · exact ⟨d.val, d.isLt, by simp⟩
    · by_cases h' : r.val < 528
      · refine ⟨_, List.mem_cons_of_mem _ List.mem_cons_self, (LoadRect.mem_set _).mpr fun a => ?_⟩
        fin_cases a
        · exact ⟨r.val - 16, by show r.val - 16 < 512; omega, by show r.val = 16 + 1 * (r.val - 16); omega⟩
        · exact ⟨d.val, d.isLt, by simp⟩
      · refine ⟨_, List.mem_cons_self, (LoadRect.mem_set _).mpr fun a => ?_⟩
        fin_cases a
        · exact ⟨r.val - 528, by show r.val - 528 < 16; omega, by show r.val = 528 + 1 * (r.val - 528); omega⟩
        · exact ⟨d.val, d.isLt, by simp⟩
  canon_tiles y h using hcover
  case piece0 =>
    obtain ⟨p, q, rfl⟩ : ∃ (p : Fin 16) (q : Fin 1024), y = ix2 p q := ⟨y 0, y 1, by idx_ext⟩
    have h0 : r.val = 528 + p.val := h0
    obtain rfl : d = q := Fin.ext h1
    rw [dif_neg (by omega), dif_neg (by omega)]
    refine (after_at i x2 p d).trans ?_
    rw [show (⟨r.val - 528, by omega⟩ : Fin 16) = p from Fin.ext (by simp; omega)]
  case piece1 =>
    obtain ⟨p, q, rfl⟩ : ∃ (p : Fin 512) (q : Fin 1024), y = ix2 p q := ⟨y 0, y 1, by idx_ext⟩
    have h0 : r.val = 16 + p.val := h0
    obtain rfl : d = q := Fin.ext h1
    rw [dif_neg (by omega), dif_pos (by omega)]
    refine (own_at x1 p d).trans ?_
    rw [show (⟨r.val - 16, by omega⟩ : Fin 512) = p from Fin.ext (by simp; omega)]
  case piece2 =>
    obtain ⟨p, q, rfl⟩ : ∃ (p : Fin 16) (q : Fin 1024), y = ix2 p q := ⟨y 0, y 1, by idx_ext⟩
    have h0 : r.val = p.val := h0
    obtain rfl : d = q := Fin.ext h1
    rw [dif_pos (by omega)]
    refine (before_at i x0 p d).trans ?_
    rw [show (⟨r.val, by omega⟩ : Fin 16) = p from Fin.ext h0]

/-! ## Blocks stored slice by slice -/

/-- A block of 512 columns stored as four slices of 128. -/
theorem slices4 {e : EltTy} [Nonempty (Elt Ideal e)] (p0 p1 p2 p3 : Vec Ideal S512x128 e) (r c : Fin 512) :
    View.canon (Val := Elt Ideal) (s := S512x512) [⟨Rect.unit ![0, 384] ![512, 128] inb_S512x512_S512x128_0_384, p3⟩,
      ⟨Rect.unit ![0, 256] ![512, 128] inb_S512x512_S512x128_0_256, p2⟩,
      ⟨Rect.unit ![0, 128] ![512, 128] inb_S512x512_S512x128_0_128, p1⟩,
      ⟨Rect.unit ![0, 0] ![512, 128] inb_S512x512_S512x128_0_0, p0⟩] (ix2 r c)
      = (![p0, p1, p2, p3] : Fin 4 → Vec Ideal S512x128 e) ⟨c.val / 128, by omega⟩ (ix2 r ⟨c.val % 128, Nat.mod_lt _ (by omega)⟩) := by
  have key : ∀ (j : Fin 4) (q : Fin 128), c.val = 128 * j.val + q.val →
      (![p0, p1, p2, p3] : Fin 4 → Vec Ideal S512x128 e) ⟨c.val / 128, by omega⟩ (ix2 r ⟨c.val % 128, Nat.mod_lt _ (by omega)⟩)
        = (![p0, p1, p2, p3] : Fin 4 → Vec Ideal S512x128 e) j (ix2 r q) := by
    intro j q h
    rw [show (⟨c.val / 128, by omega⟩ : Fin 4) = j from Fin.ext (by simp; omega),
      show (⟨c.val % 128, Nat.mod_lt _ (by omega)⟩ : Fin 128) = q from Fin.ext (by simp; omega)]
  canon_tiles y h
  all_goals
    obtain ⟨p, q, rfl⟩ : ∃ (p : Fin 512) (q : Fin 128), y = ix2 p q := ⟨y 0, y 1, by idx_ext⟩
    obtain rfl : r = p := Fin.ext h0
  case piece0 => exact (key 3 q h1).symm
  case piece1 => exact (key 2 q h1).symm
  case piece2 => exact (key 1 q h1).symm
  case piece3 => exact (key 0 q (by simpa using h1)).symm

/-- A block of 256 rows stored as two slices of 128. -/
theorem slices2 (p0 p1 : Vec Ideal S1x128x512 .bf16) (c : Fin 256) (r : Fin 512) :
    View.canon (Val := Elt Ideal) (s := S1x256x512) [⟨Rect.unit ![0, 128, 0] ![1, 128, 512] inb_S1x256x512_S1x128x512_0_128_0, p1⟩,
      ⟨Rect.unit ![0, 0, 0] ![1, 128, 512] inb_S1x256x512_S1x128x512_0_0_0, p0⟩] (ix3 0 c r)
      = (![p0, p1] : Fin 2 → Vec Ideal S1x128x512 .bf16) ⟨c.val / 128, by omega⟩ (ix3 0 ⟨c.val % 128, Nat.mod_lt _ (by omega)⟩ r) := by
  have key : ∀ (j : Fin 2) (q : Fin 128), c.val = 128 * j.val + q.val →
      (![p0, p1] : Fin 2 → Vec Ideal S1x128x512 .bf16) ⟨c.val / 128, by omega⟩ (ix3 0 ⟨c.val % 128, Nat.mod_lt _ (by omega)⟩ r)
        = (![p0, p1] : Fin 2 → Vec Ideal S1x128x512 .bf16) j (ix3 0 q r) := by
    intro j q h
    rw [show (⟨c.val / 128, by omega⟩ : Fin 2) = j from Fin.ext (by simp; omega),
      show (⟨c.val % 128, Nat.mod_lt _ (by omega)⟩ : Fin 128) = q from Fin.ext (by simp; omega)]
  canon_tiles y h
  all_goals
    obtain ⟨q, p, rfl⟩ : ∃ (q : Fin 128) (p : Fin 512), y = ix3 0 q p := ⟨y 1, y 2, by idx_ext⟩
    obtain rfl : r = p := Fin.ext h2
  case piece0 => exact (key 1 q h1).symm
  case piece1 => exact (key 0 q (by simpa using h1)).symm

/-- Both offsets of a block read whole are zero. -/
theorem zero2 : (![0, 0] : Fin 2 → Nat) = fun _ => 0 := by funext a; fin_cases a <;> rfl

/-- The offsets of a stack of one block read whole are zero. -/
theorem zero3 : (![0, 0, 0] : Fin 3 → Nat) = fun _ => 0 := by funext a; fin_cases a <;> rfl

/-- A load of a scratch array stored whole reads the stored value there. -/
theorem slice_of (v : View sig .tc .vmem S544x1536 .f32) (C : Vec Ideal S544x1536 .f32) (R : Rect S544x1536) :
    v.readCov (Val := Elt Ideal) [⟨Rect.unit ![0, 0] ![544, 1536] inb_S544x1536_S544x1536_0_0, C⟩] R.toLoadRect = View.ld C R := by
  rw [View.readCov_eq_canon']
  funext j
  exact congrFun (View.canon_unit_zero (Val := Elt Ideal) (S := S544x1536) zero2 inb_S544x1536_S544x1536_0_0 C) (R.emb j)

/-- The scratch array of products: the rows around the block times the weights to be convolved. -/
def products (i : grid0.Coords) (x0 : Vec Ideal S16x1024 .f32) (x1 : Vec Ideal S512x1024 .f32) (x2 : Vec Ideal S16x1024 .f32)
    (x7 : Vec Ideal S1024x1536 .bf16) : Vec Ideal S544x1536 .f32 :=
  k0_pay43 (around i x0 x1 x2) (k0_pay42 x7) (constant S544x1536 .f32 0x00000000#32)

/-! ## The slices at an element -/

/-- A slice of queries at an element. -/
theorem query_at (cs sn : Vec Ideal S512x128 .f32) (g : Vec Ideal S1x128 .f32) (y : FVec Ideal S512x1024 .f32) (o : Nat)
    (h : S512x1024.Slices ![0, o] S512x128) (r : Fin 512) (l : Fin 128) (f : Fin 128 → EReal)
    (hf : ∀ x, cols o h y (ix2 r x) = f x) (hr : ∀ x, ∃ z : ℝ, f x = (z : EReal)) :
    query ones mask cs sn (cols o h y) g (ix2 r l)
      = roped (normed f fun x => g (ix2 0 x)) (fun x => cs (ix2 r x)) (fun x => sn (ix2 r x)) l * Ideal.ofBits .f32 0x3E000000#32 := by
  have e : query ones mask cs sn (cols o h y) g (ix2 r l)
      = rope mask (norm ones (cols o h y) g) cs sn (ix2 r l) * Ideal.ofBits .f32 0x3E000000#32 := by
    unfold query
    generalize rope mask (norm ones (cols o h y) g) cs sn = z
    pointwise
  rw [e, rope_at]
  have hn : (fun x => norm ones (cols o h y) g (ix2 r x)) = normed f fun x => g (ix2 0 x) := by
    funext x
    rw [norm_at _ _ _ _ (fun x => by rw [hf]; exact hr x)]
    simp only [hf]
  rw [hn]

/-- A slice of keys at an element. -/
theorem key_at (cs sn : Vec Ideal S512x128 .f32) (g : Vec Ideal S1x128 .f32) (y : FVec Ideal S512x1024 .f32) (o : Nat)
    (h : S512x1024.Slices ![0, o] S512x128) (r : Fin 512) (l : Fin 128) (f : Fin 128 → EReal)
    (hf : ∀ x, cols o h y (ix2 r x) = f x) (hr : ∀ x, ∃ z : ℝ, f x = (z : EReal)) :
    key ones mask cs sn (cols o h y) g (ix3 0 l r)
      = roped (normed f fun x => g (ix2 0 x)) (fun x => cs (ix2 r x)) (fun x => sn (ix2 r x)) l := by
  have e : key ones mask cs sn (cols o h y) g (ix3 0 l r)
      = rope mask (norm ones (cols o h y) g) cs sn (ix2 r l) := by
    unfold key
    generalize rope mask (norm ones (cols o h y) g) cs sn = z
    pointwise
  rw [e, rope_at]
  have hn : (fun x => norm ones (cols o h y) g (ix2 r x)) = normed f fun x => g (ix2 0 x) := by
    funext x
    rw [norm_at _ _ _ _ (fun x => by rw [hf]; exact hr x)]
    simp only [hf]
  rw [hn]

/-- A column of the first product. -/
theorem cols_at (x1 : Vec Ideal S512x1024 .f32) (x5 : Vec Ideal S1024x1024 .bf16) (o : Nat)
    (h : S512x1024.Slices ![0, o] S512x128) (r : Fin 512) (l : Fin 128) (n : Fin 1024) (hn : n.val = o + l.val) :
    cols o h (k0_pay14 (k0_pay2 x1) x5) (ix2 r l) = ∑ d : Fin 1024, x1 (ix2 r d) * x5 (ix2 d n) := by
  have e : cols o h (k0_pay14 (k0_pay2 x1) x5) (ix2 r l) = k0_pay14 (k0_pay2 x1) x5 (ix2 r n) := by
    generalize k0_pay14 (k0_pay2 x1) x5 = y
    exact ValueIdx.slice2_axis1_apply o y h r l n hn
  rw [e, ya_at]
  simp only [own_at]

/-- A convolved and activated channel `n` at row `r` of a block whose rows, with the sixteen around them, are `X`. -/
def channel (X : Fin 544 → Fin 1024 → EReal) (W : Fin 1024 → Fin 1536 → EReal) (cw : Fin 3 → Fin 1536 → EReal) (r : Fin 512)
    (n : Fin 1536) : EReal :=
  silu (conv3 (∑ d, X ⟨15 + r.val, by omega⟩ d * W d n) (∑ d, X ⟨16 + r.val, by omega⟩ d * W d n)
    (∑ d, X ⟨17 + r.val, by omega⟩ d * W d n) (cw 0 n) (cw 1 n) (cw 2 n))

/-- A convolved and activated slice at an element. -/
theorem slice_at (i : grid0.Coords) (x0 : Vec Ideal S16x1024 .f32) (x1 : Vec Ideal S512x1024 .f32) (x2 : Vec Ideal S16x1024 .f32)
    (x7 : Vec Ideal S1024x1536 .bf16) (x12 : Vec Ideal S3x1536 .f32) (o : Nat) (h15 h16 h17 h0 h1 h2) (r : Fin 512)
    (l : Fin 128) (n : Fin 1536) (hn : n.val = o + l.val) :
    act (conv (View.ld (products i x0 x1 x2 x7) (Rect.unit ![15, o] ![512, 128] h15)) (View.ld x12 (Rect.unit ![0, o] ![1, 128] h0))
        (View.ld (products i x0 x1 x2 x7) (Rect.unit ![16, o] ![512, 128] h16)) (View.ld x12 (Rect.unit ![1, o] ![1, 128] h1))
        (View.ld (products i x0 x1 x2 x7) (Rect.unit ![17, o] ![512, 128] h17)) (View.ld x12 (Rect.unit ![2, o] ![1, 128] h2)))
        (ix2 r l)
      = channel (fun a d => around i x0 x1 x2 (ix2 a d)) (fun d n => x7 (ix2 d n)) (fun j n => x12 (ix2 j n)) r n := by
  have hc : ∀ (k : Nat) (hk) (a : Fin 544), a.val = k + r.val →
      View.ld (products i x0 x1 x2 x7) (Rect.unit ![k, o] ![512, 128] hk) (ix2 r l)
        = ∑ d, around i x0 x1 x2 (ix2 a d) * x7 (ix2 d n) := by
    intro k hk a ha
    refine (View.ld_unit_apply_of _ _ _ _ _ (ix2 a n) fun b => ?_).trans (c_at _ _ _ _)
    fin_cases b
    · exact ha
    · exact hn
  have hw : ∀ (k : Fin 3) (hk), View.ld x12 (Rect.unit ![k.val, o] ![1, 128] hk) (ix2 0 l) = x12 (ix2 k n) := by
    intro k hk
    refine View.ld_unit_apply_of _ _ _ _ _ (ix2 k n) fun b => ?_
    fin_cases b
    · rfl
    · exact hn
  refine (act_at _ _ _ _ _ _ r l).trans ?_
  unfold channel
  rw [hc 15 h15 ⟨15 + r.val, by omega⟩ rfl, hc 16 h16 ⟨16 + r.val, by omega⟩ rfl, hc 17 h17 ⟨17 + r.val, by omega⟩ rfl]
  exact congrArg silu (congr (congr (congrArg (conv3 _ _ _) (hw 0 h0)) (hw 1 h1)) (hw 2 h2))

/-- A slice divided by its heads' lengths, at an element. -/
theorem united_at (y : FVec Ideal S512x128 .f32) (r : Fin 512) (l : Fin 128) (f : Fin 128 → EReal)
    (hf : ∀ x, y (ix2 r x) = f x) (hr : ∀ x, ∃ z : ℝ, f x = (z : EReal)) :
    unit ones y (ix2 r l) = united f l := by
  rw [unit_at y r l fun x => by rw [hf]; exact hr x]
  simp only [hf]

/-- An eighth of a slice at an element. -/
theorem eighth_at (y : FVec Ideal S512x128 .f32) (r : Fin 512) (l : Fin 128) :
    eighth y (ix2 r l) = y (ix2 r l) * Ideal.ofBits .f32 0x3E000000#32 := by
  unfold eighth
  pointwise

/-- Four slices stored, read at a column: a function of the slice and the lane. -/
theorem slices4_of {e : EltTy} [Nonempty (Elt Ideal e)] {p0 p1 p2 p3 : Vec Ideal S512x128 e} (r c : Fin 512)
    (Q : Fin 4 → Fin 128 → Elt Ideal e) (h0 : ∀ l, p0 (ix2 r l) = Q 0 l) (h1 : ∀ l, p1 (ix2 r l) = Q 1 l)
    (h2 : ∀ l, p2 (ix2 r l) = Q 2 l) (h3 : ∀ l, p3 (ix2 r l) = Q 3 l) :
    View.canon (Val := Elt Ideal) (s := S512x512) [⟨Rect.unit ![0, 384] ![512, 128] inb_S512x512_S512x128_0_384, p3⟩,
      ⟨Rect.unit ![0, 256] ![512, 128] inb_S512x512_S512x128_0_256, p2⟩,
      ⟨Rect.unit ![0, 128] ![512, 128] inb_S512x512_S512x128_0_128, p1⟩,
      ⟨Rect.unit ![0, 0] ![512, 128] inb_S512x512_S512x128_0_0, p0⟩] (ix2 r c)
      = Q ⟨c.val / 128, by omega⟩ ⟨c.val % 128, Nat.mod_lt _ (by omega)⟩ := by
  refine (slices4 p0 p1 p2 p3 r c).trans ?_
  generalize (⟨c.val / 128, by omega⟩ : Fin 4) = j
  fin_cases j
  · exact h0 _
  · exact h1 _
  · exact h2 _
  · exact h3 _

/-- Two slices of rows stored, read at a row: a function of the slice and the lane. -/
theorem slices2_of {p0 p1 : Vec Ideal S1x128x512 .bf16} (c : Fin 256) (r : Fin 512)
    (Q : Fin 2 → Fin 128 → EReal) (h0 : ∀ l, p0 (ix3 0 l r) = Q 0 l) (h1 : ∀ l, p1 (ix3 0 l r) = Q 1 l) :
    View.canon (Val := Elt Ideal) (s := S1x256x512) [⟨Rect.unit ![0, 128, 0] ![1, 128, 512] inb_S1x256x512_S1x128x512_0_128_0, p1⟩,
      ⟨Rect.unit ![0, 0, 0] ![1, 128, 512] inb_S1x256x512_S1x128x512_0_0_0, p0⟩] (ix3 0 c r)
      = Q ⟨c.val / 128, by omega⟩ ⟨c.val % 128, Nat.mod_lt _ (by omega)⟩ := by
  refine (slices2 p0 p1 c r).trans ?_
  generalize (⟨c.val / 128, by omega⟩ : Fin 2) = j
  fin_cases j
  · exact h0 _
  · exact h1 _

section body

variable (c : Dev nD) (i : grid0.Coords) (arg1 : Memref sig .tc .vmem S16x1024 .f32) (harg1 : arg1.IsWhole) (arg2 : Memref sig .tc .vmem S512x1024 .f32) (harg2 : arg2.IsWhole) (arg3 : Memref sig .tc .vmem S16x1024 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1024x1024 .bf16) (harg6 : arg6.IsWhole) (arg7 : Memref sig .tc .vmem S1024x1536 .bf16) (harg7 : arg7.IsWhole) (arg8 : Memref sig .tc .vmem S1024x1536 .bf16) (harg8 : arg8.IsWhole) (arg9 : Memref sig .tc .vmem S1024x512 .bf16) (harg9 : arg9.IsWhole) (arg10 : Memref sig .tc .vmem S1024x128 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S3x1536 .f32) (harg13 : arg13.IsWhole) (arg14 : Memref sig .tc .vmem S8x128 .f32) (harg14 : arg14.IsWhole) (arg15 : Memref sig .tc .vmem S512x512 .bf16) (harg15 : arg15.IsWhole) (arg16 : Memref sig .tc .vmem S1x256x512 .bf16) (harg16 : arg16.IsWhole) (arg17 : Memref sig .tc .vmem S512x256 .bf16) (harg17 : arg17.IsWhole) (arg18 : Memref sig .tc .vmem S512x512 .bf16) (harg18 : arg18.IsWhole) (arg19 : Memref sig .tc .vmem S1x512x512 .bf16) (harg19 : arg19.IsWhole) (arg20 : Memref sig .tc .vmem S512x512 .bf16) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x128 .f32) (harg25 : arg25.IsWhole) (arg26 : Memref sig .tc .vmem S544x1024 .bf16) (harg26 : arg26.IsWhole) (arg27 : Memref sig .tc .vmem S544x1536 .f32) (harg27 : arg27.IsWhole)
  (x0 : Vec Ideal S16x1024 .f32) (x1 : Vec Ideal S512x1024 .f32) (x2 : Vec Ideal S16x1024 .f32) (x3 : Vec Ideal S512x128 .f32) (x4 : Vec Ideal S512x128 .f32) (x5 : Vec Ideal S1024x1024 .bf16) (x6 : Vec Ideal S1024x1536 .bf16) (x7 : Vec Ideal S1024x1536 .bf16) (x8 : Vec Ideal S1024x512 .bf16) (x9 : Vec Ideal S1024x128 .bf16) (x10 : Vec Ideal S1x128 .f32) (x11 : Vec Ideal S1x128 .f32) (x12 : Vec Ideal S3x1536 .f32) (x13 : Vec Ideal S8x128 .f32)

theorem out16_at (r : Fin 512) (n : Fin 256) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 (ix2 r n)
      = ∑ d : Fin 1024, x1 (ix2 r d) * x5 (ix2 d ⟨768 + n.val, by omega⟩) := by
  unfold out0_A_16
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, readCov_second _ _ _ _ rows_apart, rows_all, slice_of,
    View.ld_unit_zero (S := S16x1024) zero2, View.ld_unit_zero (S := S512x1024) zero2, View.ld_unit_zero (S := S512x128) zero2,
    View.ld_unit_zero (S := S1024x1024) zero2, View.ld_unit_zero (S := S1024x1536) zero2, View.ld_unit_zero (S := S1024x512) zero2,
    View.ld_unit_zero (S := S1024x128) zero2, View.ld_unit_zero (S := S1x128) zero2]
  refine (congrFun (View.canon_unit_zero (Val := Elt Ideal) (S := S512x256) zero2 _ _) _).trans ?_
  refine (va_at _ _ r n).trans ?_
  simp only [own_at]

theorem out17_at (r n : Fin 512) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 (ix2 r n)
      = (∑ d : Fin 1024, x1 (ix2 r d) * x6 (ix2 d ⟨n.val, by omega⟩)) * Ideal.ofBits .f32 0x3E000000#32 := by
  unfold out0_A_17
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, readCov_second _ _ _ _ rows_apart, rows_all, slice_of,
    View.ld_unit_zero (S := S16x1024) zero2, View.ld_unit_zero (S := S512x1024) zero2, View.ld_unit_zero (S := S512x128) zero2,
    View.ld_unit_zero (S := S1024x1024) zero2, View.ld_unit_zero (S := S1024x1536) zero2, View.ld_unit_zero (S := S1024x512) zero2,
    View.ld_unit_zero (S := S1024x128) zero2, View.ld_unit_zero (S := S1x128) zero2]
  refine (congrFun (View.canon_unit_zero (Val := Elt Ideal) (S := S512x512) zero2 _ _) _).trans ?_
  refine (nq_at _ _ r n).trans ?_
  simp only [own_at]

theorem out18_at (r n : Fin 512) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 (ix3 0 n r)
      = ∑ d : Fin 1024, x1 (ix2 r d) * x6 (ix2 d ⟨512 + n.val, by omega⟩) := by
  unfold out0_A_18
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, readCov_second _ _ _ _ rows_apart, rows_all, slice_of,
    View.ld_unit_zero (S := S16x1024) zero2, View.ld_unit_zero (S := S512x1024) zero2, View.ld_unit_zero (S := S512x128) zero2,
    View.ld_unit_zero (S := S1024x1024) zero2, View.ld_unit_zero (S := S1024x1536) zero2, View.ld_unit_zero (S := S1024x512) zero2,
    View.ld_unit_zero (S := S1024x128) zero2, View.ld_unit_zero (S := S1x128) zero2]
  refine (congrFun (View.canon_unit_zero (Val := Elt Ideal) (S := S1x512x512) zero3 _ _) _).trans ?_
  refine (nk_at _ _ r n).trans ?_
  simp only [own_at]

theorem out19_at (r n : Fin 512) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 (ix2 r n)
      = ∑ d : Fin 1024, x1 (ix2 r d) * x6 (ix2 d ⟨1024 + n.val, by omega⟩) := by
  unfold out0_A_19
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, readCov_second _ _ _ _ rows_apart, rows_all, slice_of,
    View.ld_unit_zero (S := S16x1024) zero2, View.ld_unit_zero (S := S512x1024) zero2, View.ld_unit_zero (S := S512x128) zero2,
    View.ld_unit_zero (S := S1024x1024) zero2, View.ld_unit_zero (S := S1024x1536) zero2, View.ld_unit_zero (S := S1024x512) zero2,
    View.ld_unit_zero (S := S1024x128) zero2, View.ld_unit_zero (S := S1x128) zero2]
  refine (congrFun (View.canon_unit_zero (Val := Elt Ideal) (S := S512x512) zero2 _ _) _).trans ?_
  refine (nv_at _ _ r n).trans ?_
  simp only [own_at]

theorem out23_at (r n : Fin 512) :
    out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 (ix2 r n)
      = ∑ d : Fin 1024, x1 (ix2 r d) * x8 (ix2 d n) := by
  unfold out0_A_23
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, readCov_second _ _ _ _ rows_apart, rows_all, slice_of,
    View.ld_unit_zero (S := S16x1024) zero2, View.ld_unit_zero (S := S512x1024) zero2, View.ld_unit_zero (S := S512x128) zero2,
    View.ld_unit_zero (S := S1024x1024) zero2, View.ld_unit_zero (S := S1024x1536) zero2, View.ld_unit_zero (S := S1024x512) zero2,
    View.ld_unit_zero (S := S1024x128) zero2, View.ld_unit_zero (S := S1x128) zero2]
  refine (congrFun (View.canon_unit_zero (Val := Elt Ideal) (S := S512x512) zero2 _ _) _).trans ?_
  refine (cz_at _ _ r n).trans ?_
  simp only [own_at]

theorem out24_at (r : Fin 512) (l : Fin 128) :
    out0_A_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 (ix2 r l)
      = if Ideal.ofBits .f32 0x3F000000#32 < x13 (ix2 2 l)
          then decay (x13 (ix2 0 l)) ((∑ d : Fin 1024, x1 (ix2 r d) * x9 (ix2 d l)) + x13 (ix2 1 l))
        else Ideal.logistic (∑ d : Fin 1024, x1 (ix2 r d) * x9 (ix2 d l)) := by
  unfold out0_A_24
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, readCov_second _ _ _ _ rows_apart, rows_all, slice_of,
    View.ld_unit_zero (S := S16x1024) zero2, View.ld_unit_zero (S := S512x1024) zero2, View.ld_unit_zero (S := S512x128) zero2,
    View.ld_unit_zero (S := S1024x1024) zero2, View.ld_unit_zero (S := S1024x1536) zero2, View.ld_unit_zero (S := S1024x512) zero2,
    View.ld_unit_zero (S := S1024x128) zero2, View.ld_unit_zero (S := S1x128) zero2]
  refine (congrFun (View.canon_unit_zero (Val := Elt Ideal) (S := S512x128) zero2 _ _) _).trans ?_
  have hw : ∀ (k : Fin 8) (hk), View.ld x13 (Rect.unit ![k.val, 0] ![1, 128] hk) (ix2 0 l) = x13 (ix2 k l) := by
    intro k hk
    refine View.ld_unit_apply_of _ _ _ _ _ (ix2 k l) fun b => ?_
    fin_cases b
    · rfl
    · exact (Nat.zero_add _).symm
  have hraw : k0_pay67 (k0_pay2 x1) x9 (ix2 r l) = ∑ d : Fin 1024, x1 (ix2 r d) * x9 (ix2 d l) := by
    rw [raw_at]
    simp only [own_at]
  refine (gate_at _ _ _ _ r l).trans ?_
  rw [hraw, ← hw 0 inb_S8x128_S1x128_0_0, ← hw 1 inb_S8x128_S1x128_1_0, ← hw 2 inb_S8x128_S1x128_2_0]
  rfl

theorem out14_at (r k : Fin 512) (hy : ∀ r (n : Fin 1024), ∃ z : ℝ, ∑ d : Fin 1024, x1 (ix2 r d) * x5 (ix2 d n) = (z : EReal)) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 (ix2 r k)
      = roped (normed (fun x => ∑ d : Fin 1024, x1 (ix2 r d) * x5 (ix2 d ⟨128 * (k.val / 128) + x.val, by omega⟩)) fun x => x10 (ix2 0 x))
          (fun x => x3 (ix2 r x)) (fun x => x4 (ix2 r x)) ⟨k.val % 128, Nat.mod_lt _ (by omega)⟩ * Ideal.ofBits .f32 0x3E000000#32 := by
  unfold out0_A_14
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, readCov_second _ _ _ _ rows_apart, rows_all, slice_of,
    View.ld_unit_zero (S := S16x1024) zero2, View.ld_unit_zero (S := S512x1024) zero2, View.ld_unit_zero (S := S512x128) zero2,
    View.ld_unit_zero (S := S1024x1024) zero2, View.ld_unit_zero (S := S1024x1536) zero2, View.ld_unit_zero (S := S1024x512) zero2,
    View.ld_unit_zero (S := S1024x128) zero2, View.ld_unit_zero (S := S1x128) zero2]
  simp only [query0, query1, query2, query3]
  refine slices4_of (e := .bf16) r k (fun j l => roped (normed (fun x => ∑ d : Fin 1024, x1 (ix2 r d) * x5 (ix2 d ⟨128 * j.val + x.val, by omega⟩)) fun x => x10 (ix2 0 x))
          (fun x => x3 (ix2 r x)) (fun x => x4 (ix2 r x)) l * Ideal.ofBits .f32 0x3E000000#32) ?_ ?_ ?_ ?_
  all_goals exact fun l => query_at _ _ _ _ _ _ r l _ (fun x => cols_at x1 x5 _ _ r x _ (by simp)) fun x => hy r _

theorem out15_at (k : Fin 256) (r : Fin 512) (hy : ∀ r (n : Fin 1024), ∃ z : ℝ, ∑ d : Fin 1024, x1 (ix2 r d) * x5 (ix2 d n) = (z : EReal)) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 (ix3 0 k r)
      = roped (normed (fun x => ∑ d : Fin 1024, x1 (ix2 r d) * x5 (ix2 d ⟨512 + 128 * (k.val / 128) + x.val, by omega⟩)) fun x => x11 (ix2 0 x))
          (fun x => x3 (ix2 r x)) (fun x => x4 (ix2 r x)) ⟨k.val % 128, Nat.mod_lt _ (by omega)⟩ := by
  unfold out0_A_15
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, readCov_second _ _ _ _ rows_apart, rows_all, slice_of,
    View.ld_unit_zero (S := S16x1024) zero2, View.ld_unit_zero (S := S512x1024) zero2, View.ld_unit_zero (S := S512x128) zero2,
    View.ld_unit_zero (S := S1024x1024) zero2, View.ld_unit_zero (S := S1024x1536) zero2, View.ld_unit_zero (S := S1024x512) zero2,
    View.ld_unit_zero (S := S1024x128) zero2, View.ld_unit_zero (S := S1x128) zero2]
  simp only [key0, key1]
  refine slices2_of k r (fun j l => roped (normed (fun x => ∑ d : Fin 1024, x1 (ix2 r d) * x5 (ix2 d ⟨512 + 128 * j.val + x.val, by omega⟩)) fun x => x11 (ix2 0 x))
          (fun x => x3 (ix2 r x)) (fun x => x4 (ix2 r x)) l) ?_ ?_
  all_goals exact fun l => key_at _ _ _ _ _ _ r l _ (fun x => cols_at x1 x5 _ _ r x _ (by simp)) fun x => hy r _

theorem out20_at (r k : Fin 512) (hc : ∀ r n, ∃ z : ℝ, channel (fun a d => around i x0 x1 x2 (ix2 a d)) (fun d n => x7 (ix2 d n)) (fun j n => x12 (ix2 j n)) r n = (z : EReal)) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 (ix2 r k)
      = united (fun x => channel (fun a d => around i x0 x1 x2 (ix2 a d)) (fun d n => x7 (ix2 d n)) (fun j n => x12 (ix2 j n)) r ⟨128 * (k.val / 128) + x.val, by omega⟩) ⟨k.val % 128, Nat.mod_lt _ (by omega)⟩ * Ideal.ofBits .f32 0x3E000000#32 := by
  unfold out0_A_20
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, readCov_second _ _ _ _ rows_apart, rows_all, slice_of,
    View.ld_unit_zero (S := S16x1024) zero2, View.ld_unit_zero (S := S512x1024) zero2, View.ld_unit_zero (S := S512x128) zero2,
    View.ld_unit_zero (S := S1024x1024) zero2, View.ld_unit_zero (S := S1024x1536) zero2, View.ld_unit_zero (S := S1024x512) zero2,
    View.ld_unit_zero (S := S1024x128) zero2, View.ld_unit_zero (S := S1x128) zero2]
  simp only [cq0, cq1, cq2, cq3]
  refine slices4_of (e := .f32) r k (fun j l => united (fun x => channel (fun a d => around i x0 x1 x2 (ix2 a d)) (fun d n => x7 (ix2 d n)) (fun j n => x12 (ix2 j n)) r ⟨128 * j.val + x.val, by omega⟩) l * Ideal.ofBits .f32 0x3E000000#32) ?_ ?_ ?_ ?_
  all_goals exact fun l => (eighth_at _ r l).trans (congrArg (· * Ideal.ofBits .f32 0x3E000000#32) (united_at _ r l _
      (fun x => slice_at i x0 x1 x2 x7 x12 _ _ _ _ _ _ _ r x _ (by simp)) fun x => hc r _))

theorem out21_at (r k : Fin 512) (hc : ∀ r n, ∃ z : ℝ, channel (fun a d => around i x0 x1 x2 (ix2 a d)) (fun d n => x7 (ix2 d n)) (fun j n => x12 (ix2 j n)) r n = (z : EReal)) :
    out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 (ix2 r k)
      = united (fun x => channel (fun a d => around i x0 x1 x2 (ix2 a d)) (fun d n => x7 (ix2 d n)) (fun j n => x12 (ix2 j n)) r ⟨512 + 128 * (k.val / 128) + x.val, by omega⟩) ⟨k.val % 128, Nat.mod_lt _ (by omega)⟩ := by
  unfold out0_A_21
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, readCov_second _ _ _ _ rows_apart, rows_all, slice_of,
    View.ld_unit_zero (S := S16x1024) zero2, View.ld_unit_zero (S := S512x1024) zero2, View.ld_unit_zero (S := S512x128) zero2,
    View.ld_unit_zero (S := S1024x1024) zero2, View.ld_unit_zero (S := S1024x1536) zero2, View.ld_unit_zero (S := S1024x512) zero2,
    View.ld_unit_zero (S := S1024x128) zero2, View.ld_unit_zero (S := S1x128) zero2]
  simp only [ck0, ck1, ck2, ck3]
  refine slices4_of (e := .f32) r k (fun j l => united (fun x => channel (fun a d => around i x0 x1 x2 (ix2 a d)) (fun d n => x7 (ix2 d n)) (fun j n => x12 (ix2 j n)) r ⟨512 + 128 * j.val + x.val, by omega⟩) l) ?_ ?_ ?_ ?_
  all_goals exact fun l => united_at _ r l _ (fun x => slice_at i x0 x1 x2 x7 x12 _ _ _ _ _ _ _ r x _ (by simp)) fun x => hc r _

theorem out22_at (r k : Fin 512) :
    out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 (ix2 r k)
      = channel (fun a d => around i x0 x1 x2 (ix2 a d)) (fun d n => x7 (ix2 d n)) (fun j n => x12 (ix2 j n)) r ⟨1024 + k.val, by omega⟩ := by
  unfold out0_A_22
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, readCov_second _ _ _ _ rows_apart, rows_all, slice_of,
    View.ld_unit_zero (S := S16x1024) zero2, View.ld_unit_zero (S := S512x1024) zero2, View.ld_unit_zero (S := S512x128) zero2,
    View.ld_unit_zero (S := S1024x1024) zero2, View.ld_unit_zero (S := S1024x1536) zero2, View.ld_unit_zero (S := S1024x512) zero2,
    View.ld_unit_zero (S := S1024x128) zero2, View.ld_unit_zero (S := S1x128) zero2]
  simp only [cv0, cv1, cv2, cv3]
  refine (slices4_of (e := .f32) r k (fun j l => channel (fun a d => around i x0 x1 x2 (ix2 a d)) (fun d n => x7 (ix2 d n)) (fun j n => x12 (ix2 j n)) r ⟨1024 + 128 * j.val + l.val, by omega⟩) ?_ ?_ ?_ ?_).trans
    (congrArg _ (Fin.ext (by show 1024 + 128 * (k.val / 128) + k.val % 128 = 1024 + k.val; omega)))
  all_goals exact fun l => slice_at i x0 x1 x2 x7 x12 _ _ _ _ _ _ _ r l _ (by simp)

end body

end Cert.ProjRead
-- ==== Proof.ProjRef.lean ====
module

public import proofs.«01_k».proof.Proof.Gen.ProjRefIdeal.Read
public import proofs.«01_k».proof.Proof.ProjTile
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ProjRef

open Cert.ProjRefIdeal Cert.ProjRefIdeal.Read Cert.ProjTile Cert.MergeBlock

variable (X : FVec Ideal S81920x1024 .f32) (W : FVec Ideal S1024x4384 .f32) (Q K : FVec Ideal S64 .f32) (C : FVec Ideal S3x1536 .f32)
  (A D : FVec Ideal S2x8 .f32)

/-- A token's row times a column of the weights. -/
def proj (i : Fin 81920) (n : Fin 4384) : EReal := ∑ d : Fin 1024, X (ix2 i d) * W (ix2 d n)

/-- The projected tokens, sequence by sequence. -/
theorem prod_at (b : Fin 10) (s : Fin 8192) (n : Fin 4384) :
    val_main_v1 (F := Ideal) X W (ix3 b s n) = proj X W ⟨b.val * 8192 + s.val, by omega⟩ n := by
  unfold proj
  unfold val_main_v1 val_main_v0
  pointwise

/-- The projected tokens at a token of the whole batch. -/
theorem row_at (i : Fin 81920) (n : Fin 4384) :
    val_main_v1 (F := Ideal) X W (ix3 (⟨i.val / 8192, by omega⟩ : Fin 10) (⟨i.val % 8192, by omega⟩ : Fin 8192) n) = proj X W i n := by
  rw [prod_at]
  exact congrArg (fun k => proj X W k n) (Fin.ext (by dsimp only; omega))

/-- The first mixer's values, each head twice. -/
theorem va_at (i : Fin 81920) (n : Fin 256) :
    val_main_v187 (F := Ideal) X W (ix2 i n) = proj X W i ⟨640 + 64 * (n.val / 128) + n.val % 64, by omega⟩ := by
  have h := row_at X W i ⟨640 + 64 * (n.val / 128) + n.val % 64, by omega⟩
  unfold val_main_v187 val_main_v186 val_main_v135 val_main_v134 val_main_v129 val_main_v4
  generalize val_main_v1 (F := Ideal) X W = Y at h ⊢
  pointwise
  refine Eq.trans ?_ h
  blk_ext

theorem nq_at (i : Fin 81920) (n : Fin 512) :
    val_main_v191 (F := Ideal) X W (ix2 i n) = proj X W i ⟨768 + n.val, by omega⟩ * Ideal.ofBits .f32 0x3E000000#32 := by
  have h := row_at X W i ⟨768 + n.val, by omega⟩
  unfold val_main_v191 val_main_v190 val_main_v189 val_main_v188 val_main_cst_15 val_main_v5
  generalize val_main_v1 (F := Ideal) X W = Y at h ⊢
  pointwise
  refine congrArg (fun z => z * Ideal.ofBits .f32 0x3E000000#32) (Eq.trans ?_ h)
  blk_ext

theorem nkt_at (b : Fin 10) (n : Fin 512) (s : Fin 8192) :
    val_main_v192 (F := Ideal) X W (ix3 b n s) = proj X W ⟨b.val * 8192 + s.val, by omega⟩ ⟨1280 + n.val, by omega⟩ := by
  have h := prod_at X W b s ⟨1280 + n.val, by omega⟩
  unfold val_main_v192 val_main_v136 val_main_v6
  generalize val_main_v1 (F := Ideal) X W = Y at h ⊢
  pointwise
  exact h

theorem nv_at (i : Fin 81920) (n : Fin 512) :
    val_main_v194 (F := Ideal) X W (ix2 i n) = proj X W i ⟨1792 + n.val, by omega⟩ := by
  have h := row_at X W i ⟨1792 + n.val, by omega⟩
  unfold val_main_v194 val_main_v193 val_main_v7
  generalize val_main_v1 (F := Ideal) X W = Y at h ⊢
  pointwise
  refine Eq.trans ?_ h
  blk_ext

theorem cz_at (i : Fin 81920) (n : Fin 512) :
    val_main_v198 (F := Ideal) X W (ix2 i n) = proj X W i ⟨3840 + n.val, by omega⟩ := by
  have h := row_at X W i ⟨3840 + n.val, by omega⟩
  unfold val_main_v198 val_main_v11
  generalize val_main_v1 (F := Ideal) X W = Y at h ⊢
  pointwise
  refine Eq.trans ?_ h
  blk_ext

end Cert.ProjRef
-- ==== Proof.ProjPlain.lean ====
module

public import proofs.«01_k».proof.Proof.ProjReads
public import proofs.«01_k».proof.Proof.ProjRead
public import proofs.«01_k».proof.Proof.ProjRef

@[expose] public section

set_option maxRecDepth 16384

noncomputable section

open Idealize.ShloMosaic Idealize.ShloMosaic.TcCoe Idealize.SL.Sem
open Idealize.ShloMosaic.Pipeline (Dat)

namespace Cert.ProjIdeal.Plain

open Cert.ProjIdeal Cert.ProjIdeal.Gen Cert.ProjIdeal.Lines Cert.ProjIdeal.Reads Cert.ProjRef

variable (m : (ℓ : Loc nD τ sig) → Buf (Elt Ideal) ℓ)

/-- A sum of products depends on the factors alone. -/
theorem dot_congr {a a' b b' : Fin 1024 → EReal} (ha : ∀ d, a d = a' d) (hb : ∀ d, b d = b' d) :
    ∑ d, a d * b d = ∑ d, a' d * b' d := Finset.sum_congr rfl fun d _ => by rw [ha, hb]

/-- The argument arrays: the tokens and the projection's weights. -/
abbrev tok (c : Dev nD) : FVec Ideal S81920x1024 .f32 := m ((c : Thread nD τ).loc main_arg0)
abbrev wts (c : Dev nD) : FVec Ideal S1024x4384 .f32 := m ((c : Thread nD τ).loc main_arg1)

/-- A token's row times one of the first mixer's columns for keys and values. -/
theorem dot_kv (c : Dev nD) (t : Fin cfg0.N) (r : Fin 512) (k : Fin 512) (h : t.val * 512 + r.val < 81920) :
    (∑ d : Fin 1024, @HMul.hMul EReal EReal EReal _ (iblk m c 1 t (ix2 r d)) (iblk m c 5 t (ix2 d ⟨512 + k.val, by omega⟩)))
      = proj (tok m c) (wts m c) ⟨t.val * 512 + r.val, h⟩ ⟨512 + 64 * (k.val / 128) + k.val % 64, by omega⟩ :=
  dot_congr (fun d => read_x m c t r d) fun d => (read_wa m c t d _).trans (wide_kv _ d k)

/-- The first mixer's values. -/
theorem final16 (c : Dev nD) : (dats m 0 c).arrAt 16 (cfgs 0).N = Cert.ProjRefIdeal.Read.val_main_v187 (F := Ideal) (tok m c) (wts m c) := by
  refine (dats m 0 c).arrAt_eq_of_covers 16 _ (by decide +kernel) fun t _ y => ?_
  blk_simp
  rw [after0_16]
  unfold outsAt0
  dsimp only
  have hN : t.val < 160 := t.isLt
  obtain ⟨r, n, rfl⟩ : ∃ (r : Fin 512) (n : Fin 256), y = ix2 r n := ⟨y 0, y 1, by idx_ext⟩
  have he : ((View.whole main_v79_2).slice (win0_16.rect t)).emb (ix2 r n)
      = (ix2 (⟨t.val * 512 + r.val, by omega⟩ : Fin 81920) n : S81920x256.Idx) := by
    blk_ext [odx t]
  rw [he]
  refine (ProjRead.out16_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans (Eq.trans ?_ (va_at (tok m c) (wts m c) _ n).symm)
  have hk : (⟨768 + n.val, by omega⟩ : Fin 1024) = ⟨512 + (⟨256 + n.val, by omega⟩ : Fin 512).val, by dsimp only; omega⟩ := Fin.ext (by dsimp only; omega)
  rw [hk]
  refine (dot_kv m c t r ⟨256 + n.val, by omega⟩ (by omega)).trans ?_
  exact congrArg (fun k => proj (tok m c) (wts m c) _ k) (Fin.ext (by dsimp only; omega))

/-- The second mixer's queries. -/
theorem final17 (c : Dev nD) : (dats m 0 c).arrAt 17 (cfgs 0).N = Cert.ProjRefIdeal.Read.val_main_v191 (F := Ideal) (tok m c) (wts m c) := by
  refine (dats m 0 c).arrAt_eq_of_covers 17 _ (by decide +kernel) fun t _ y => ?_
  blk_simp
  rw [after0_17]
  unfold outsAt0
  dsimp only
  have hN : t.val < 160 := t.isLt
  obtain ⟨r, n, rfl⟩ : ∃ (r : Fin 512) (n : Fin 512), y = ix2 r n := ⟨y 0, y 1, by idx_ext⟩
  have he : ((View.whole main_v79_3).slice (win0_17.rect t)).emb (ix2 r n)
      = (ix2 (⟨t.val * 512 + r.val, by omega⟩ : Fin 81920) n : S81920x512.Idx) := by
    blk_ext [odx t]
  rw [he]
  refine (ProjRead.out17_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans (Eq.trans ?_ (nq_at (tok m c) (wts m c) _ n).symm)
  refine congrArg (fun z => z * Ideal.ofBits .f32 0x3E000000#32) ?_
  exact dot_congr (fun d => read_x m c t r d) fun d => read_wn m c t d ⟨n.val, by omega⟩

/-- The second mixer's keys, the tokens last. -/
theorem final18 (c : Dev nD) : (dats m 0 c).arrAt 18 (cfgs 0).N = Cert.ProjRefIdeal.Read.val_main_v192 (F := Ideal) (tok m c) (wts m c) := by
  refine (dats m 0 c).arrAt_eq_of_covers 18 _ (by decide +kernel) fun t _ y => ?_
  blk_simp
  rw [after0_18]
  unfold outsAt0
  dsimp only
  have hN : t.val < 160 := t.isLt
  obtain ⟨n, r, rfl⟩ : ∃ (n : Fin 512) (r : Fin 512), y = ix3 0 n r := ⟨y 1, y 2, by idx_ext⟩
  have he : ((View.whole main_v79_4).slice (win0_18.rect t)).emb (ix3 0 n r)
      = (ix3 (⟨t.val / 16, by omega⟩ : Fin 10) n (⟨t.val % 16 * 512 + r.val, by omega⟩ : Fin 8192) : S10x512x8192.Idx) := by
    blk_ext [odx t]
  rw [he]
  refine (ProjRead.out18_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans (Eq.trans ?_ (nkt_at (tok m c) (wts m c) _ n _).symm)
  refine (dot_congr (fun d => read_x m c t r d) fun d => read_wn m c t d ⟨512 + n.val, by omega⟩).trans ?_
  exact congrArg₂ (fun i k => proj (tok m c) (wts m c) i k) (Fin.ext (by dsimp only; omega)) (Fin.ext (by dsimp only; omega))

/-- The second mixer's values. -/
theorem final19 (c : Dev nD) : (dats m 0 c).arrAt 19 (cfgs 0).N = Cert.ProjRefIdeal.Read.val_main_v194 (F := Ideal) (tok m c) (wts m c) := by
  refine (dats m 0 c).arrAt_eq_of_covers 19 _ (by decide +kernel) fun t _ y => ?_
  blk_simp
  rw [after0_19]
  unfold outsAt0
  dsimp only
  have hN : t.val < 160 := t.isLt
  obtain ⟨r, n, rfl⟩ : ∃ (r : Fin 512) (n : Fin 512), y = ix2 r n := ⟨y 0, y 1, by idx_ext⟩
  have he : ((View.whole main_v79_5).slice (win0_19.rect t)).emb (ix2 r n)
      = (ix2 (⟨t.val * 512 + r.val, by omega⟩ : Fin 81920) n : S81920x512.Idx) := by
    blk_ext [odx t]
  rw [he]
  refine (ProjRead.out19_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans (Eq.trans ?_ (nv_at (tok m c) (wts m c) _ n).symm)
  refine (dot_congr (fun d => read_x m c t r d) fun d => read_wn m c t d ⟨1024 + n.val, by omega⟩).trans ?_
  exact congrArg (fun k => proj (tok m c) (wts m c) _ k) (Fin.ext (by dsimp only; omega))

/-- The third mixer's output gate. -/
theorem final23 (c : Dev nD) : (dats m 0 c).arrAt 23 (cfgs 0).N = Cert.ProjRefIdeal.Read.val_main_v198 (F := Ideal) (tok m c) (wts m c) := by
  refine (dats m 0 c).arrAt_eq_of_covers 23 _ (by decide +kernel) fun t _ y => ?_
  blk_simp
  rw [after0_23]
  unfold outsAt0
  dsimp only
  have hN : t.val < 160 := t.isLt
  obtain ⟨r, n, rfl⟩ : ∃ (r : Fin 512) (n : Fin 512), y = ix2 r n := ⟨y 0, y 1, by idx_ext⟩
  have he : ((View.whole main_v79_9).slice (win0_23.rect t)).emb (ix2 r n)
      = (ix2 (⟨t.val * 512 + r.val, by omega⟩ : Fin 81920) n : S81920x512.Idx) := by
    blk_ext [odx t]
  rw [he]
  refine (ProjRead.out23_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans (Eq.trans ?_ (cz_at (tok m c) (wts m c) _ n).symm)
  exact dot_congr (fun d => read_x m c t r d) fun d => read_wz m c t d n

end Cert.ProjIdeal.Plain
-- ==== Proof.ProjRope.lean ====
module

public import proofs.«01_k».proof.Proof.Gen.ProjRefIdeal.Read
public import proofs.«01_k».proof.Proof.ProjTile
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ProjRope

open Cert.ProjRefIdeal Cert.ProjRefIdeal.Gen Cert.ProjRefIdeal.Read Cert.ProjTile Cert.MergeBlock

variable (X : FVec Ideal S81920x1024 .f32) (W : FVec Ideal S1024x4384 .f32) (Q K : FVec Ideal S64 .f32) (C : FVec Ideal S3x1536 .f32)
  (A D : FVec Ideal S2x8 .f32)

/-- A head's 64 elements after the norm. -/
def norm64 (q g : Fin 64 → EReal) (l : Fin 64) : EReal :=
  q l * Ideal.rsqrt (Ideal.div (∑ d : Fin 64, q d * q d) (Ideal.ofBits .f32 0x42800000#32) + Ideal.ofBits .f32 0x358637BD#32) * g l

/-- A head's 64 elements turned by the angles of the row and of the column. -/
def turned (y : Fin 64 → EReal) (cr sr cc sc : Fin 16 → EReal) (l : Fin 64) : EReal :=
  let p : Fin 16 := ⟨l.val % 16, Nat.mod_lt _ (by omega)⟩
  if l.val < 16 then y ⟨p.val, by omega⟩ * cr p - y ⟨16 + p.val, by omega⟩ * sr p
  else if l.val < 32 then y ⟨16 + p.val, by omega⟩ * cr p + y ⟨p.val, by omega⟩ * sr p
  else if l.val < 48 then y ⟨32 + p.val, by omega⟩ * cc p - y ⟨48 + p.val, by omega⟩ * sc p
  else y ⟨48 + p.val, by omega⟩ * cc p + y ⟨32 + p.val, by omega⟩ * sc p

theorem qn_at (b : Fin 10) (s : Fin 8192) (h : Fin 8) (l : Fin 64) :
    val_main_v54 (F := Ideal) X W Q (ix4 b s h l)
      = norm64 (fun x => val_main_v1 (F := Ideal) X W (ix3 b s ⟨h.val * 64 + x.val, by omega⟩)) (fun x => Q (ix1 x)) l := by
  unfold norm64
  unfold val_main_v54 val_main_v53 val_main_v52 val_main_v51 val_main_v50 val_main_v49 val_main_v48 val_main_v47 val_main_v46 val_main_v45 val_main_v44 val_main_v43 val_main_v42 val_main_v41 val_main_cst_2 val_main_cst_3 val_main_cst_4 val_main_v2
  generalize val_main_v1 (F := Ideal) X W = Y
  pointwise

theorem kn_at (b : Fin 10) (s : Fin 8192) (h : Fin 2) (l : Fin 64) :
    val_main_v99 (F := Ideal) X W K (ix4 b s h l)
      = norm64 (fun x => val_main_v1 (F := Ideal) X W (ix3 b s ⟨512 + (h.val * 64 + x.val), by omega⟩)) (fun x => K (ix1 x)) l := by
  unfold norm64
  unfold val_main_v99 val_main_v98 val_main_v97 val_main_v96 val_main_v95 val_main_v94 val_main_v93 val_main_v92 val_main_v91 val_main_v90 val_main_v89 val_main_v88 val_main_v87 val_main_v86 val_main_cst_6 val_main_cst_7 val_main_cst_8 val_main_v3
  generalize val_main_v1 (F := Ideal) X W = Y
  pointwise

/-- Four pieces of sixteen lanes, read at a lane. -/
theorem qcat_at (a0 a1 a2 a3 : FVec Ideal S10x8192x8x16 .f32) (b : Fin 10) (s : Fin 8192) (h : Fin 8) (l : Fin 64) :
    (concatenate S10x8192x8x64 3 [⟨S10x8192x8x16, a0⟩, ⟨S10x8192x8x16, a1⟩, ⟨S10x8192x8x16, a2⟩, ⟨S10x8192x8x16, a3⟩]
      concatenates_S10x8192x8x16_S10x8192x8x16_S10x8192x8x16_S10x8192x8x16_S10x8192x8x64_d3 : FVec Ideal S10x8192x8x64 .f32) (ix4 b s h l)
      = if l.val < 16 then a0 (ix4 b s h ⟨l.val % 16, Nat.mod_lt _ (by omega)⟩)
        else if l.val < 32 then a1 (ix4 b s h ⟨l.val % 16, Nat.mod_lt _ (by omega)⟩)
        else if l.val < 48 then a2 (ix4 b s h ⟨l.val % 16, Nat.mod_lt _ (by omega)⟩)
        else a3 (ix4 b s h ⟨l.val % 16, Nat.mod_lt _ (by omega)⟩) := by
  rcases (by omega : l.val < 16 ∨ (16 ≤ l.val ∧ l.val < 32) ∨ (32 ≤ l.val ∧ l.val < 48) ∨ 48 ≤ l.val) with h | h | h | h
  · rw [if_pos h]; pointwise; split_ifs <;> first | (exfalso; omega) | blk_ext
  · rw [if_neg (by omega), if_pos h.2]; pointwise; split_ifs <;> first | (exfalso; omega) | blk_ext
  · rw [if_neg (by omega), if_neg (by omega), if_pos h.2]; pointwise; split_ifs <;> first | (exfalso; omega) | blk_ext
  · rw [if_neg (by omega), if_neg (by omega), if_neg (by omega)]; pointwise; split_ifs <;> first | (exfalso; omega) | blk_ext

theorem qpart0_at (b : Fin 10) (s : Fin 8192) (h : Fin 8) (p : Fin 16) :
    val_main_v67 (F := Ideal) X W Q (ix4 b s h p)
      = val_main_v54 (F := Ideal) X W Q (ix4 b s h ⟨p.val, by omega⟩) * val_main_v37 (F := Ideal) (ix2 s p)
        - val_main_v54 (F := Ideal) X W Q (ix4 b s h ⟨16 + p.val, by omega⟩) * val_main_v38 (F := Ideal) (ix2 s p) := by
  unfold val_main_v67 val_main_v66 val_main_v65 val_main_v64 val_main_v63 val_main_v60 val_main_v59 val_main_v56 val_main_v55
  generalize val_main_v54 (F := Ideal) X W Q = Y
  generalize val_main_v37 (F := Ideal) = c1
  generalize val_main_v38 (F := Ideal) = c2
  pointwise

theorem qpart1_at (b : Fin 10) (s : Fin 8192) (h : Fin 8) (p : Fin 16) :
    val_main_v72 (F := Ideal) X W Q (ix4 b s h p)
      = val_main_v54 (F := Ideal) X W Q (ix4 b s h ⟨16 + p.val, by omega⟩) * val_main_v37 (F := Ideal) (ix2 s p)
        + val_main_v54 (F := Ideal) X W Q (ix4 b s h ⟨p.val, by omega⟩) * val_main_v38 (F := Ideal) (ix2 s p) := by
  unfold val_main_v72 val_main_v71 val_main_v70 val_main_v69 val_main_v68 val_main_v60 val_main_v59 val_main_v56 val_main_v55
  generalize val_main_v54 (F := Ideal) X W Q = Y
  generalize val_main_v37 (F := Ideal) = c1
  generalize val_main_v38 (F := Ideal) = c2
  pointwise

theorem qpart2_at (b : Fin 10) (s : Fin 8192) (h : Fin 8) (p : Fin 16) :
    val_main_v77 (F := Ideal) X W Q (ix4 b s h p)
      = val_main_v54 (F := Ideal) X W Q (ix4 b s h ⟨32 + p.val, by omega⟩) * val_main_v39 (F := Ideal) (ix2 s p)
        - val_main_v54 (F := Ideal) X W Q (ix4 b s h ⟨48 + p.val, by omega⟩) * val_main_v40 (F := Ideal) (ix2 s p) := by
  unfold val_main_v77 val_main_v76 val_main_v75 val_main_v74 val_main_v73 val_main_v62 val_main_v61 val_main_v58 val_main_v57
  generalize val_main_v54 (F := Ideal) X W Q = Y
  generalize val_main_v39 (F := Ideal) = c3
  generalize val_main_v40 (F := Ideal) = c4
  pointwise

theorem qpart3_at (b : Fin 10) (s : Fin 8192) (h : Fin 8) (p : Fin 16) :
    val_main_v82 (F := Ideal) X W Q (ix4 b s h p)
      = val_main_v54 (F := Ideal) X W Q (ix4 b s h ⟨48 + p.val, by omega⟩) * val_main_v39 (F := Ideal) (ix2 s p)
        + val_main_v54 (F := Ideal) X W Q (ix4 b s h ⟨32 + p.val, by omega⟩) * val_main_v40 (F := Ideal) (ix2 s p) := by
  unfold val_main_v82 val_main_v81 val_main_v80 val_main_v79 val_main_v78 val_main_v62 val_main_v61 val_main_v58 val_main_v57
  generalize val_main_v54 (F := Ideal) X W Q = Y
  generalize val_main_v39 (F := Ideal) = c3
  generalize val_main_v40 (F := Ideal) = c4
  pointwise

theorem qr_at (b : Fin 10) (s : Fin 8192) (h : Fin 8) (l : Fin 64) :
    val_main_v83 (F := Ideal) X W Q (ix4 b s h l)
      = turned (fun x => val_main_v54 (F := Ideal) X W Q (ix4 b s h x)) (fun x => val_main_v37 (F := Ideal) (ix2 s x))
          (fun x => val_main_v38 (F := Ideal) (ix2 s x)) (fun x => val_main_v39 (F := Ideal) (ix2 s x)) (fun x => val_main_v40 (F := Ideal) (ix2 s x)) l := by
  unfold val_main_v83
  rw [qcat_at, qpart0_at, qpart1_at, qpart2_at, qpart3_at]
  rfl

/-- Four pieces of sixteen lanes, read at a lane. -/
theorem kcat_at (a0 a1 a2 a3 : FVec Ideal S10x8192x2x16 .f32) (b : Fin 10) (s : Fin 8192) (h : Fin 2) (l : Fin 64) :
    (concatenate S10x8192x2x64 3 [⟨S10x8192x2x16, a0⟩, ⟨S10x8192x2x16, a1⟩, ⟨S10x8192x2x16, a2⟩, ⟨S10x8192x2x16, a3⟩]
      concatenates_S10x8192x2x16_S10x8192x2x16_S10x8192x2x16_S10x8192x2x16_S10x8192x2x64_d3 : FVec Ideal S10x8192x2x64 .f32) (ix4 b s h l)
      = if l.val < 16 then a0 (ix4 b s h ⟨l.val % 16, Nat.mod_lt _ (by omega)⟩)
        else if l.val < 32 then a1 (ix4 b s h ⟨l.val % 16, Nat.mod_lt _ (by omega)⟩)
        else if l.val < 48 then a2 (ix4 b s h ⟨l.val % 16, Nat.mod_lt _ (by omega)⟩)
        else a3 (ix4 b s h ⟨l.val % 16, Nat.mod_lt _ (by omega)⟩) := by
  rcases (by omega : l.val < 16 ∨ (16 ≤ l.val ∧ l.val < 32) ∨ (32 ≤ l.val ∧ l.val < 48) ∨ 48 ≤ l.val) with h | h | h | h
  · rw [if_pos h]; pointwise; split_ifs <;> first | (exfalso; omega) | blk_ext
  · rw [if_neg (by omega), if_pos h.2]; pointwise; split_ifs <;> first | (exfalso; omega) | blk_ext
  · rw [if_neg (by omega), if_neg (by omega), if_pos h.2]; pointwise; split_ifs <;> first | (exfalso; omega) | blk_ext
  · rw [if_neg (by omega), if_neg (by omega), if_neg (by omega)]; pointwise; split_ifs <;> first | (exfalso; omega) | blk_ext

theorem kpart0_at (b : Fin 10) (s : Fin 8192) (h : Fin 2) (p : Fin 16) :
    val_main_v112 (F := Ideal) X W K (ix4 b s h p)
      = val_main_v99 (F := Ideal) X W K (ix4 b s h ⟨p.val, by omega⟩) * val_main_v37 (F := Ideal) (ix2 s p)
        - val_main_v99 (F := Ideal) X W K (ix4 b s h ⟨16 + p.val, by omega⟩) * val_main_v38 (F := Ideal) (ix2 s p) := by
  unfold val_main_v112 val_main_v111 val_main_v110 val_main_v109 val_main_v108 val_main_v105 val_main_v104 val_main_v101 val_main_v100
  generalize val_main_v99 (F := Ideal) X W K = Y
  generalize val_main_v37 (F := Ideal) = c1
  generalize val_main_v38 (F := Ideal) = c2
  pointwise

theorem kpart1_at (b : Fin 10) (s : Fin 8192) (h : Fin 2) (p : Fin 16) :
    val_main_v117 (F := Ideal) X W K (ix4 b s h p)
      = val_main_v99 (F := Ideal) X W K (ix4 b s h ⟨16 + p.val, by omega⟩) * val_main_v37 (F := Ideal) (ix2 s p)
        + val_main_v99 (F := Ideal) X W K (ix4 b s h ⟨p.val, by omega⟩) * val_main_v38 (F := Ideal) (ix2 s p) := by
  unfold val_main_v117 val_main_v116 val_main_v115 val_main_v114 val_main_v113 val_main_v105 val_main_v104 val_main_v101 val_main_v100
  generalize val_main_v99 (F := Ideal) X W K = Y
  generalize val_main_v37 (F := Ideal) = c1
  generalize val_main_v38 (F := Ideal) = c2
  pointwise

theorem kpart2_at (b : Fin 10) (s : Fin 8192) (h : Fin 2) (p : Fin 16) :
    val_main_v122 (F := Ideal) X W K (ix4 b s h p)
      = val_main_v99 (F := Ideal) X W K (ix4 b s h ⟨32 + p.val, by omega⟩) * val_main_v39 (F := Ideal) (ix2 s p)
        - val_main_v99 (F := Ideal) X W K (ix4 b s h ⟨48 + p.val, by omega⟩) * val_main_v40 (F := Ideal) (ix2 s p) := by
  unfold val_main_v122 val_main_v121 val_main_v120 val_main_v119 val_main_v118 val_main_v107 val_main_v106 val_main_v103 val_main_v102
  generalize val_main_v99 (F := Ideal) X W K = Y
  generalize val_main_v39 (F := Ideal) = c3
  generalize val_main_v40 (F := Ideal) = c4
  pointwise

theorem kpart3_at (b : Fin 10) (s : Fin 8192) (h : Fin 2) (p : Fin 16) :
    val_main_v127 (F := Ideal) X W K (ix4 b s h p)
      = val_main_v99 (F := Ideal) X W K (ix4 b s h ⟨48 + p.val, by omega⟩) * val_main_v39 (F := Ideal) (ix2 s p)
        + val_main_v99 (F := Ideal) X W K (ix4 b s h ⟨32 + p.val, by omega⟩) * val_main_v40 (F := Ideal) (ix2 s p) := by
  unfold val_main_v127 val_main_v126 val_main_v125 val_main_v124 val_main_v123 val_main_v107 val_main_v106 val_main_v103 val_main_v102
  generalize val_main_v99 (F := Ideal) X W K = Y
  generalize val_main_v39 (F := Ideal) = c3
  generalize val_main_v40 (F := Ideal) = c4
  pointwise

theorem kr_at (b : Fin 10) (s : Fin 8192) (h : Fin 2) (l : Fin 64) :
    val_main_v128 (F := Ideal) X W K (ix4 b s h l)
      = turned (fun x => val_main_v99 (F := Ideal) X W K (ix4 b s h x)) (fun x => val_main_v37 (F := Ideal) (ix2 s x))
          (fun x => val_main_v38 (F := Ideal) (ix2 s x)) (fun x => val_main_v39 (F := Ideal) (ix2 s x)) (fun x => val_main_v40 (F := Ideal) (ix2 s x)) l := by
  unfold val_main_v128
  rw [kcat_at, kpart0_at, kpart1_at, kpart2_at, kpart3_at]
  rfl

/-- The first mixer's queries. -/
theorem qa_at (i : Fin 81920) (n : Fin 512) :
    val_main_v184 (F := Ideal) X W Q (ix2 i n)
      = val_main_v83 (F := Ideal) X W Q (ix4 ⟨i.val / 8192, by omega⟩ ⟨i.val % 8192, by omega⟩ ⟨n.val / 64, by omega⟩ ⟨n.val % 64, by omega⟩)
          * Ideal.ofBits .f32 0x3E000000#32 := by
  unfold val_main_v184 val_main_v183 val_main_v85 val_main_v84 val_main_cst_5
  generalize val_main_v83 (F := Ideal) X W Q = Y
  pointwise
  all_goals (try blk_ext)

/-- The first mixer's keys, each head twice. -/
theorem kdup_at (b : Fin 10) (s : Fin 8192) (h : Fin 4) (l : Fin 64) :
    val_main_v131 (F := Ideal) X W K (ix4 b s h l) = val_main_v128 (F := Ideal) X W K (ix4 b s ⟨h.val / 2, by omega⟩ l) := by
  rw [val_main_v131_apply, val_main_v130_apply]
  refine congrArg _ (funext fun a => Fin.ext ?_)
  have hb := b.isLt
  have hs := s.isLt
  have hh := h.isLt
  have hl := l.isLt
  match a with
  | ⟨0, _⟩ => show (((b.val * 8192 + s.val) * 4 + h.val) * 64 + l.val) / 2097152 = b.val; omega
  | ⟨1, _⟩ => show (((b.val * 8192 + s.val) * 4 + h.val) * 64 + l.val) / 256 % 8192 = s.val; omega
  | ⟨2, _⟩ => show (((b.val * 8192 + s.val) * 4 + h.val) * 64 + l.val) / 128 % 2 = h.val / 2; omega
  | ⟨3, _⟩ => show (((b.val * 8192 + s.val) * 4 + h.val) * 64 + l.val) % 64 = l.val; omega

/-- They are laid out with the tokens last. -/
theorem kt_at (b : Fin 10) (n : Fin 256) (s : Fin 8192) :
    val_main_v185 (F := Ideal) X W K (ix3 b n s)
      = val_main_v128 (F := Ideal) X W K (ix4 b s ⟨n.val / 64 / 2, by omega⟩ ⟨n.val % 64, by omega⟩) := by
  refine Eq.trans ?_ (kdup_at X W K b s ⟨n.val / 64, by omega⟩ ⟨n.val % 64, by omega⟩)
  have e : val_main_v185 (F := Ideal) X W K (ix3 b n s) = val_main_v133 (F := Ideal) X W K (ix3 b n s) := by
    unfold val_main_v185
    generalize val_main_v133 (F := Ideal) X W K = Y
    rfl
  rw [e, val_main_v133_apply, val_main_v132_apply]
  refine congrArg _ (funext fun a => Fin.ext ?_)
  have hb := b.isLt
  have hs := s.isLt
  have hn := n.isLt
  match a with
  | ⟨0, _⟩ => show ((b.val * 256 + n.val) * 8192 + s.val) / 2097152 = b.val; omega
  | ⟨1, _⟩ => show ((b.val * 256 + n.val) * 8192 + s.val) % 8192 = s.val; omega
  | ⟨2, _⟩ => show ((b.val * 256 + n.val) * 8192 + s.val) / 524288 % 4 = n.val / 64; omega
  | ⟨3, _⟩ => show ((b.val * 256 + n.val) * 8192 + s.val) / 8192 % 64 = n.val % 64; omega

end Cert.ProjRope
-- ==== Proof.ProjTurn.lean ====
module

public import proofs.«01_k».proof.Proof.ProjPlain
public import proofs.«01_k».proof.Proof.ProjRope
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.ProjIdeal.Turn

open Cert.ProjIdeal Cert.ProjIdeal.Gen Cert.ProjIdeal.Lines Cert.ProjIdeal.Reads Cert.ProjIdeal.Plain Cert.ProjRef Cert.ProjTile Cert.ProjRope
open Cert.MergeBlock (lane)

/-- The lane within its head. -/
abbrev low (l : Fin 128) : Fin 64 := ⟨l.val % 64, Nat.mod_lt _ (by omega)⟩

/-- The norm over 128 lanes is, in each head, the norm over its 64. -/
theorem normed_eq (q g : Fin 128 → EReal) (q' g' : Fin 64 → EReal) (h : ℕ) (hq : ∀ x : Fin 128, x.val / 64 = h → q x = q' (low x))
    (hg : ∀ x, g x = g' (low x)) (l : Fin 128) (hl : l.val / 64 = h) : normed q g l = norm64 q' g' (low l) := by
  unfold normed norm64
  have e : ∀ d : Fin 64, q (lane l d) = q' d := fun d => by
    have hv : (lane l d).val = l.val / 64 * 64 + d.val := rfl
    rw [hq _ (by rw [hv]; omega)]
    exact congrArg q' (Fin.ext (by dsimp only; rw [hv]; omega))
  rw [hq l hl, hg l]
  simp only [e]

/-- The lane sixteen above or below, signed by the table of sines, is the turn of the reference. -/
theorem roped_eq (n cs sn : Fin 128 → EReal) (y : Fin 64 → EReal) (cr sr cc sc : Fin 16 → EReal) (l : Fin 128)
    (hn : ∀ x : Fin 128, x.val / 64 = l.val / 64 → n x = y (low x))
    (hc : cs l = if l.val % 64 < 16 then cr ⟨l.val % 16, Nat.mod_lt _ (by omega)⟩ else if l.val % 64 < 32 then cr ⟨l.val % 16, Nat.mod_lt _ (by omega)⟩
      else if l.val % 64 < 48 then cc ⟨l.val % 16, Nat.mod_lt _ (by omega)⟩ else cc ⟨l.val % 16, Nat.mod_lt _ (by omega)⟩)
    (hs : sn l = if l.val % 64 < 16 then -sr ⟨l.val % 16, Nat.mod_lt _ (by omega)⟩ else if l.val % 64 < 32 then sr ⟨l.val % 16, Nat.mod_lt _ (by omega)⟩
      else if l.val % 64 < 48 then -sc ⟨l.val % 16, Nat.mod_lt _ (by omega)⟩ else sc ⟨l.val % 16, Nat.mod_lt _ (by omega)⟩) :
    roped n cs sn l = turned y cr sr cc sc (low l) := by
  have hp : (partner l).val = if l.val % 32 < 16 then l.val + 16 else l.val - 16 := by unfold partner; split_ifs <;> rfl
  have hp64 : (partner l).val / 64 = l.val / 64 := by rw [hp]; split_ifs <;> omega
  have hm : l.val % 64 % 16 = l.val % 16 := by omega
  have hlow : (low l).val = l.val % 64 := rfl
  unfold roped turned
  rw [hn l rfl, hn _ hp64, hc, hs]
  have key : ∀ (u v : Fin 64) (p : Fin 16) (e1 : low l = u) (e2 : low (partner l) = v) (e3 : (⟨l.val % 16, Nat.mod_lt _ (by omega)⟩ : Fin 16) = p) (a b : Fin 16 → EReal),
      y (low l) * a ⟨l.val % 16, Nat.mod_lt _ (by omega)⟩ + y (low (partner l)) * -b ⟨l.val % 16, Nat.mod_lt _ (by omega)⟩ = y u * a p - y v * b p := by
    intro u v p e1 e2 e3 a b
    rw [e1, e2, e3, mul_neg, sub_eq_add_neg]
  have key' : ∀ (u v : Fin 64) (p : Fin 16) (e1 : low l = u) (e2 : low (partner l) = v) (e3 : (⟨l.val % 16, Nat.mod_lt _ (by omega)⟩ : Fin 16) = p) (a b : Fin 16 → EReal),
      y (low l) * a ⟨l.val % 16, Nat.mod_lt _ (by omega)⟩ + y (low (partner l)) * b ⟨l.val % 16, Nat.mod_lt _ (by omega)⟩ = y u * a p + y v * b p := by
    intro u v p e1 e2 e3 a b
    rw [e1, e2, e3]
  rcases (by omega : l.val % 64 < 16 ∨ (16 ≤ l.val % 64 ∧ l.val % 64 < 32) ∨ (32 ≤ l.val % 64 ∧ l.val % 64 < 48) ∨ 48 ≤ l.val % 64) with h | h | h | h
  · have hq : (partner l).val = l.val + 16 := by rw [hp, if_pos (by omega)]
    rw [if_pos h, if_pos h, if_pos h]
    exact key _ _ _ (Fin.ext (by dsimp only; omega)) (Fin.ext (by dsimp only; omega)) (Fin.ext (by dsimp only; omega)) cr sr
  · have hq : (partner l).val = l.val - 16 := by rw [hp, if_neg (by omega)]
    rw [if_neg (by omega), if_pos h.2, if_neg (by omega), if_pos h.2, if_neg (by omega : ¬ (low l).val < 16), if_pos h.2]
    exact key' _ _ _ (Fin.ext (by dsimp only; omega)) (Fin.ext (by dsimp only; omega)) (Fin.ext (by dsimp only; omega)) cr sr
  · have hq : (partner l).val = l.val + 16 := by rw [hp, if_pos (by omega)]
    rw [if_neg (by omega), if_neg (by omega), if_pos h.2, if_neg (by omega), if_neg (by omega), if_pos h.2, if_neg (by omega : ¬ (low l).val < 16),
      if_neg (by omega : ¬ (low l).val < 32), if_pos h.2]
    exact key _ _ _ (Fin.ext (by dsimp only; omega)) (Fin.ext (by dsimp only; omega)) (Fin.ext (by dsimp only; omega)) cc sc
  · have hq : (partner l).val = l.val - 16 := by rw [hp, if_neg (by omega)]
    rw [if_neg (by omega), if_neg (by omega), if_neg (by omega), if_neg (by omega), if_neg (by omega), if_neg (by omega), if_neg (by omega : ¬ (low l).val < 16),
      if_neg (by omega : ¬ (low l).val < 32), if_neg (by omega : ¬ (low l).val < 48)]
    exact key' _ _ _ (Fin.ext (by dsimp only; omega)) (Fin.ext (by dsimp only; omega)) (Fin.ext (by dsimp only; omega)) cc sc

variable (m : (ℓ : Loc nD τ sig) → Buf (Elt Ideal) ℓ)

/-- A sum of products of reals is a real. -/
theorem dot_real {a b : Fin 1024 → EReal} (ha : ∀ d, ∃ z : ℝ, a d = (z : EReal)) (hb : ∀ d, ∃ z : ℝ, b d = (z : EReal)) :
    ∃ z : ℝ, ∑ d, a d * b d = (z : EReal) := by
  choose x hx using ha
  choose y hy using hb
  refine ⟨∑ d, x d * y d, ?_⟩
  rw [Cert.Softmax.coe_sum]
  exact Finset.sum_congr rfl fun d _ => by rw [hx, hy, EReal.coe_mul]

/-- The first mixer's columns of the weights are among the weights. -/
theorem wide_real (W : FVec Ideal S1024x4384 .f32) (hW : ∀ i, ∃ z : ℝ, W i = (z : EReal)) (d n : Fin 1024) : ∃ z : ℝ, wide W (ix2 d n) = (z : EReal) := by
  by_cases h : n.val < 512
  · rw [show n = ⟨(⟨n.val, h⟩ : Fin 512).val, n.isLt⟩ from rfl, wide_q]; exact hW _
  · have e : n = ⟨512 + (⟨n.val - 512, by omega⟩ : Fin 512).val, by dsimp only; omega⟩ := Fin.ext (by dsimp only; omega)
    rw [e, wide_kv]; exact hW _

/-- The first product is of reals. -/
theorem prod_real (c : Dev nD) (t : Fin cfg0.N) (hX : ∀ i, ∃ z : ℝ, tok m c i = (z : EReal)) (hW : ∀ i, ∃ z : ℝ, wts m c i = (z : EReal))
    (r : Fin 512) (n : Fin 1024) :
    ∃ z : ℝ, (∑ d : Fin 1024, @HMul.hMul EReal EReal EReal _ (iblk m c 1 t (ix2 r d)) (iblk m c 5 t (ix2 d n))) = (z : EReal) :=
  dot_real (fun d => by rw [read_x]; exact hX _) fun d => by rw [read_wa]; exact wide_real _ hW d n

/-- The scales of the norms. -/
abbrev gq (c : Dev nD) : FVec Ideal S64 .f32 := m ((c : Thread nD τ).loc main_arg2)
abbrev gk (c : Dev nD) : FVec Ideal S64 .f32 := m ((c : Thread nD τ).loc main_arg3)

/-- A head of the first mixer, as the kernel turns it, is the reference's: the head's columns of a token. -/
theorem head_eq (c : Dev nD) (t : Fin cfg0.N) (r : Fin 512) (l : Fin 128) (q g : Fin 128 → EReal) (q' g' : Fin 64 → EReal)
    (hq : ∀ x : Fin 128, x.val / 64 = l.val / 64 → q x = q' (low x)) (hg : ∀ x, g x = g' (low x)) (s : Fin 8192) (hs : s.val = t.val % 16 * 512 + r.val) :
    roped (normed q g) (fun x => iblk m c 3 t (ix2 r x)) (fun x => iblk m c 4 t (ix2 r x)) l
      = turned (norm64 q' g') (fun x => Cert.ProjRefIdeal.Read.val_main_v37 (F := Ideal) (ix2 s x)) (fun x => Cert.ProjRefIdeal.Read.val_main_v38 (F := Ideal) (ix2 s x))
          (fun x => Cert.ProjRefIdeal.Read.val_main_v39 (F := Ideal) (ix2 s x)) (fun x => Cert.ProjRefIdeal.Read.val_main_v40 (F := Ideal) (ix2 s x)) (low l) := by
  refine roped_eq _ _ _ _ _ _ _ _ l (fun x hx => normed_eq q g q' g' _ hq hg x hx) ?_ ?_
  · exact (read_cos m c t r l s hs).trans ((congrFun (V_cos m c) _).trans (quad_at _ _ _ _ s l))
  · exact (read_sin m c t r l s hs).trans ((congrFun (V_sin m c) _).trans (quad_at _ _ _ _ s l))

/-- The first mixer's queries. -/
theorem final14 (c : Dev nD) (hX : ∀ i, ∃ z : ℝ, tok m c i = (z : EReal)) (hW : ∀ i, ∃ z : ℝ, wts m c i = (z : EReal)) :
    (dats m 0 c).arrAt 14 (cfgs 0).N = Cert.ProjRefIdeal.Read.val_main_v184 (F := Ideal) (tok m c) (wts m c) (gq m c) := by
  refine (dats m 0 c).arrAt_eq_of_covers 14 _ (by decide +kernel) fun t _ y => ?_
  blk_simp
  rw [after0_14]
  unfold outsAt0
  dsimp only
  have hN : t.val < 160 := t.isLt
  obtain ⟨r, n, rfl⟩ : ∃ (r : Fin 512) (n : Fin 512), y = ix2 r n := ⟨y 0, y 1, by idx_ext⟩
  have he : ((View.whole main_v79_0).slice (win0_14.rect t)).emb (ix2 r n)
      = (ix2 (⟨t.val * 512 + r.val, by omega⟩ : Fin 81920) n : S81920x512.Idx) := by
    blk_ext [odx t]
  rw [he]
  refine (ProjRead.out14_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n fun r n => prod_real m c t hX hW r n).trans (Eq.trans ?_ (qa_at (tok m c) (wts m c) (gq m c) _ n).symm)
  refine congrArg (fun z => z * Ideal.ofBits .f32 0x3E000000#32) ?_
  rw [qr_at]
  simp only [qn_at]
  refine (head_eq m c t r _ _ _ (fun x => proj (tok m c) (wts m c) ⟨t.val * 512 + r.val, by omega⟩ ⟨n.val / 64 * 64 + x.val, by omega⟩) (fun x => gq m c (ix1 x))
    (fun x hx => ?_) (fun x => read_qg m c t x) ⟨(t.val * 512 + r.val) % 8192, by omega⟩ (by dsimp only; omega)).trans ?_
  · have hx' : x.val / 64 = n.val % 128 / 64 := hx
    have hk : (⟨128 * (n.val / 128) + x.val, by omega⟩ : Fin 1024) = ⟨(⟨128 * (n.val / 128) + x.val, by omega⟩ : Fin 512).val, by dsimp only; omega⟩ := rfl
    refine (dot_congr (fun d => read_x m c t r d) fun d => (read_wa m c t d _).trans ((congrArg (fun k => wide (wts m c) (ix2 d k)) hk).trans (wide_q _ d _))).trans ?_
    exact congrArg (fun k => proj (tok m c) (wts m c) _ k) (Fin.ext (by dsimp only [low]; omega))
  · have hl : low (⟨n.val % 128, Nat.mod_lt _ (by omega)⟩ : Fin 128) = ⟨n.val % 64, Nat.mod_lt _ (by omega)⟩ := Fin.ext (by show n.val % 128 % 64 = n.val % 64; omega)
    rw [hl]
    refine congrArg (fun y => turned y _ _ _ _ _) (funext fun x => ?_)
    exact congrArg (fun q => norm64 q _ x) (funext fun z => (row_at (tok m c) (wts m c) ⟨t.val * 512 + r.val, by omega⟩ _).symm)

/-- The first mixer's keys, each head twice, the tokens last. -/
theorem final15 (c : Dev nD) (hX : ∀ i, ∃ z : ℝ, tok m c i = (z : EReal)) (hW : ∀ i, ∃ z : ℝ, wts m c i = (z : EReal)) :
    (dats m 0 c).arrAt 15 (cfgs 0).N = Cert.ProjRefIdeal.Read.val_main_v185 (F := Ideal) (tok m c) (wts m c) (gk m c) := by
  refine (dats m 0 c).arrAt_eq_of_covers 15 _ (by decide +kernel) fun t _ y => ?_
  blk_simp
  rw [after0_15]
  unfold outsAt0
  dsimp only
  have hN : t.val < 160 := t.isLt
  obtain ⟨n, r, rfl⟩ : ∃ (n : Fin 256) (r : Fin 512), y = ix3 0 n r := ⟨y 1, y 2, by idx_ext⟩
  have he : ((View.whole main_v79_1).slice (win0_15.rect t)).emb (ix3 0 n r)
      = (ix3 (⟨t.val / 16, by omega⟩ : Fin 10) n (⟨t.val % 16 * 512 + r.val, by omega⟩ : Fin 8192) : S10x256x8192.Idx) := by
    blk_ext [odx t]
  rw [he]
  refine (ProjRead.out15_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) n r fun r n => prod_real m c t hX hW r n).trans (Eq.trans ?_ (kt_at (tok m c) (wts m c) (gk m c) _ n _).symm)
  rw [kr_at]
  simp only [kn_at, prod_at]
  refine (head_eq m c t r _ _ _ (fun x => proj (tok m c) (wts m c) ⟨t.val / 16 * 8192 + (t.val % 16 * 512 + r.val), by omega⟩ ⟨512 + (n.val / 64 / 2 * 64 + x.val), by omega⟩) (fun x => gk m c (ix1 x))
    (fun x hx => ?_) (fun x => read_kg m c t x) ⟨t.val % 16 * 512 + r.val, by omega⟩ rfl).trans ?_
  · have hx' : x.val / 64 = n.val % 128 / 64 := hx
    have hk : (⟨512 + 128 * (n.val / 128) + x.val, by omega⟩ : Fin 1024) = ⟨512 + (⟨128 * (n.val / 128) + x.val, by omega⟩ : Fin 512).val, by dsimp only; omega⟩ := Fin.ext (by dsimp only; omega)
    rw [hk]
    refine (dot_kv m c t r _ (by omega)).trans ?_
    exact congrArg₂ (fun i k => proj (tok m c) (wts m c) i k) (Fin.ext (by dsimp only; omega)) (Fin.ext (by dsimp only [low]; omega))
  · have hl : low (⟨n.val % 128, Nat.mod_lt _ (by omega)⟩ : Fin 128) = ⟨n.val % 64, Nat.mod_lt _ (by omega)⟩ := Fin.ext (by show n.val % 128 % 64 = n.val % 64; omega)
    rw [hl]

end Cert.ProjIdeal.Turn
-- ==== Proof.ProjConv.lean ====
module

public import proofs.«01_k».proof.Proof.ProjRef

@[expose] public section

set_option maxRecDepth 16384

noncomputable section

open Idealize.ShloMosaic Idealize.ShloMosaic.TcCoe Idealize.SL.Sem

namespace Cert.ProjConv

open Cert.ProjRefIdeal Cert.ProjRefIdeal.Gen Cert.ProjRefIdeal.Read Cert.ProjTile Cert.ProjRef

variable (X : FVec Ideal S81920x1024 .f32) (W : FVec Ideal S1024x4384 .f32) (C : FVec Ideal S3x1536 .f32)

/-- Channel `n` at a token: the three rows around it, zeros beyond the sequence's ends. -/
def chan (i : Fin 81920) (n : Fin 1536) : EReal :=
  silu (conv3 (if h : i.val % 8192 = 0 then 0 else proj X W ⟨i.val - 1, by omega⟩ ⟨2304 + n.val, by omega⟩)
    (proj X W i ⟨2304 + n.val, by omega⟩)
    (if h : i.val % 8192 = 8191 then 0 else proj X W ⟨i.val + 1, by omega⟩ ⟨2304 + n.val, by omega⟩)
    (C (ix2 0 n)) (C (ix2 1 n)) (C (ix2 2 n)))

/-- A head divided by its length. -/
def unit64 (y : Fin 64 → EReal) (l : Fin 64) : EReal :=
  y l * Ideal.rsqrt ((∑ d : Fin 64, y d * y d) + Ideal.ofBits .f32 0x358637BD#32)

/-- The three groups of channels side by side are one range of the projected columns. -/
theorem side_at (b : Fin 10) (s : Fin 8192) (n : Fin 1536) :
    val_main_v137 (F := Ideal) X W (ix3 b s n) = val_main_v1 (F := Ideal) X W (ix3 b s ⟨2304 + n.val, by omega⟩) := by
  unfold val_main_v137 val_main_v8 val_main_v9 val_main_v10
  generalize val_main_v1 (F := Ideal) X W = Y
  pointwise
  split_ifs <;> blk_ext

/-- One row of zeros before and one after every sequence. -/
theorem padded_at (b : Fin 10) (s : Fin 8194) (n : Fin 1536) :
    val_main_v138 (F := Ideal) X W (ix3 b s n)
      = if h : 1 ≤ s.val ∧ s.val ≤ 8192 then val_main_v137 (F := Ideal) X W (ix3 b ⟨s.val - 1, by omega⟩ n) else (0 : EReal) := by
  unfold val_main_v138 val_main_call2_v0 val_main_c_9
  generalize val_main_v137 (F := Ideal) X W = Y
  pointwise
  split_ifs with h1 h2 h2
  · blk_ext
  · omega
  · omega
  · show ((((0#32 : BitVec 32).toInt : ℤ) : ℝ) : EReal) = 0
    simp

/-- The weighed rows. -/
theorem weighed_at (b : Fin 10) (s : Fin 8192) (n : Fin 1536) :
    val_main_v158 (F := Ideal) X W C (ix3 b s n)
      = conv3 (val_main_v138 (F := Ideal) X W (ix3 b ⟨s.val, by omega⟩ n)) (val_main_v138 (F := Ideal) X W (ix3 b ⟨1 + s.val, by omega⟩ n))
          (val_main_v138 (F := Ideal) X W (ix3 b ⟨2 + s.val, by omega⟩ n)) (C (ix2 0 n)) (C (ix2 1 n)) (C (ix2 2 n)) := by
  unfold conv3
  unfold val_main_v158 val_main_v157 val_main_v156 val_main_v155 val_main_v154 val_main_v153 val_main_v152 val_main_v151 val_main_v150 val_main_v149 val_main_v148 val_main_v147 val_main_v146 val_main_v145 val_main_v144 val_main_v143 val_main_v142 val_main_v141 val_main_v140 val_main_v139
  generalize val_main_v138 (F := Ideal) X W = Y
  pointwise

/-- The activation is a number times its logistic. -/
theorem active_at (b : Fin 10) (s : Fin 8192) (n : Fin 1536) :
    val_main_v159 (F := Ideal) X W C (ix3 b s n) = silu (val_main_v158 (F := Ideal) X W C (ix3 b s n)) := by
  unfold silu Ideal.logistic
  unfold val_main_v159 val_main_call3_v5 val_main_call3_v4 val_main_call3_v3 val_main_call3_v2 val_main_call3_v1 val_main_call3_v0 val_main_call3_cst val_main_call3_cst_0
  generalize val_main_v158 (F := Ideal) X W C = Y
  pointwise

/-- The convolved and activated channel. -/
theorem chan_at (b : Fin 10) (s : Fin 8192) (n : Fin 1536) :
    val_main_v159 (F := Ideal) X W C (ix3 b s n) = chan X W C ⟨b.val * 8192 + s.val, by omega⟩ n := by
  have hs := s.isLt
  rw [active_at, weighed_at, padded_at, padded_at, padded_at]
  unfold chan
  have e0 : (if h : 1 ≤ (⟨s.val, by omega⟩ : Fin 8194).val ∧ (⟨s.val, by omega⟩ : Fin 8194).val ≤ 8192
        then val_main_v137 (F := Ideal) X W (ix3 b ⟨(⟨s.val, by omega⟩ : Fin 8194).val - 1, by omega⟩ n) else (0 : EReal))
      = if h : (b.val * 8192 + s.val) % 8192 = 0 then 0 else proj X W ⟨b.val * 8192 + s.val - 1, by omega⟩ ⟨2304 + n.val, by omega⟩ := by
    by_cases h : s.val = 0
    · rw [dif_neg (by dsimp only; omega), dif_pos (by omega)]
    · rw [dif_pos (by dsimp only; omega), dif_neg (by omega), side_at, prod_at]
      exact congrArg (fun i => proj X W i _) (Fin.ext (by dsimp only; omega))
  have e1 : (if h : 1 ≤ (⟨1 + s.val, by omega⟩ : Fin 8194).val ∧ (⟨1 + s.val, by omega⟩ : Fin 8194).val ≤ 8192
        then val_main_v137 (F := Ideal) X W (ix3 b ⟨(⟨1 + s.val, by omega⟩ : Fin 8194).val - 1, by omega⟩ n) else (0 : EReal))
      = proj X W ⟨b.val * 8192 + s.val, by omega⟩ ⟨2304 + n.val, by omega⟩ := by
    rw [dif_pos (by dsimp only; omega), side_at, prod_at]
    exact congrArg (fun i => proj X W i _) (Fin.ext (by dsimp only; omega))
  have e2 : (if h : 1 ≤ (⟨2 + s.val, by omega⟩ : Fin 8194).val ∧ (⟨2 + s.val, by omega⟩ : Fin 8194).val ≤ 8192
        then val_main_v137 (F := Ideal) X W (ix3 b ⟨(⟨2 + s.val, by omega⟩ : Fin 8194).val - 1, by omega⟩ n) else (0 : EReal))
      = if h : (b.val * 8192 + s.val) % 8192 = 8191 then 0 else proj X W ⟨b.val * 8192 + s.val + 1, by omega⟩ ⟨2304 + n.val, by omega⟩ := by
    by_cases h : s.val = 8191
    · rw [dif_neg (by dsimp only; omega), dif_pos (by omega)]
    · rw [dif_pos (by dsimp only; omega), dif_neg (by omega), side_at, prod_at]
      exact congrArg (fun i => proj X W i _) (Fin.ext (by dsimp only; omega))
  rw [e0, e1, e2]

/-- The same at a token of the whole batch. -/
theorem chan_row (i : Fin 81920) (n : Fin 1536) :
    val_main_v159 (F := Ideal) X W C (ix3 (⟨i.val / 8192, by omega⟩ : Fin 10) (⟨i.val % 8192, by omega⟩ : Fin 8192) n) = chan X W C i n := by
  rw [chan_at]
  exact congrArg (fun k => chan X W C k n) (Fin.ext (by dsimp only; omega))

end Cert.ProjConv
-- ==== Proof.ProjHeads.lean ====
module

public import proofs.«01_k».proof.Proof.ProjConv

@[expose] public section

set_option maxRecDepth 16384

noncomputable section

open Idealize.ShloMosaic Idealize.ShloMosaic.TcCoe Idealize.SL.Sem

namespace Cert.ProjHeads

open Cert.ProjRefIdeal Cert.ProjRefIdeal.Gen Cert.ProjRefIdeal.Read Cert.ProjConv

variable (X : FVec Ideal S81920x1024 .f32) (W : FVec Ideal S1024x4384 .f32) (C : FVec Ideal S3x1536 .f32)

/-- The queries' channels by heads. -/
theorem piece163_at (b : Fin 10) (s : Fin 8192) (h : Fin 8) (l : Fin 64) :
    val_main_v163 (F := Ideal) X W C (ix4 b s h l) = val_main_v159 (F := Ideal) X W C (ix3 b s ⟨h.val * 64 + l.val, by omega⟩) := by
  unfold val_main_v163 val_main_v160
  generalize val_main_v159 (F := Ideal) X W C = Y
  pointwise

/-- The keys' channels by heads. -/
theorem piece174_at (b : Fin 10) (s : Fin 8192) (h : Fin 8) (l : Fin 64) :
    val_main_v174 (F := Ideal) X W C (ix4 b s h l) = val_main_v159 (F := Ideal) X W C (ix3 b s ⟨512 + (h.val * 64 + l.val), by omega⟩) := by
  unfold val_main_v174 val_main_v161
  generalize val_main_v159 (F := Ideal) X W C = Y
  pointwise

/-- The squares of a head of queries, summed. -/
theorem qsum_at (b : Fin 10) (s : Fin 8192) (h : Fin 8) :
    val_main_v165 (F := Ideal) X W C (ix3 b s h) = ∑ d : Fin 64, val_main_v163 (F := Ideal) X W C (ix4 b s h d) * val_main_v163 (F := Ideal) X W C (ix4 b s h d) := by
  rw [val_main_v165_apply, val_main_cst_10_apply, Ideal.ofBits_def, Ideal.ofBits_zero_f32, zero_add]
  refine Finset.sum_congr rfl fun d _ => ?_
  have e : idx_main_v165 (ix3 b s h) d = ix4 b s h d := by
    funext a
    match a with
    | ⟨0, _⟩ => rfl
    | ⟨1, _⟩ => rfl
    | ⟨2, _⟩ => rfl
    | ⟨3, _⟩ => rfl
  rw [e, val_main_v164_apply, Ideal.mulf_def]

/-- The reciprocal of a head's length. -/
theorem qinv_at (b : Fin 10) (s : Fin 8192) (h : Fin 8) (z : Fin 1) :
    val_main_v169 (F := Ideal) X W C (ix4 b s h z)
      = Ideal.rsqrt ((∑ d : Fin 64, val_main_v163 (F := Ideal) X W C (ix4 b s h d) * val_main_v163 (F := Ideal) X W C (ix4 b s h d)) + Ideal.ofBits .f32 0x358637BD#32) := by
  have e : idx_main_v166 (ix4 b s h z) = ix3 b s h := by
    funext a
    match a with
    | ⟨0, _⟩ => rfl
    | ⟨1, _⟩ => rfl
    | ⟨2, _⟩ => rfl
  rw [val_main_v169_apply, val_main_v168_apply, val_main_v166_apply, val_main_v167_apply, val_main_cst_11_apply, e, qsum_at]
  rfl

theorem qbr_at (b : Fin 10) (s : Fin 8192) (h : Fin 8) (l : Fin 64) :
    val_main_v170 (F := Ideal) X W C (ix4 b s h l)
      = Ideal.rsqrt ((∑ d : Fin 64, val_main_v163 (F := Ideal) X W C (ix4 b s h d) * val_main_v163 (F := Ideal) X W C (ix4 b s h d)) + Ideal.ofBits .f32 0x358637BD#32) := by
  have e : idx_main_v170 (ix4 b s h l) = ix4 b s h (0 : Fin 1) := by
    funext a
    match a with
    | ⟨0, _⟩ => rfl
    | ⟨1, _⟩ => rfl
    | ⟨2, _⟩ => rfl
    | ⟨3, _⟩ => rfl
  rw [val_main_v170_apply, e, qinv_at]

/-- A head of queries. -/
theorem qhead_at (b : Fin 10) (s : Fin 8192) (h : Fin 8) (l : Fin 64) :
    val_main_v173 (F := Ideal) X W C (ix4 b s h l)
      = unit64 (fun x => val_main_v159 (F := Ideal) X W C (ix3 b s ⟨h.val * 64 + x.val, by omega⟩)) l * Ideal.ofBits .f32 0x3E000000#32 := by
  rw [val_main_v173_apply, val_main_v171_apply, val_main_v172_apply, val_main_cst_12_apply, qbr_at]
  unfold unit64
  simp only [piece163_at, Ideal.mulf_def, Ideal.ofBits_def]

/-- The squares of a head of keys, summed. -/
theorem ksum_at (b : Fin 10) (s : Fin 8192) (h : Fin 8) :
    val_main_v176 (F := Ideal) X W C (ix3 b s h) = ∑ d : Fin 64, val_main_v174 (F := Ideal) X W C (ix4 b s h d) * val_main_v174 (F := Ideal) X W C (ix4 b s h d) := by
  rw [val_main_v176_apply, val_main_cst_13_apply, Ideal.ofBits_def, Ideal.ofBits_zero_f32, zero_add]
  refine Finset.sum_congr rfl fun d _ => ?_
  have e : idx_main_v176 (ix3 b s h) d = ix4 b s h d := by
    funext a
    match a with
    | ⟨0, _⟩ => rfl
    | ⟨1, _⟩ => rfl
    | ⟨2, _⟩ => rfl
    | ⟨3, _⟩ => rfl
  rw [e, val_main_v175_apply, Ideal.mulf_def]

/-- The reciprocal of a head's length. -/
theorem kinv_at (b : Fin 10) (s : Fin 8192) (h : Fin 8) (z : Fin 1) :
    val_main_v180 (F := Ideal) X W C (ix4 b s h z)
      = Ideal.rsqrt ((∑ d : Fin 64, val_main_v174 (F := Ideal) X W C (ix4 b s h d) * val_main_v174 (F := Ideal) X W C (ix4 b s h d)) + Ideal.ofBits .f32 0x358637BD#32) := by
  have e : idx_main_v177 (ix4 b s h z) = ix3 b s h := by
    funext a
    match a with
    | ⟨0, _⟩ => rfl
    | ⟨1, _⟩ => rfl
    | ⟨2, _⟩ => rfl
  rw [val_main_v180_apply, val_main_v179_apply, val_main_v177_apply, val_main_v178_apply, val_main_cst_14_apply, e, ksum_at]
  rfl

theorem kbr_at (b : Fin 10) (s : Fin 8192) (h : Fin 8) (l : Fin 64) :
    val_main_v181 (F := Ideal) X W C (ix4 b s h l)
      = Ideal.rsqrt ((∑ d : Fin 64, val_main_v174 (F := Ideal) X W C (ix4 b s h d) * val_main_v174 (F := Ideal) X W C (ix4 b s h d)) + Ideal.ofBits .f32 0x358637BD#32) := by
  have e : idx_main_v181 (ix4 b s h l) = ix4 b s h (0 : Fin 1) := by
    funext a
    match a with
    | ⟨0, _⟩ => rfl
    | ⟨1, _⟩ => rfl
    | ⟨2, _⟩ => rfl
    | ⟨3, _⟩ => rfl
  rw [val_main_v181_apply, e, kinv_at]

/-- A head of keys. -/
theorem khead_at (b : Fin 10) (s : Fin 8192) (h : Fin 8) (l : Fin 64) :
    val_main_v182 (F := Ideal) X W C (ix4 b s h l)
      = unit64 (fun x => val_main_v159 (F := Ideal) X W C (ix3 b s ⟨512 + (h.val * 64 + x.val), by omega⟩)) l := by
  rw [val_main_v182_apply, kbr_at]
  unfold unit64
  simp only [piece174_at, Ideal.mulf_def]

theorem flat195_at (i : Fin 81920) (k : Fin 512) :
    val_main_v195 (F := Ideal) X W C (ix2 i k)
      = val_main_v173 (F := Ideal) X W C (ix4 (⟨i.val / 8192, by omega⟩ : Fin 10) (⟨i.val % 8192, by omega⟩ : Fin 8192) (⟨k.val / 64, by omega⟩ : Fin 8) (⟨k.val % 64, by omega⟩ : Fin 64)) := by
  rw [val_main_v195_apply]
  refine congrArg _ (funext fun a => Fin.ext ?_)
  have hi := i.isLt
  have hk := k.isLt
  match a with
  | ⟨0, _⟩ => show (i.val * 512 + k.val) / 4194304 = i.val / 8192; omega
  | ⟨1, _⟩ => show (i.val * 512 + k.val) / 512 % 8192 = i.val % 8192; omega
  | ⟨2, _⟩ => show (i.val * 512 + k.val) / 64 % 8 = k.val / 64; omega
  | ⟨3, _⟩ => show (i.val * 512 + k.val) % 64 = k.val % 64; omega

/-- The third mixer's queries. -/
theorem q_at (i : Fin 81920) (k : Fin 512) :
    val_main_v195 (F := Ideal) X W C (ix2 i k)
      = unit64 (fun x => chan X W C i ⟨k.val / 64 * 64 + x.val, by omega⟩) ⟨k.val % 64, Nat.mod_lt _ (by omega)⟩ * Ideal.ofBits .f32 0x3E000000#32 := by
  rw [flat195_at, qhead_at]
  simp only [chan_row]

theorem flat196_at (i : Fin 81920) (k : Fin 512) :
    val_main_v196 (F := Ideal) X W C (ix2 i k)
      = val_main_v182 (F := Ideal) X W C (ix4 (⟨i.val / 8192, by omega⟩ : Fin 10) (⟨i.val % 8192, by omega⟩ : Fin 8192) (⟨k.val / 64, by omega⟩ : Fin 8) (⟨k.val % 64, by omega⟩ : Fin 64)) := by
  rw [val_main_v196_apply]
  refine congrArg _ (funext fun a => Fin.ext ?_)
  have hi := i.isLt
  have hk := k.isLt
  match a with
  | ⟨0, _⟩ => show (i.val * 512 + k.val) / 4194304 = i.val / 8192; omega
  | ⟨1, _⟩ => show (i.val * 512 + k.val) / 512 % 8192 = i.val % 8192; omega
  | ⟨2, _⟩ => show (i.val * 512 + k.val) / 64 % 8 = k.val / 64; omega
  | ⟨3, _⟩ => show (i.val * 512 + k.val) % 64 = k.val % 64; omega

/-- The third mixer's keys. -/
theorem k_at (i : Fin 81920) (k : Fin 512) :
    val_main_v196 (F := Ideal) X W C (ix2 i k)
      = unit64 (fun x => chan X W C i ⟨512 + (k.val / 64 * 64 + x.val), by omega⟩) ⟨k.val % 64, Nat.mod_lt _ (by omega)⟩ := by
  rw [flat196_at, khead_at]
  simp only [chan_row]

/-- The third mixer's values. -/
theorem v_at (i : Fin 81920) (k : Fin 512) :
    val_main_v197 (F := Ideal) X W C (ix2 i k) = chan X W C i ⟨1024 + k.val, by omega⟩ := by
  rw [← chan_row]
  unfold val_main_v197 val_main_v162
  generalize val_main_v159 (F := Ideal) X W C = Y
  pointwise
  try blk_ext

end Cert.ProjHeads
-- ==== Proof.ProjThird.lean ====
module

public import proofs.«01_k».proof.Proof.ProjPlain
public import proofs.«01_k».proof.Proof.Softmax
public import proofs.«01_k».proof.Proof.ProjHeads

@[expose] public section

set_option maxRecDepth 16384

noncomputable section

open Idealize.ShloMosaic Idealize.ShloMosaic.TcCoe Idealize.SL.Sem
open Idealize.ShloMosaic.Pipeline (Dat)

namespace Cert.ProjIdeal.Third

open Cert.ProjIdeal Cert.ProjIdeal.Gen Cert.ProjIdeal.Reads Cert.ProjIdeal.Plain Cert.ProjRef Cert.ProjTile Cert.ProjRead Cert.ProjConv Cert.ProjHeads
open Cert.MergeBlock (lane)

variable (m : (ℓ : Loc nD τ sig) → Buf (Elt Ideal) ℓ)

/-- The lane within its head. -/
abbrev low (l : Fin 128) : Fin 64 := ⟨l.val % 64, Nat.mod_lt _ (by omega)⟩

/-- A sum of products of reals is a real. -/
theorem dot_real {a b : Fin 1024 → EReal} (ha : ∀ d, ∃ z : ℝ, a d = (z : EReal)) (hb : ∀ d, ∃ z : ℝ, b d = (z : EReal)) :
    ∃ z : ℝ, ∑ d, a d * b d = (z : EReal) := by
  choose x hx using ha
  choose y hy using hb
  refine ⟨∑ d, x d * y d, ?_⟩
  rw [Cert.Softmax.coe_sum]
  exact Finset.sum_congr rfl fun d _ => by rw [hx, hy, EReal.coe_mul]

/-- The convolution's weights. -/
abbrev cwt (c : Dev nD) : FVec Ideal S3x1536 .f32 := m ((c : Thread nD τ).loc main_arg4)

/-- The rows around a point's tokens, as the body holds them. -/
abbrev rows (c : Dev nD) (t : Fin cfg0.N) : Fin 544 → Fin 1024 → EReal :=
  fun a d => around (grid0.coords t) (iblk m c 0 t) (iblk m c 1 t) (iblk m c 2 t) (ix2 a d)

/-- A row among the sixteen before a point's: zeros before a sequence, else the row before. -/
theorem rows_before (c : Dev nD) (t : Fin cfg0.N) (d : Fin 1024) :
    rows m c t ⟨15, by omega⟩ d = if h : t.val % 16 = 0 then 0 else tok m c (ix2 ⟨t.val * 512 - 1, by have : t.val < 160 := t.isLt; omega⟩ d) := by
  have hN : t.val < 160 := t.isLt
  refine (around_at _ _ _ _ ⟨15, by omega⟩ d).trans ?_
  rw [dif_pos (show (15 : ℕ) < 16 by decide), coord]
  by_cases h : t.val % 16 = 0
  · rw [if_pos h, dif_pos h]
  · rw [if_neg h, dif_neg h]
    exact read_before m c t ⟨15, by omega⟩ d _ (by dsimp only; omega)

/-- A row among a point's own. -/
theorem rows_own (c : Dev nD) (t : Fin cfg0.N) (a : Fin 544) (d : Fin 1024) (r : Fin 512) (h : a.val = 16 + r.val) (i : Fin 81920)
    (hi : i.val = t.val * 512 + r.val) : rows m c t a d = tok m c (ix2 i d) := by
  have hr := r.isLt
  refine (around_at _ _ _ _ a d).trans ?_
  rw [dif_neg (by omega), dif_pos (by omega)]
  refine (read_x m c t ⟨a.val - 16, by omega⟩ d).trans ?_
  exact congrArg (fun i => tok m c (ix2 i d)) (Fin.ext (by dsimp only; omega))

/-- The first of the sixteen rows after a point's: zeros after a sequence, else the row after. -/
theorem rows_after (c : Dev nD) (t : Fin cfg0.N) (d : Fin 1024) :
    rows m c t ⟨528, by omega⟩ d = if h : t.val % 16 = 15 then 0 else tok m c (ix2 ⟨t.val * 512 + 512, by have : t.val < 160 := t.isLt; omega⟩ d) := by
  have hN : t.val < 160 := t.isLt
  refine (around_at _ _ _ _ ⟨528, by omega⟩ d).trans ?_
  rw [dif_neg (show ¬ (528 : ℕ) < 16 by decide), dif_neg (show ¬ (528 : ℕ) < 528 by decide), coord]
  by_cases h : t.val % 16 = 15
  · rw [if_pos h, dif_pos h]
  · rw [if_neg h, dif_neg h]
    exact read_after m c t ⟨0, by omega⟩ d _ (by dsimp only; omega)

/-- A sum of products with zeros. -/
theorem dot_zero (b : Fin 1024 → EReal) (a : Fin 1024 → EReal) (ha : ∀ d, a d = 0) : ∑ d, a d * b d = 0 :=
  Finset.sum_eq_zero fun d _ => by rw [ha, zero_mul]

/-- A channel as the body computes it is the reference's. -/
theorem channel_eq (c : Dev nD) (t : Fin cfg0.N) (r : Fin 512) (n : Fin 1536) (i : Fin 81920) (hi : i.val = t.val * 512 + r.val) :
    channel (rows m c t) (fun d n => iblk m c 7 t (ix2 d n)) (fun j n => iblk m c 12 t (ix2 j n)) r n = chan (tok m c) (wts m c) (cwt m c) i n := by
  have hN : t.val < 160 := t.isLt
  have hr := r.isLt
  have hw := fun d => read_wc m c t d n
  unfold channel chan
  have e0 : (∑ d, rows m c t ⟨15 + r.val, by omega⟩ d * iblk m c 7 t (ix2 d n))
      = if h : i.val % 8192 = 0 then 0 else proj (tok m c) (wts m c) ⟨i.val - 1, by omega⟩ ⟨2304 + n.val, by omega⟩ := by
    by_cases h0 : r.val = 0
    · have ea : (⟨15 + r.val, by omega⟩ : Fin 544) = ⟨15, by omega⟩ := Fin.ext (by dsimp only; omega)
      rw [ea]
      by_cases h : t.val % 16 = 0
      · rw [dif_pos (by omega)]
        exact dot_zero _ _ fun d => by rw [rows_before, dif_pos h]
      · rw [dif_neg (by omega)]
        refine dot_congr (fun d => ?_) hw
        rw [rows_before, dif_neg h]
        exact congrArg (fun i => tok m c (ix2 i d)) (Fin.ext (by dsimp only; omega))
    · rw [dif_neg (by omega)]
      exact dot_congr (fun d => rows_own m c t _ d ⟨r.val - 1, by omega⟩ (by dsimp only; omega) _ (by dsimp only; omega)) hw
  have e1 : (∑ d, rows m c t ⟨16 + r.val, by omega⟩ d * iblk m c 7 t (ix2 d n))
      = proj (tok m c) (wts m c) i ⟨2304 + n.val, by omega⟩ :=
    dot_congr (fun d => rows_own m c t _ d r rfl i hi) hw
  have e2 : (∑ d, rows m c t ⟨17 + r.val, by omega⟩ d * iblk m c 7 t (ix2 d n))
      = if h : i.val % 8192 = 8191 then 0 else proj (tok m c) (wts m c) ⟨i.val + 1, by omega⟩ ⟨2304 + n.val, by omega⟩ := by
    by_cases h0 : r.val = 511
    · have ea : (⟨17 + r.val, by omega⟩ : Fin 544) = ⟨528, by omega⟩ := Fin.ext (by dsimp only; omega)
      rw [ea]
      by_cases h : t.val % 16 = 15
      · rw [dif_pos (by omega)]
        exact dot_zero _ _ fun d => by rw [rows_after, dif_pos h]
      · rw [dif_neg (by omega)]
        refine dot_congr (fun d => ?_) hw
        rw [rows_after, dif_neg h]
        exact congrArg (fun i => tok m c (ix2 i d)) (Fin.ext (by dsimp only; omega))
    · rw [dif_neg (by omega)]
      exact dot_congr (fun d => rows_own m c t _ d ⟨r.val + 1, by omega⟩ (by dsimp only; omega) _ (by dsimp only; omega)) hw
  rw [e0, e1, e2]
  beta_reduce
  rw [read_cw, read_cw, read_cw]

/-- A channel is a real. -/
theorem chan_real (X : FVec Ideal S81920x1024 .f32) (W : FVec Ideal S1024x4384 .f32) (C : FVec Ideal S3x1536 .f32)
    (hX : ∀ i, ∃ z : ℝ, X i = (z : EReal)) (hW : ∀ i, ∃ z : ℝ, W i = (z : EReal)) (hC : ∀ i, ∃ z : ℝ, C i = (z : EReal))
    (i : Fin 81920) (n : Fin 1536) : ∃ z : ℝ, chan X W C i n = (z : EReal) := by
  have hp : ∀ i n, ∃ z : ℝ, proj X W i n = (z : EReal) := fun i n => dot_real (fun d => hX _) fun d => hW _
  have key : ∀ a b c u v w : EReal, (∃ z : ℝ, a = z) → (∃ z : ℝ, b = z) → (∃ z : ℝ, c = z) → (∃ z : ℝ, u = z) → (∃ z : ℝ, v = z) → (∃ z : ℝ, w = z) →
      ∃ z : ℝ, silu (conv3 a b c u v w) = (z : EReal) := by
    rintro _ _ _ _ _ _ ⟨a, rfl⟩ ⟨b, rfl⟩ ⟨c, rfl⟩ ⟨u, rfl⟩ ⟨v, rfl⟩ ⟨w, rfl⟩
    have e : conv3 (a : EReal) b c u v w = ((a * u + b * v + c * w : ℝ) : EReal) := by
      unfold conv3
      push_cast
      rfl
    refine ⟨(a * u + b * v + c * w) * (1 + Real.exp (-(a * u + b * v + c * w)))⁻¹, ?_⟩
    unfold silu
    rw [e, Ideal.logistic_coe, ← EReal.coe_mul]
  refine key _ _ _ _ _ _ ?_ (hp _ _) ?_ (hC _) (hC _) (hC _)
  · split_ifs
    · exact ⟨0, rfl⟩
    · exact hp _ _
  · split_ifs
    · exact ⟨0, rfl⟩
    · exact hp _ _

/-- The body's channels are reals. -/
theorem channel_real (c : Dev nD) (t : Fin cfg0.N) (hX : ∀ i, ∃ z : ℝ, tok m c i = (z : EReal)) (hW : ∀ i, ∃ z : ℝ, wts m c i = (z : EReal))
    (hC : ∀ i, ∃ z : ℝ, cwt m c i = (z : EReal)) (r : Fin 512) (n : Fin 1536) :
    ∃ z : ℝ, channel (rows m c t) (fun d n => iblk m c 7 t (ix2 d n)) (fun j n => iblk m c 12 t (ix2 j n)) r n = (z : EReal) := by
  have hN : t.val < 160 := t.isLt
  rw [channel_eq m c t r n ⟨t.val * 512 + r.val, by omega⟩ rfl]
  exact chan_real _ _ _ hX hW hC _ _

/-- A head of 64 lanes within 128, divided by its length. -/
theorem united_eq (y : Fin 128 → EReal) (y' : Fin 64 → EReal) (l : Fin 128) (hy : ∀ x : Fin 128, x.val / 64 = l.val / 64 → y x = y' (low x)) :
    united y l = unit64 y' (low l) := by
  unfold united unit64
  have e : ∀ d : Fin 64, y (lane l d) = y' d := fun d => by
    have hv : (lane l d).val = l.val / 64 * 64 + d.val := rfl
    rw [hy _ (by rw [hv]; omega)]
    exact congrArg y' (Fin.ext (by dsimp only; rw [hv]; omega))
  rw [hy l rfl]
  simp only [e]

/-- The third mixer's queries. -/
theorem final20 (c : Dev nD) (hX : ∀ i, ∃ z : ℝ, tok m c i = (z : EReal)) (hW : ∀ i, ∃ z : ℝ, wts m c i = (z : EReal))
    (hC : ∀ i, ∃ z : ℝ, cwt m c i = (z : EReal)) :
    (dats m 0 c).arrAt 20 (cfgs 0).N = Cert.ProjRefIdeal.Read.val_main_v195 (F := Ideal) (tok m c) (wts m c) (cwt m c) := by
  refine (dats m 0 c).arrAt_eq_of_covers 20 _ (by decide +kernel) fun t _ y => ?_
  blk_simp
  rw [after0_20]
  unfold outsAt0
  dsimp only
  have hN : t.val < 160 := t.isLt
  obtain ⟨r, n, rfl⟩ : ∃ (r : Fin 512) (n : Fin 512), y = ix2 r n := ⟨y 0, y 1, by idx_ext⟩
  have he : ((View.whole main_v79_6).slice (win0_20.rect t)).emb (ix2 r n)
      = (ix2 (⟨t.val * 512 + r.val, by omega⟩ : Fin 81920) n : S81920x512.Idx) := by
    blk_ext [odx t]
  rw [he]
  refine (ProjRead.out20_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n fun r n => channel_real m c t hX hW hC r n).trans (Eq.trans ?_ (q_at (tok m c) (wts m c) (cwt m c) _ n).symm)
  refine congrArg (fun z => z * Ideal.ofBits .f32 0x3E000000#32) ?_
  have hl : low (⟨n.val % 128, Nat.mod_lt _ (by omega)⟩ : Fin 128) = ⟨n.val % 64, Nat.mod_lt _ (by omega)⟩ := Fin.ext (by show n.val % 128 % 64 = n.val % 64; omega)
  rw [← hl]
  refine united_eq _ _ _ fun x hx => ?_
  have hx' : x.val / 64 = n.val % 128 / 64 := hx
  refine (channel_eq m c t r _ ⟨t.val * 512 + r.val, by omega⟩ rfl).trans ?_
  exact congrArg (fun k => chan (tok m c) (wts m c) (cwt m c) _ k) (Fin.ext (by dsimp only [low]; omega))

/-- The third mixer's keys. -/
theorem final21 (c : Dev nD) (hX : ∀ i, ∃ z : ℝ, tok m c i = (z : EReal)) (hW : ∀ i, ∃ z : ℝ, wts m c i = (z : EReal))
    (hC : ∀ i, ∃ z : ℝ, cwt m c i = (z : EReal)) :
    (dats m 0 c).arrAt 21 (cfgs 0).N = Cert.ProjRefIdeal.Read.val_main_v196 (F := Ideal) (tok m c) (wts m c) (cwt m c) := by
  refine (dats m 0 c).arrAt_eq_of_covers 21 _ (by decide +kernel) fun t _ y => ?_
  blk_simp
  rw [after0_21]
  unfold outsAt0
  dsimp only
  have hN : t.val < 160 := t.isLt
  obtain ⟨r, n, rfl⟩ : ∃ (r : Fin 512) (n : Fin 512), y = ix2 r n := ⟨y 0, y 1, by idx_ext⟩
  have he : ((View.whole main_v79_7).slice (win0_21.rect t)).emb (ix2 r n)
      = (ix2 (⟨t.val * 512 + r.val, by omega⟩ : Fin 81920) n : S81920x512.Idx) := by
    blk_ext [odx t]
  rw [he]
  refine (ProjRead.out21_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n fun r n => channel_real m c t hX hW hC r n).trans (Eq.trans ?_ (k_at (tok m c) (wts m c) (cwt m c) _ n).symm)
  have hl : low (⟨n.val % 128, Nat.mod_lt _ (by omega)⟩ : Fin 128) = ⟨n.val % 64, Nat.mod_lt _ (by omega)⟩ := Fin.ext (by show n.val % 128 % 64 = n.val % 64; omega)
  rw [← hl]
  refine united_eq _ _ _ fun x hx => ?_
  have hx' : x.val / 64 = n.val % 128 / 64 := hx
  refine (channel_eq m c t r _ ⟨t.val * 512 + r.val, by omega⟩ rfl).trans ?_
  exact congrArg (fun k => chan (tok m c) (wts m c) (cwt m c) _ k) (Fin.ext (by dsimp only [low]; omega))

/-- The third mixer's values. -/
theorem final22 (c : Dev nD) (hX : ∀ i, ∃ z : ℝ, tok m c i = (z : EReal)) (hW : ∀ i, ∃ z : ℝ, wts m c i = (z : EReal))
    (hC : ∀ i, ∃ z : ℝ, cwt m c i = (z : EReal)) :
    (dats m 0 c).arrAt 22 (cfgs 0).N = Cert.ProjRefIdeal.Read.val_main_v197 (F := Ideal) (tok m c) (wts m c) (cwt m c) := by
  refine (dats m 0 c).arrAt_eq_of_covers 22 _ (by decide +kernel) fun t _ y => ?_
  blk_simp
  rw [after0_22]
  unfold outsAt0
  dsimp only
  have hN : t.val < 160 := t.isLt
  obtain ⟨r, n, rfl⟩ : ∃ (r : Fin 512) (n : Fin 512), y = ix2 r n := ⟨y 0, y 1, by idx_ext⟩
  have he : ((View.whole main_v79_8).slice (win0_22.rect t)).emb (ix2 r n)
      = (ix2 (⟨t.val * 512 + r.val, by omega⟩ : Fin 81920) n : S81920x512.Idx) := by
    blk_ext [odx t]
  rw [he]
  refine (ProjRead.out22_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r n).trans (Eq.trans ?_ (v_at (tok m c) (wts m c) (cwt m c) _ n).symm)
  exact channel_eq m c t r _ ⟨t.val * 512 + r.val, by omega⟩ rfl

end Cert.ProjIdeal.Third
-- ==== Proof.ProjFinite.lean ====
module

public import proofs.«01_k».proof.Proof.Gen.Pre_proj_finite
public import proofs.«01_k».proof.Proof.Finite
public import Idealize.ShloMosaic.Lib.Pointwise
public import Idealize.ShloMosaic.Lib.ReduceAll

@[expose] public section

noncomputable section

open Idealize.ShloMosaic

namespace Cert.Finite

/-- The projections' precondition, read: every element of the tokens, of the weights and of the convolution's weights is a
    real. -/
theorem proj_real (x : FVec Ideal Pre_proj_finite.S81920x1024 .f32) (w : FVec Ideal Pre_proj_finite.S1024x4384 .f32)
    (a2 a3 : FVec Ideal Pre_proj_finite.S64 .f32) (cw : FVec Ideal Pre_proj_finite.S3x1536 .f32) (a5 a6 : FVec Ideal Pre_proj_finite.S2x8 .f32)
    (h : Pre_proj_finite.fn (F := Ideal) x w a2 a3 cw a5 a6 = fun _ => 1#1) :
    (∀ i, ∃ r : ℝ, x i = (r : EReal)) ∧ (∀ i, ∃ r : ℝ, w i = (r : EReal)) ∧ ∀ i, ∃ r : ℝ, cw i = (r : EReal) := by
  haveI : Subsingleton Pre_proj_finite.S_.Idx := sub0 _ rfl
  have h0 := congrFun h (fun a => a.elim0)
  unfold Pre_proj_finite.fn at h0
  have h1 := IntOp.andi_eq_one.1 h0
  have h2 := IntOp.andi_eq_one.1 h1.1
  exact ⟨fun i => real_of_cmp _ _ (fun _ => Softmax.ofBits_top) i (Host.reduce_andi_all _ _ _ _ _ h2.1 i),
    fun i => real_of_cmp _ _ (fun _ => Softmax.ofBits_top) i (Host.reduce_andi_all _ _ _ _ _ h2.2 i),
    fun i => real_of_cmp _ _ (fun _ => Softmax.ofBits_top) i (Host.reduce_andi_all _ _ _ _ _ h1.2 i)⟩

end Cert.Finite
-- ==== Proof.ProjClaims.lean ====
module

public import proofs.«01_k».proof.Defs
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Pre_proj_finite
public import proofs.«01_k».proof.Proof.ProjPlain
public import proofs.«01_k».proof.Proof.ProjTurn
public import proofs.«01_k».proof.Proof.ProjThird
public import proofs.«01_k».proof.Proof.ProjFinite
public import Idealize.ShloMosaic.Adequacy
public import Idealize.ShloMosaic.Init
public import Idealize.ShloMosaic.Lib.Quiescent

@[expose] public section

noncomputable section

open Idealize.ShloMosaic Idealize.ShloMosaic.TcCoe Idealize.SL.Sem

namespace Cert.ProjClaims

/-- The projections: the launched program ends, leaves its arguments unchanged and every semaphore at zero. -/
theorem frame : Cert.quiescent_Proj := fun m ρ _ => Cert.Proj.Gen.frame m ρ

/-- The same of the program at extended reals. -/
theorem frame_ideal : Cert.quiescent_ProjIdeal := fun m ρ _ => Cert.ProjIdeal.Gen.frame m ρ

/-- The same from the memories that the precondition allows. -/
theorem frame_ideal_pre : Cert.quiescent_ProjIdeal_pre_proj_finite := fun m ρ _ => Cert.ProjIdeal.Gen.frame m ρ

/-- The reference's run ends, leaves its arguments unchanged and every semaphore at zero. -/
theorem frame_ref : Cert.quiescent_ProjRefIdeal := fun m ρ _ =>
  (θ_run Cert.ProjRefIdeal.defs _ _).mono (fun r h => ⟨fun c => ⟨(h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2⟩,
      Idealize.ShloMosaic.sem_eq_zero_of_no_sems (by decide) r.2⟩)
    (Cert.ProjRefIdeal.Value.run (F := Ideal) m ρ)

/-- The same from the memories that the precondition allows. -/
theorem frame_ref_pre : Cert.quiescent_ProjRefIdeal_pre_proj_finite := fun m ρ _ =>
  (θ_run Cert.ProjRefIdeal.defs _ _).mono (fun r h => ⟨fun c => ⟨(h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2⟩,
      Idealize.ShloMosaic.sem_eq_zero_of_no_sems (by decide) r.2⟩)
    (Cert.ProjRefIdeal.Value.run (F := Ideal) m ρ)

/-- The program at extended reals is the printed one, nothing rewritten. -/
theorem preserves : Cert.preserves_Proj_ProjIdeal := trivial

/-- The projections: at extended reals the kernel's result arrays and the reference's end equal, from arguments that agree. -/
theorem algebraic : Cert.algebraic_ProjIdeal_ProjRefIdeal_pre_proj_finite := by
  intro m ρ m' ρ' hpre hagree
  refine ⟨fun c => Cert.ProjRefIdeal.Read.val_main_v184 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjRefIdeal.Read.val_main_v185 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg3)), fun c => Cert.ProjRefIdeal.Read.val_main_v187 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)), fun c => Cert.ProjRefIdeal.Read.val_main_v191 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)), fun c => Cert.ProjRefIdeal.Read.val_main_v192 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)), fun c => Cert.ProjRefIdeal.Read.val_main_v194 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)), fun c => Cert.ProjRefIdeal.Read.val_main_v195 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg4)), fun c => Cert.ProjRefIdeal.Read.val_main_v196 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg4)), fun c => Cert.ProjRefIdeal.Read.val_main_v197 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg4)), fun c => Cert.ProjRefIdeal.Read.val_main_v198 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)), ?_, ?_⟩
  · refine (θ_run Cert.ProjIdeal.defs _ _).mono (fun r h c => ?_) (Cert.ProjIdeal.Value.run_blocks (F := Ideal) m ρ)
    obtain ⟨hX, hW, hC⟩ := Finite.proj_real _ _ _ _ _ _ _ (hpre c)
    obtain ⟨e14, e15, e16, e17, e18, e19, e20, e21, e22, e23, e24, kept⟩ := h c
    exact ⟨e14.trans (Cert.ProjIdeal.Turn.final14 m c hX hW), e15.trans (Cert.ProjIdeal.Turn.final15 m c hX hW),
      e16.trans (Cert.ProjIdeal.Plain.final16 m c), e17.trans (Cert.ProjIdeal.Plain.final17 m c),
      e18.trans (Cert.ProjIdeal.Plain.final18 m c), e19.trans (Cert.ProjIdeal.Plain.final19 m c),
      e20.trans (Cert.ProjIdeal.Third.final20 m c hX hW hC), e21.trans (Cert.ProjIdeal.Third.final21 m c hX hW hC),
      e22.trans (Cert.ProjIdeal.Third.final22 m c hX hW hC), e23.trans (Cert.ProjIdeal.Plain.final23 m c), kept⟩
  · refine (θ_run Cert.ProjRefIdeal.defs _ _).mono (fun r h c => ?_) (Cert.ProjRefIdeal.Value.run (F := Ideal) m' ρ')
    obtain ⟨a0, a1, a2, a3, a4, a5, a6⟩ := hagree c
    obtain ⟨e184, e185, e187, e191, e192, e194, e195, e196, e197, e198, kept⟩ := h c
    refine ⟨e184.trans ?_, e185.trans ?_, e187.trans ?_, e191.trans ?_, e192.trans ?_, e194.trans ?_, e195.trans ?_, e196.trans ?_, e197.trans ?_, e198.trans ?_, kept⟩
    · rw [Cert.ProjRefIdeal.Read.val_main_v184_eq]
      exact congr (congr (congrArg (Cert.ProjRefIdeal.Read.val_main_v184 (F := Ideal)) a0) a1) a2
    · rw [Cert.ProjRefIdeal.Read.val_main_v185_eq]
      exact congr (congr (congrArg (Cert.ProjRefIdeal.Read.val_main_v185 (F := Ideal)) a0) a1) a3
    · rw [Cert.ProjRefIdeal.Read.val_main_v187_eq]
      exact congr (congrArg (Cert.ProjRefIdeal.Read.val_main_v187 (F := Ideal)) a0) a1
    · rw [Cert.ProjRefIdeal.Read.val_main_v191_eq]
      exact congr (congrArg (Cert.ProjRefIdeal.Read.val_main_v191 (F := Ideal)) a0) a1
    · rw [Cert.ProjRefIdeal.Read.val_main_v192_eq]
      exact congr (congrArg (Cert.ProjRefIdeal.Read.val_main_v192 (F := Ideal)) a0) a1
    · rw [Cert.ProjRefIdeal.Read.val_main_v194_eq]
      exact congr (congrArg (Cert.ProjRefIdeal.Read.val_main_v194 (F := Ideal)) a0) a1
    · rw [Cert.ProjRefIdeal.Read.val_main_v195_eq]
      exact congr (congr (congrArg (Cert.ProjRefIdeal.Read.val_main_v195 (F := Ideal)) a0) a1) a4
    · rw [Cert.ProjRefIdeal.Read.val_main_v196_eq]
      exact congr (congr (congrArg (Cert.ProjRefIdeal.Read.val_main_v196 (F := Ideal)) a0) a1) a4
    · rw [Cert.ProjRefIdeal.Read.val_main_v197_eq]
      exact congr (congr (congrArg (Cert.ProjRefIdeal.Read.val_main_v197 (F := Ideal)) a0) a1) a4
    · rw [Cert.ProjRefIdeal.Read.val_main_v198_eq]
      exact congr (congrArg (Cert.ProjRefIdeal.Read.val_main_v198 (F := Ideal)) a0) a1

end Cert.ProjClaims
-- ==== Proof.lean ====
module

public import proofs.«01_k».proof.Defs
public import proofs.«01_k».proof.Proof.GqaClaims
public import proofs.«01_k».proof.Proof.FfnClaims
public import proofs.«01_k».proof.Proof.MergeClaims
public import proofs.«01_k».proof.Proof.ProjClaims

@[expose] public section

noncomputable section

-- Each claim is proved in the module of its call; this file puts them together.

namespace Cert.Proof

open Idealize.ShloMosaic

/-- Every claim of the certificate: for the attention, the channel mixer, the merge and the projections the frames, and that kernel and
    reference compute the same function at extended reals. -/
theorem claim : Cert.Claim := ⟨Cert.Gqa.Gen.facts, Cert.GqaIdeal.Gen.facts, Cert.GqaRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.Pre_scores_finite.Gen.facts, Cert.Pre_rule_finite.Gen.facts, Cert.Pre_proj_finite.Gen.facts,
  GqaClaims.frame, GqaClaims.frame_ideal, GqaClaims.frame_ideal_pre, GqaClaims.frame_ref, GqaClaims.frame_ref_pre, FfnClaims.frame, FfnClaims.frame_ideal, FfnClaims.frame_ref, MergeClaims.frame, MergeClaims.frame_ideal, MergeClaims.frame_ideal_pre, MergeClaims.frame_ref, MergeClaims.frame_ref_pre,
  ProjClaims.frame, ProjClaims.frame_ideal, ProjClaims.frame_ideal_pre, ProjClaims.frame_ref, ProjClaims.frame_ref_pre,
  GqaClaims.preserves, GqaClaims.algebraic, FfnClaims.preserves, FfnClaims.algebraic, MergeClaims.preserves, MergeClaims.algebraic,
  ProjClaims.preserves, ProjClaims.algebraic⟩

end Cert.Proof
